-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v38)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v36_0)) (v1 : (c : Dev Cert.Kernel6Ideal.nD) → Buf (Elt Ideal) ((c.tc : Thread Cert.Kernel6Ideal.nD Cert.Kernel6Ideal.τ).loc Cert.Kernel6Ideal.main_v36_1)) (v2 : (c : Dev Cert.Kernel6Ideal.nD) → Buf (Elt Ideal) ((c.tc : Thread Cert.Kernel6Ideal.nD Cert.Kernel6Ideal.τ).loc Cert.Kernel6Ideal.main_v36_2)) (v3 : (c : Dev Cert.Kernel6Ideal.nD) → Buf (Elt Ideal) ((c.tc : Thread Cert.Kernel6Ideal.nD Cert.Kernel6Ideal.τ).loc Cert.Kernel6Ideal.main_v36_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36_0) = v0 c
          ∧ r.2.mem ((c.tc : Thread Cert.Kernel6Ideal.nD Cert.Kernel6Ideal.τ).loc Cert.Kernel6Ideal.main_v36_1) = v1 c
          ∧ r.2.mem ((c.tc : Thread Cert.Kernel6Ideal.nD Cert.Kernel6Ideal.τ).loc Cert.Kernel6Ideal.main_v36_2) = v2 c
          ∧ r.2.mem ((c.tc : Thread Cert.Kernel6Ideal.nD Cert.Kernel6Ideal.τ).loc Cert.Kernel6Ideal.main_v36_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S69632x1024 : Shape := ⟨2, ![69632, 1024]⟩
abbrev S8x128 : Shape := ⟨2, ![8, 128]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S1x8 : Shape := ⟨2, ![1, 8]⟩
abbrev S8 : Shape := ⟨1, ![8]⟩
abbrev S_ : Shape := ⟨0, ![]⟩
abbrev S136 : Shape := ⟨1, ![136]⟩
abbrev S136x1 : Shape := ⟨2, ![136, 1]⟩
abbrev S136x8 : Shape := ⟨2, ![136, 8]⟩
abbrev S1 : Shape := ⟨1, ![1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 60
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x128, .f32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S8x1024x3584, .f32⟩
  | .hbm, ⟨6, _⟩ => ⟨S8x1024x3584, .bf16⟩
  | .hbm, ⟨7, _⟩ => ⟨S8x1024x3584, .f32⟩
  | .hbm, ⟨8, _⟩ => ⟨S8x1024x3584, .bf16⟩
  | .hbm, ⟨9, _⟩ => ⟨S8x3584x1024, .f32⟩
  | .hbm, ⟨10, _⟩ => ⟨S8x3584x1024, .bf16⟩
  | .hbm, ⟨11, _⟩ => ⟨S1x8, .f32⟩
  | .hbm, ⟨12, _⟩ => ⟨S8, .f32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S_, .i32⟩
  | .hbm, ⟨40, _⟩ => ⟨S8, .i32⟩
  | .hbm, ⟨41, _⟩ => ⟨S136, .i32⟩
  | .hbm, ⟨42, _⟩ => ⟨S_, .i32⟩
  | .hbm, ⟨43, _⟩ => ⟨S136, .i32⟩
  | .hbm, ⟨44, _⟩ => ⟨S136, .i32⟩
  | .hbm, ⟨45, _⟩ => ⟨S136x1, .i32⟩
  | .hbm, ⟨46, _⟩ => ⟨S1x8, .i32⟩
  | .hbm, ⟨47, _⟩ => ⟨S136x8, .i32⟩
  | .hbm, ⟨48, _⟩ => ⟨S136x8, .i32⟩
  | .hbm, ⟨49, _⟩ => ⟨S136x8, .i1⟩
  | .hbm, ⟨50, _⟩ => ⟨S136x8, .i32⟩
  | .hbm, ⟨51, _⟩ => ⟨S_, .i32⟩
  | .hbm, ⟨52, _⟩ => ⟨S136, .i32⟩
  | .hbm, ⟨53, _⟩ => ⟨S_, .i32⟩
  | .hbm, ⟨54, _⟩ => ⟨S136, .i32⟩
  | .hbm, ⟨55, _⟩ => ⟨S1, .i32⟩
  | .hbm, ⟨56, _⟩ => ⟨S_, .i32⟩
  | .hbm, ⟨57, _⟩ => ⟨S136, .i32⟩
  | .hbm, ⟨58, _⟩ => ⟨S136, .i1⟩
  | .hbm, ⟨59, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S136, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_call1_call0_c : Ref sig .tc := ⟨.hbm, 38, rfl⟩
abbrev main_call1_call0_v0 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v32 : Ref sig .tc := ⟨.hbm, 59, rfl⟩
abbrev main_v26 : Ref sig .tc := ⟨.smem, 0, rfl⟩
abbrev main_v31 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v26.idx, main_v31.idx], fun | 0 => main_v26.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S69632x1024 : Shape := ⟨2, ![69632, 1024]⟩
abbrev S8x128 : Shape := ⟨2, ![8, 128]⟩
abbrev S1x8x1024x3584 : Shape := ⟨4, ![1, 8, 1024, 3584]⟩
abbrev S1x8x3584x1024 : Shape := ⟨4, ![1, 8, 3584, 1024]⟩
abbrev S1x8 : Shape := ⟨2, ![1, 8]⟩
abbrev S8 : Shape := ⟨1, ![8]⟩
abbrev S_ : Shape := ⟨0, ![]⟩
abbrev S69632 : Shape := ⟨1, ![69632]⟩
abbrev S69632x1 : Shape := ⟨2, ![69632, 1]⟩
abbrev S69632x8 : Shape := ⟨2, ![69632, 8]⟩
abbrev S1 : Shape := ⟨1, ![1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S69632x3584 : Shape := ⟨2, ![69632, 3584]⟩

abbrev nBuf : Space → Nat
  | .hbm => 248
  | .vmem => 0
  | .smem => 0
  | _ => 0

abbrev hbmTy0_0 (i : Nat) : BufTy := match i % 128 with
  | 0 => ⟨S69632x1024, .f32⟩
  | 1 => ⟨S8x128, .f32⟩
  | 2 => ⟨S1x8x1024x3584, .f32⟩
  | 3 => ⟨S1x8x1024x3584, .f32⟩
  | 4 => ⟨S1x8x3584x1024, .f32⟩
  | 5 => ⟨S1x8, .f32⟩
  | 6 => ⟨S8, .f32⟩
  | 7 => ⟨S8, .i32⟩
  | 8 => ⟨S_, .i32⟩
  | 9 => ⟨S8, .i32⟩
  | 10 => ⟨S8, .i32⟩
  | 11 => ⟨S_, .i32⟩
  | 12 => ⟨S_, .i32⟩
  | 13 => ⟨S8, .i32⟩
  | 14 => ⟨S8, .i32⟩
  | 15 => ⟨S8, .i32⟩
  | 16 => ⟨S_, .i32⟩
  | 17 => ⟨S8, .i32⟩
  | 18 => ⟨S8, .i1⟩
  | 19 => ⟨S8, .i32⟩
  | 20 => ⟨S8, .i32⟩
  | 21 => ⟨S_, .i32⟩
  | 22 => ⟨S8, .i32⟩
  | 23 => ⟨S8, .i1⟩
  | 24 => ⟨S8, .i1⟩
  | 25 => ⟨S_, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S69632, .i32⟩
  | 36 => ⟨S69632x1, .i32⟩
  | 37 => ⟨S1x8, .i32⟩
  | 38 => ⟨S69632x8, .i32⟩
  | 39 => ⟨S69632x8, .i32⟩
  | 40 => ⟨S69632x8, .i1⟩
  | 41 => ⟨S69632x8, .i32⟩
  | 42 => ⟨S_, .i32⟩
  | 43 => ⟨S69632, .i32⟩
  | 44 => ⟨S_, .i32⟩
  | 45 => ⟨S69632, .i32⟩
  | 46 => ⟨S69632, .i32⟩
  | 47 => ⟨S69632x1, .i32⟩
  | 48 => ⟨S1x8, .i32⟩
  | 49 => ⟨S69632x8, .i32⟩
  | 50 => ⟨S69632x8, .i32⟩
  | 51 => ⟨S69632x8, .i1⟩
  | 52 => ⟨S69632x8, .f32⟩
  | 53 => ⟨S1, .i32⟩
  | 54 => ⟨S_, .i32⟩
  | 55 => ⟨S69632, .i32⟩
  | 56 => ⟨S69632, .i1⟩
  | 57 => ⟨S69632, .i32⟩
  | 58 => ⟨S69632, .f32⟩
  | 59 => ⟨S69632x1, .f32⟩
  | 60 => ⟨S69632x8, .f32⟩
  | 61 => ⟨S69632x8, .f32⟩
  | 62 => ⟨S_, .f32⟩
  | 63 => ⟨S69632x1024, .f32⟩
  | 64 => ⟨S69632x1, .f32⟩
  | 65 => ⟨S1x1x1024x3584, .f32⟩
  | 66 => ⟨S1024x3584, .f32⟩
  | 67 => ⟨S1x1x1024x3584, .f32⟩
  | 68 => ⟨S1024x3584, .f32⟩
  | 69 => ⟨S1x1x3584x1024, .f32⟩
  | 70 => ⟨S3584x1024, .f32⟩
  | 71 => ⟨S69632x3584, .f32⟩
  | 72 => ⟨S69632x3584, .f32⟩
  | 73 => ⟨S69632x3584, .f32⟩
  | 74 => ⟨S_, .f32⟩
  | 75 => ⟨S69632x3584, .f32⟩
  | 76 => ⟨S69632x3584, .f32⟩
  | 77 => ⟨S_, .f32⟩
  | 78 => ⟨S69632x3584, .f32⟩
  | 79 => ⟨S69632x3584, .f32⟩
  | 80 => ⟨S69632x3584, .f32⟩
  | 81 => ⟨S69632x3584, .f32⟩
  | 82 => ⟨S69632x3584, .f32⟩
  | 83 => ⟨S69632x1024, .f32⟩
  | 84 => ⟨S69632x1024, .f32⟩
  | 85 => ⟨S69632x1024, .f32⟩
  | 86 => ⟨S69632x1024, .f32⟩
  | 87 => ⟨S69632x1, .f32⟩
  | 88 => ⟨S1x1x1024x3584, .f32⟩
  | 89 => ⟨S1024x3584, .f32⟩
  | 90 => ⟨S1x1x1024x3584, .f32⟩
  | 91 => ⟨S1024x3584, .f32⟩
  | 92 => ⟨S1x1x3584x1024, .f32⟩
  | 93 => ⟨S3584x1024, .f32⟩
  | 94 => ⟨S69632x3584, .f32⟩
  | 95 => ⟨S69632x3584, .f32⟩
  | 96 => ⟨S69632x3584, .f32⟩
  | 97 => ⟨S_, .f32⟩
  | 98 => ⟨S69632x3584, .f32⟩
  | 99 => ⟨S69632x3584, .f32⟩
  | 100 => ⟨S_, .f32⟩
  | 101 => ⟨S69632x3584, .f32⟩
  | 102 => ⟨S69632x3584, .f32⟩
  | 103 => ⟨S69632x3584, .f32⟩
  | 104 => ⟨S69632x3584, .f32⟩
  | 105 => ⟨S69632x3584, .f32⟩
  | 106 => ⟨S69632x1024, .f32⟩
  | 107 => ⟨S69632x1024, .f32⟩
  | 108 => ⟨S69632x1024, .f32⟩
  | 109 => ⟨S69632x1024, .f32⟩
  | 110 => ⟨S69632x1, .f32⟩
  | 111 => ⟨S1x1x1024x3584, .f32⟩
  | 112 => ⟨S1024x3584, .f32⟩
  | 113 => ⟨S1x1x1024x3584, .f32⟩
  | 114 => ⟨S1024x3584, .f32⟩
  | 115 => ⟨S1x1x3584x1024, .f32⟩
  | 116 => ⟨S3584x1024, .f32⟩
  | 117 => ⟨S69632x3584, .f32⟩
  | 118 => ⟨S69632x3584, .f32⟩
  | 119 => ⟨S69632x3584, .f32⟩
  | 120 => ⟨S_, .f32⟩
  | 121 => ⟨S69632x3584, .f32⟩
  | 122 => ⟨S69632x3584, .f32⟩
  | 123 => ⟨S_, .f32⟩
  | 124 => ⟨S69632x3584, .f32⟩
  | 125 => ⟨S69632x3584, .f32⟩
  | 126 => ⟨S69632x3584, .f32⟩
  | 127 => ⟨S69632x3584, .f32⟩
  | _ => ⟨S69632x1024, .f32⟩

abbrev hbmTy0_1 (i : Nat) : BufTy := match i % 128 with
  | 0 => ⟨S69632x3584, .f32⟩
  | 1 => ⟨S69632x1024, .f32⟩
  | 2 => ⟨S69632x1024, .f32⟩
  | 3 => ⟨S69632x1024, .f32⟩
  | 4 => ⟨S69632x1024, .f32⟩
  | 5 => ⟨S69632x1, .f32⟩
  | 6 => ⟨S1x1x1024x3584, .f32⟩
  | 7 => ⟨S1024x3584, .f32⟩
  | 8 => ⟨S1x1x1024x3584, .f32⟩
  | 9 => ⟨S1024x3584, .f32⟩
  | 10 => ⟨S1x1x3584x1024, .f32⟩
  | 11 => ⟨S3584x1024, .f32⟩
  | 12 => ⟨S69632x3584, .f32⟩
  | 13 => ⟨S69632x3584, .f32⟩
  | 14 => ⟨S69632x3584, .f32⟩
  | 15 => ⟨S_, .f32⟩
  | 16 => ⟨S69632x3584, .f32⟩
  | 17 => ⟨S69632x3584, .f32⟩
  | 18 => ⟨S_, .f32⟩
  | 19 => ⟨S69632x3584, .f32⟩
  | 20 => ⟨S69632x3584, .f32⟩
  | 21 => ⟨S69632x3584, .f32⟩
  | 22 => ⟨S69632x3584, .f32⟩
  | 23 => ⟨S69632x3584, .f32⟩
  | 24 => ⟨S69632x1024, .f32⟩
  | 25 => ⟨S69632x1024, .f32⟩
  | 26 => ⟨S69632x1024, .f32⟩
  | 27 => ⟨S69632x1024, .f32⟩
  | 28 => ⟨S69632x1, .f32⟩
  | 29 => ⟨S1x1x1024x3584, .f32⟩
  | 30 => ⟨S1024x3584, .f32⟩
  | 31 => ⟨S1x1x1024x3584, .f32⟩
  | 32 => ⟨S1024x3584, .f32⟩
  | 33 => ⟨S1x1x3584x1024, .f32⟩
  | 34 => ⟨S3584x1024, .f32⟩
  | 35 => ⟨S69632x3584, .f32⟩
  | 36 => ⟨S69632x3584, .f32⟩
  | 37 => ⟨S69632x3584, .f32⟩
  | 38 => ⟨S_, .f32⟩
  | 39 => ⟨S69632x3584, .f32⟩
  | 40 => ⟨S69632x3584, .f32⟩
  | 41 => ⟨S_, .f32⟩
  | 42 => ⟨S69632x3584, .f32⟩
  | 43 => ⟨S69632x3584, .f32⟩
  | 44 => ⟨S69632x3584, .f32⟩
  | 45 => ⟨S69632x3584, .f32⟩
  | 46 => ⟨S69632x3584, .f32⟩
  | 47 => ⟨S69632x1024, .f32⟩
  | 48 => ⟨S69632x1024, .f32⟩
  | 49 => ⟨S69632x1024, .f32⟩
  | 50 => ⟨S69632x1024, .f32⟩
  | 51 => ⟨S69632x1, .f32⟩
  | 52 => ⟨S1x1x1024x3584, .f32⟩
  | 53 => ⟨S1024x3584, .f32⟩
  | 54 => ⟨S1x1x1024x3584, .f32⟩
  | 55 => ⟨S1024x3584, .f32⟩
  | 56 => ⟨S1x1x3584x1024, .f32⟩
  | 57 => ⟨S3584x1024, .f32⟩
  | 58 => ⟨S69632x3584, .f32⟩
  | 59 => ⟨S69632x3584, .f32⟩
  | 60 => ⟨S69632x3584, .f32⟩
  | 61 => ⟨S_, .f32⟩
  | 62 => ⟨S69632x3584, .f32⟩
  | 63 => ⟨S69632x3584, .f32⟩
  | 64 => ⟨S_, .f32⟩
  | 65 => ⟨S69632x3584, .f32⟩
  | 66 => ⟨S69632x3584, .f32⟩
  | 67 => ⟨S69632x3584, .f32⟩
  | 68 => ⟨S69632x3584, .f32⟩
  | 69 => ⟨S69632x3584, .f32⟩
  | 70 => ⟨S69632x1024, .f32⟩
  | 71 => ⟨S69632x1024, .f32⟩
  | 72 => ⟨S69632x1024, .f32⟩
  | 73 => ⟨S69632x1024, .f32⟩
  | 74 => ⟨S69632x1, .f32⟩
  | 75 => ⟨S1x1x1024x3584, .f32⟩
  | 76 => ⟨S1024x3584, .f32⟩
  | 77 => ⟨S1x1x1024x3584, .f32⟩
  | 78 => ⟨S1024x3584, .f32⟩
  | 79 => ⟨S1x1x3584x1024, .f32⟩
  | 80 => ⟨S3584x1024, .f32⟩
  | 81 => ⟨S69632x3584, .f32⟩
  | 82 => ⟨S69632x3584, .f32⟩
  | 83 => ⟨S69632x3584, .f32⟩
  | 84 => ⟨S_, .f32⟩
  | 85 => ⟨S69632x3584, .f32⟩
  | 86 => ⟨S69632x3584, .f32⟩
  | 87 => ⟨S_, .f32⟩
  | 88 => ⟨S69632x3584, .f32⟩
  | 89 => ⟨S69632x3584, .f32⟩
  | 90 => ⟨S69632x3584, .f32⟩
  | 91 => ⟨S69632x3584, .f32⟩
  | 92 => ⟨S69632x3584, .f32⟩
  | 93 => ⟨S69632x1024, .f32⟩
  | 94 => ⟨S69632x1024, .f32⟩
  | 95 => ⟨S69632x1024, .f32⟩
  | 96 => ⟨S69632x1024, .f32⟩
  | 97 => ⟨S69632x1, .f32⟩
  | 98 => ⟨S1x1x1024x3584, .f32⟩
  | 99 => ⟨S1024x3584, .f32⟩
  | 100 => ⟨S1x1x1024x3584, .f32⟩
  | 101 => ⟨S1024x3584, .f32⟩
  | 102 => ⟨S1x1x3584x1024, .f32⟩
  | 103 => ⟨S3584x1024, .f32⟩
  | 104 => ⟨S69632x3584, .f32⟩
  | 105 => ⟨S69632x3584, .f32⟩
  | 106 => ⟨S69632x3584, .f32⟩
  | 107 => ⟨S_, .f32⟩
  | 108 => ⟨S69632x3584, .f32⟩
  | 109 => ⟨S69632x3584, .f32⟩
  | 110 => ⟨S_, .f32⟩
  | 111 => ⟨S69632x3584, .f32⟩
  | 112 => ⟨S69632x3584, .f32⟩
  | 113 => ⟨S69632x3584, .f32⟩
  | 114 => ⟨S69632x3584, .f32⟩
  | 115 => ⟨S69632x3584, .f32⟩
  | 116 => ⟨S69632x1024, .f32⟩
  | 117 => ⟨S69632x1024, .f32⟩
  | 118 => ⟨S69632x1024, .f32⟩
  | 119 => ⟨S69632x1024, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_call1_call0_c : Ref sig .tc := ⟨.hbm, 32, rfl⟩
abbrev main_call1_call0_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call3_v0 : Ref sig .tc := ⟨.hbm, 72, rfl⟩
abbrev main_call3_v1 : Ref sig .tc := ⟨.hbm, 73, rfl⟩
abbrev main_call3_cst : Ref sig .tc := ⟨.hbm, 74, rfl⟩
abbrev main_call3_v2 : Ref sig .tc := ⟨.hbm, 75, rfl⟩
abbrev main_call3_v3 : Ref sig .tc := ⟨.hbm, 76, rfl⟩
abbrev main_call3_cst_0 : Ref sig .tc := ⟨.hbm, 77, rfl⟩
abbrev main_call3_v4 : Ref sig .tc := ⟨.hbm, 78, rfl⟩
abbrev main_call3_v5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_call5_v0 : Ref sig .tc := ⟨.hbm, 118, rfl⟩
abbrev main_call5_v1 : Ref sig .tc := ⟨.hbm, 119, rfl⟩
abbrev main_call5_cst : Ref sig .tc := ⟨.hbm, 120, rfl⟩
abbrev main_call5_v2 : Ref sig .tc := ⟨.hbm, 121, rfl⟩
abbrev main_call5_v3 : Ref sig .tc := ⟨.hbm, 122, rfl⟩
abbrev main_call5_cst_0 : Ref sig .tc := ⟨.hbm, 123, rfl⟩
abbrev main_call5_v4 : Ref sig .tc := ⟨.hbm, 124, rfl⟩
abbrev main_call5_v5 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_call6_v0 : Ref sig .tc := ⟨.hbm, 141, rfl⟩
abbrev main_call6_v1 : Ref sig .tc := ⟨.hbm, 142, rfl⟩
abbrev main_call6_cst : Ref sig .tc := ⟨.hbm, 143, rfl⟩
abbrev main_call6_v2 : Ref sig .tc := ⟨.hbm, 144, rfl⟩
abbrev main_call6_v3 : Ref sig .tc := ⟨.hbm, 145, rfl⟩
abbrev main_call6_cst_0 : Ref sig .tc := ⟨.hbm, 146, rfl⟩
abbrev main_call6_v4 : Ref sig .tc := ⟨.hbm, 147, rfl⟩
abbrev main_call6_v5 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_call7_v0 : Ref sig .tc := ⟨.hbm, 164, rfl⟩
abbrev main_call7_v1 : Ref sig .tc := ⟨.hbm, 165, rfl⟩
abbrev main_call7_cst : Ref sig .tc := ⟨.hbm, 166, rfl⟩
abbrev main_call7_v2 : Ref sig .tc := ⟨.hbm, 167, rfl⟩
abbrev main_call7_v3 : Ref sig .tc := ⟨.hbm, 168, rfl⟩
abbrev main_call7_cst_0 : Ref sig .tc := ⟨.hbm, 169, rfl⟩
abbrev main_call7_v4 : Ref sig .tc := ⟨.hbm, 170, rfl⟩
abbrev main_call7_v5 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_call8_v0 : Ref sig .tc := ⟨.hbm, 187, rfl⟩
abbrev main_call8_v1 : Ref sig .tc := ⟨.hbm, 188, rfl⟩
abbrev main_call8_cst : Ref sig .tc := ⟨.hbm, 189, rfl⟩
abbrev main_call8_v2 : Ref sig .tc := ⟨.hbm, 190, rfl⟩
abbrev main_call8_v3 : Ref sig .tc := ⟨.hbm, 191, rfl⟩
abbrev main_call8_cst_0 : Ref sig .tc := ⟨.hbm, 192, rfl⟩
abbrev main_call8_v4 : Ref sig .tc := ⟨.hbm, 193, rfl⟩
abbrev main_call8_v5 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_call9_v0 : Ref sig .tc := ⟨.hbm, 210, rfl⟩
abbrev main_call9_v1 : Ref sig .tc := ⟨.hbm, 211, rfl⟩
abbrev main_call9_cst : Ref sig .tc := ⟨.hbm, 212, rfl⟩
abbrev main_call9_v2 : Ref sig .tc := ⟨.hbm, 213, rfl⟩
abbrev main_call9_v3 : Ref sig .tc := ⟨.hbm, 214, rfl⟩
abbrev main_call9_cst_0 : Ref sig .tc := ⟨.hbm, 215, rfl⟩
abbrev main_call9_v4 : Ref sig .tc := ⟨.hbm, 216, rfl⟩
abbrev main_call9_v5 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_call10_v0 : Ref sig .tc := ⟨.hbm, 233, rfl⟩
abbrev main_call10_v1 : Ref sig .tc := ⟨.hbm, 234, rfl⟩
abbrev main_call10_cst : Ref sig .tc := ⟨.hbm, 235, rfl⟩
abbrev main_call10_v2 : Ref sig .tc := ⟨.hbm, 236, rfl⟩
abbrev main_call10_v3 : Ref sig .tc := ⟨.hbm, 237, rfl⟩
abbrev main_call10_cst_0 : Ref sig .tc := ⟨.hbm, 238, rfl⟩
abbrev main_call10_v4 : Ref sig .tc := ⟨.hbm, 239, rfl⟩
abbrev main_call10_v5 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩

abbrev nD : Nat := 1
abbrev τ : Topo := Topo.v7x

variable {F : FTy → Type} [FloatOps F]
-- ==== Kernel2.lean ====
abbrev S32768x1024 : Shape := ⟨2, ![32768, 1024]⟩
abbrev S65536x1024 : Shape := ⟨2, ![65536, 1024]⟩
abbrev S32768x128 : Shape := ⟨2, ![32768, 128]⟩
abbrev S1x1024 : Shape := ⟨2, ![1, 1024]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .hbm, ⟨2, _⟩ => ⟨S32768x128, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S65536x1024 : Shape := ⟨2, ![65536, 1024]⟩
abbrev S32768x128 : Shape := ⟨2, ![32768, 128]⟩
abbrev S1x1024 : Shape := ⟨2, ![1, 1024]⟩
abbrev S_ : Shape := ⟨0, ![]⟩
abbrev S32768x1 : Shape := ⟨2, ![32768, 1]⟩
abbrev S1024 : Shape := ⟨1, ![1024]⟩
abbrev S32768 : Shape := ⟨1, ![32768]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .hbm, ⟨2, _⟩ => ⟨S32768x128, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S32768x1024, .f32⟩
  | .hbm, ⟨7, _⟩ => ⟨S32768x1, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 17
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S32768x2816 : Shape := ⟨2, ![32768, 2816]⟩
abbrev S1024 : Shape := ⟨1, ![1024]⟩
abbrev S32768 : Shape := ⟨1, ![32768]⟩
abbrev S32768x1 : Shape := ⟨2, ![32768, 1]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S32768x2816, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S_, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x1024, .f32⟩
  | .hbm, ⟨25, _⟩ => ⟨S32768x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel4.lean ====
abbrev S32768x1024 : Shape := ⟨2, ![32768, 1024]⟩
abbrev S1x1024x2048 : Shape := ⟨3, ![1, 1024, 2048]⟩
abbrev S1x2048 : Shape := ⟨2, ![1, 2048]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1x1024x2048, .f32⟩
  | .hbm, ⟨2, _⟩ => ⟨S1x2048, .f32⟩
  | .hbm, ⟨3, _⟩ => ⟨S1024x2048, .f32⟩
  | .hbm, ⟨4, _⟩ => ⟨S1024x2048, .bf16⟩
  | .hbm, ⟨5, _⟩ => ⟨S2048, .f32⟩
  | .hbm, ⟨6, _⟩ => ⟨S1x2048, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x1024 : Shape := ⟨2, ![32768, 1024]⟩
abbrev S1x1024x2048 : Shape := ⟨3, ![1, 1024, 2048]⟩
abbrev S1x2048 : Shape := ⟨2, ![1, 2048]⟩
abbrev S1024x2048 : Shape := ⟨2, ![1024, 2048]⟩
abbrev S32768x2048 : Shape := ⟨2, ![32768, 2048]⟩
abbrev S2048 : Shape := ⟨1, ![2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x2048, .f32⟩
  | .hbm, ⟨2, _⟩ => ⟨S1x2048, .f32⟩
  | .hbm, ⟨3, _⟩ => ⟨S1024x2048, .f32⟩
  | .hbm, ⟨4, _⟩ => ⟨S32768x2048, .f32⟩
  | .hbm, ⟨5, _⟩ => ⟨S2048, .f32⟩
  | .hbm, ⟨6, _⟩ => ⟨S1x2048, .f32⟩
  | .hbm, ⟨7, _⟩ => ⟨S32768x2048, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S32768x1024 : Shape := ⟨2, ![32768, 1024]⟩
abbrev S32768x1696 : Shape := ⟨2, ![32768, 1696]⟩
abbrev S32768x512 : Shape := ⟨2, ![32768, 512]⟩
abbrev S1x512 : Shape := ⟨2, ![1, 512]⟩
abbrev S1x32x512 : Shape := ⟨3, ![1, 32, 512]⟩
abbrev S1x96x512 : Shape := ⟨3, ![1, 96, 512]⟩
abbrev S1x8x64 : Shape := ⟨3, ![1, 8, 64]⟩
abbrev S1x1024x1024 : Shape := ⟨3, ![1, 1024, 1024]⟩
abbrev S1x1024 : Shape := ⟨2, ![1, 1024]⟩
abbrev S32768x1536 : Shape := ⟨2, ![32768, 1536]⟩
abbrev S32768x32 : Shape := ⟨2, ![32768, 32]⟩
abbrev S_ : Shape := ⟨0, ![]⟩
abbrev S32768x128 : Shape := ⟨2, ![32768, 128]⟩
abbrev S32768x96 : Shape := ⟨2, ![32768, 96]⟩
abbrev S32768x1920 : Shape := ⟨2, ![32768, 1920]⟩
abbrev S32x512 : Shape := ⟨2, ![32, 512]⟩
abbrev S128x512 : Shape := ⟨2, ![128, 512]⟩
abbrev S96x512 : Shape := ⟨2, ![96, 512]⟩
abbrev S1024x1024 : Shape := ⟨2, ![1024, 1024]⟩
abbrev S512 : Shape := ⟨1, ![512]⟩
abbrev S8x64 : Shape := ⟨2, ![8, 64]⟩
abbrev S512x1024 : Shape := ⟨2, ![512, 1024]⟩
abbrev S1024 : Shape := ⟨1, ![1024]⟩
abbrev S512x512 : Shape := ⟨2, ![512, 512]⟩
abbrev S512x1920 : Shape := ⟨2, ![512, 1920]⟩
abbrev S512x128 : Shape := ⟨2, ![512, 128]⟩
abbrev S512x1 : Shape := ⟨2, ![512, 1]⟩

abbrev nBuf : Space → Nat
  | .hbm => 80
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x1696, .f32⟩
  | .hbm, ⟨2, _⟩ => ⟨S32768x512, .f32⟩
  | .hbm, ⟨3, _⟩ => ⟨S32768x512, .f32⟩
  | .hbm, ⟨4, _⟩ => ⟨S1x512, .f32⟩
  | .hbm, ⟨5, _⟩ => ⟨S1x32x512, .f32⟩
  | .hbm, ⟨6, _⟩ => ⟨S1x96x512, .f32⟩
  | .hbm, ⟨7, _⟩ => ⟨S1x8x64, .f32⟩
  | .hbm, ⟨8, _⟩ => ⟨S1x8x64, .f32⟩
  | .hbm, ⟨9, _⟩ => ⟨S1x8x64, .f32⟩
  | .hbm, ⟨10, _⟩ => ⟨S1x8x64, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S32768x1536, .f32⟩
  | .hbm, ⟨15, _⟩ => ⟨S32768x32, .f32⟩
  | .hbm, ⟨16, _⟩ => ⟨S_, .i32⟩
  | .hbm, ⟨17, _⟩ => ⟨S_, .f32⟩
  | .hbm, ⟨18, _⟩ => ⟨S32768x128, .f32⟩
  | .hbm, ⟨19, _⟩ => ⟨S32768x32, .f32⟩
  | .hbm, ⟨20, _⟩ => ⟨S_, .i32⟩
  | .hbm, ⟨21, _⟩ => ⟨S_, .f32⟩
  | .hbm, ⟨22, _⟩ => ⟨S32768x128, .f32⟩
  | .hbm, ⟨23, _⟩ => ⟨S32768x96, .f32⟩
  | .hbm, ⟨24, _⟩ => ⟨S_, .i32⟩
  | .hbm, ⟨25, _⟩ => ⟨S_, .f32⟩
  | .hbm, ⟨26, _⟩ => ⟨S32768x128, .f32⟩
  | .hbm, ⟨27, _⟩ => ⟨S32768x1920, .f32⟩
  | .hbm, ⟨28, _⟩ => ⟨S32x512, .f32⟩
  | .hbm, ⟨29, _⟩ => ⟨S_, .i32⟩
  | .hbm, ⟨30, _⟩ => ⟨S_, .f32⟩
  | .hbm, ⟨31, _⟩ => ⟨S128x512, .f32⟩
  | .hbm, ⟨32, _⟩ => ⟨S128x512, .bf16⟩
  | .hbm, ⟨33, _⟩ => ⟨S96x512, .f32⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S128x512, .bf16⟩
  | .hbm, ⟨38, _⟩ => ⟨S1024x1024, .f32⟩
  | .hbm, ⟨39, _⟩ => ⟨S1024x1024, .bf16⟩
  | .hbm, ⟨40, _⟩ => ⟨S32768x512, .bf16⟩
  | .hbm, ⟨41, _⟩ => ⟨S512, .f32⟩
  | .hbm, ⟨42, _⟩ => ⟨S1x512, .f32⟩
  | .hbm, ⟨43, _⟩ => ⟨S8x64, .f32⟩
  | .hbm, ⟨44, _⟩ => ⟨S1x512, .f32⟩
  | .hbm, ⟨45, _⟩ => ⟨S8x64, .f32⟩
  | .hbm, ⟨46, _⟩ => ⟨S1x512, .f32⟩
  | .hbm, ⟨47, _⟩ => ⟨S8x64, .f32⟩
  | .hbm, ⟨48, _⟩ => ⟨S1x512, .f32⟩
  | .hbm, ⟨49, _⟩ => ⟨S8x64, .f32⟩
  | .hbm, ⟨50, _⟩ => ⟨S1x512, .f32⟩
  | .hbm, ⟨51, _⟩ => ⟨S512x1024, .bf16⟩
  | .hbm, ⟨52, _⟩ => ⟨S512x1024, .bf16⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i1⟩
  | .hbm, ⟨66, _⟩ => ⟨S512x512, .i32⟩
  | .hbm, ⟨67, _⟩ => ⟨S512x512, .i32⟩
  | .hbm, ⟨68, _⟩ => ⟨S_, .i32⟩
  | .hbm, ⟨69, _⟩ => ⟨S512x512, .i32⟩
  | .hbm, ⟨70, _⟩ => ⟨S512x512, .i1⟩
  | .hbm, ⟨71, _⟩ => ⟨S512x512, .i1⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1920, .f32⟩
  | .local _ .vmem, ⟨3, _⟩ => ⟨S512x1920, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_call3_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_call4_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_call5_v5 : Ref sig .tc := ⟨.hbm, 64, rfl⟩
abbrev main_call5_v6 : Ref sig .tc := ⟨.hbm, 65, rfl⟩
abbrev main_call5_v7 : Ref sig .tc := ⟨.hbm, 66, rfl⟩
abbrev main_call5_v8 : Ref sig .tc := ⟨.hbm, 67, rfl⟩
abbrev main_call5_c : Ref sig .tc := ⟨.hbm, 68, rfl⟩
abbrev main_call5_v9 : Ref sig .tc := ⟨.hbm, 69, rfl⟩
abbrev main_call5_v10 : Ref sig .tc := ⟨.hbm, 70, rfl⟩
abbrev main_call5_v11 : Ref sig .tc := ⟨.hbm, 71, rfl⟩
abbrev main_call5_c_0 : Ref sig .tc := ⟨.hbm, 72, rfl⟩
abbrev main_call5_v12 : Ref sig .tc := ⟨.hbm, 73, rfl⟩
abbrev main_call5_v13 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S32768x1024 : Shape := ⟨2, ![32768, 1024]⟩
abbrev S32768x1696 : Shape := ⟨2, ![32768, 1696]⟩
abbrev S32768x512 : Shape := ⟨2, ![32768, 512]⟩
abbrev S1x512 : Shape := ⟨2, ![1, 512]⟩
abbrev S1x32x512 : Shape := ⟨3, ![1, 32, 512]⟩
abbrev S1x96x512 : Shape := ⟨3, ![1, 96, 512]⟩
abbrev S1x8x64 : Shape := ⟨3, ![1, 8, 64]⟩
abbrev S1x1024x1024 : Shape := ⟨3, ![1, 1024, 1024]⟩
abbrev S1x1024 : Shape := ⟨2, ![1, 1024]⟩
abbrev S32768x32 : Shape := ⟨2, ![32768, 32]⟩
abbrev S32768x96 : Shape := ⟨2, ![32768, 96]⟩
abbrev S512 : Shape := ⟨1, ![512]⟩
abbrev S32x512 : Shape := ⟨2, ![32, 512]⟩
abbrev S_ : Shape := ⟨0, ![]⟩
abbrev S96x512 : Shape := ⟨2, ![96, 512]⟩
abbrev S32768x8x64 : Shape := ⟨3, ![32768, 8, 64]⟩
abbrev S8x64 : Shape := ⟨2, ![8, 64]⟩
abbrev S32768x8 : Shape := ⟨2, ![32768, 8]⟩
abbrev S32768x8x1 : Shape := ⟨3, ![32768, 8, 1]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 141
  | .vmem => 0
  | .smem => 0
  | _ => 0

abbrev hbmTy0_0 (i : Nat) : BufTy := match i % 128 with
  | 0 => ⟨S32768x1024, .f32⟩
  | 1 => ⟨S32768x1696, .f32⟩
  | 2 => ⟨S32768x512, .f32⟩
  | 3 => ⟨S32768x512, .f32⟩
  | 4 => ⟨S1x512, .f32⟩
  | 5 => ⟨S1x32x512, .f32⟩
  | 6 => ⟨S1x96x512, .f32⟩
  | 7 => ⟨S1x8x64, .f32⟩
  | 8 => ⟨S1x8x64, .f32⟩
  | 9 => ⟨S1x8x64, .f32⟩
  | 10 => ⟨S1x8x64, .f32⟩
  | 11 => ⟨S1x1024x1024, .f32⟩
  | 12 => ⟨S1x1024, .f32⟩
  | 13 => ⟨S1x1024, .f32⟩
  | 14 => ⟨S32768x512, .f32⟩
  | 15 => ⟨S32768x512, .f32⟩
  | 16 => ⟨S32768x512, .f32⟩
  | 17 => ⟨S32768x32, .f32⟩
  | 18 => ⟨S32768x96, .f32⟩
  | 19 => ⟨S512, .f32⟩
  | 20 => ⟨S32x512, .f32⟩
  | 21 => ⟨S32768x512, .f32⟩
  | 22 => ⟨S1x512, .f32⟩
  | 23 => ⟨S32768x512, .f32⟩
  | 24 => ⟨S32768x512, .f32⟩
  | 25 => ⟨S32768x512, .f32⟩
  | 26 => ⟨S32768x512, .f32⟩
  | 27 => ⟨S_, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x96, .f32⟩
  | 34 => ⟨S32768x96, .f32⟩
  | 35 => ⟨S_, .f32⟩
  | 36 => ⟨S32768x96, .f32⟩
  | 37 => ⟨S32768x96, .f32⟩
  | 38 => ⟨S_, .f32⟩
  | 39 => ⟨S32768x96, .f32⟩
  | 40 => ⟨S32768x96, .f32⟩
  | 41 => ⟨S96x512, .f32⟩
  | 42 => ⟨S32768x512, .f32⟩
  | 43 => ⟨S32768x8x64, .f32⟩
  | 44 => ⟨S32768x8x64, .f32⟩
  | 45 => ⟨S32768x8x64, .f32⟩
  | 46 => ⟨S32768x8x64, .f32⟩
  | 47 => ⟨S32768x8x64, .f32⟩
  | 48 => ⟨S_, .f32⟩
  | 49 => ⟨S32768x8x64, .f32⟩
  | 50 => ⟨S32768x8x64, .f32⟩
  | 51 => ⟨S8x64, .f32⟩
  | 52 => ⟨S1x8x64, .f32⟩
  | 53 => ⟨S32768x8x64, .f32⟩
  | 54 => ⟨S32768x8x64, .f32⟩
  | 55 => ⟨S_, .f32⟩
  | 56 => ⟨S32768x8x64, .f32⟩
  | 57 => ⟨S32768x8x64, .f32⟩
  | 58 => ⟨S32768x8x64, .f32⟩
  | 59 => ⟨S_, .f32⟩
  | 60 => ⟨S32768x8, .f32⟩
  | 61 => ⟨S32768x8x1, .f32⟩
  | 62 => ⟨S_, .f32⟩
  | 63 => ⟨S32768x8x1, .f32⟩
  | 64 => ⟨S32768x8x1, .f32⟩
  | 65 => ⟨S32768x8x64, .f32⟩
  | 66 => ⟨S32768x8x64, .f32⟩
  | 67 => ⟨S32768x8x64, .f32⟩
  | 68 => ⟨S_, .f32⟩
  | 69 => ⟨S32768x8, .f32⟩
  | 70 => ⟨S32768x8x1, .f32⟩
  | 71 => ⟨S_, .f32⟩
  | 72 => ⟨S32768x8x1, .f32⟩
  | 73 => ⟨S32768x8x1, .f32⟩
  | 74 => ⟨S32768x8x64, .f32⟩
  | 75 => ⟨S32768x8x64, .f32⟩
  | 76 => ⟨S_, .f32⟩
  | 77 => ⟨S32768x8x1, .f32⟩
  | 78 => ⟨S32768x8x1, .f32⟩
  | 79 => ⟨S32768x8x1, .f32⟩
  | 80 => ⟨S32768x8x64, .f32⟩
  | 81 => ⟨S32768x8x64, .f32⟩
  | 82 => ⟨S8x64, .f32⟩
  | 83 => ⟨S1x8x64, .f32⟩
  | 84 => ⟨S32768x8x64, .f32⟩
  | 85 => ⟨S32768x8x64, .f32⟩
  | 86 => ⟨S8x64, .f32⟩
  | 87 => ⟨S1x8x64, .f32⟩
  | 88 => ⟨S32768x8x64, .f32⟩
  | 89 => ⟨S32768x8x64, .f32⟩
  | 90 => ⟨S32768x8x64, .f32⟩
  | 91 => ⟨S8x64, .f32⟩
  | 92 => ⟨S1x8x64, .f32⟩
  | 93 => ⟨S32768x8x64, .f32⟩
  | 94 => ⟨S32768x8x64, .f32⟩
  | 95 => ⟨S_, .f32⟩
  | 96 => ⟨S32768x8, .f32⟩
  | 97 => ⟨S32768x8x1, .f32⟩
  | 98 => ⟨S32768x8x64, .f32⟩
  | 99 => ⟨S32768x8x64, .f32⟩
  | 100 => ⟨S32768x8x64, .f32⟩
  | 101 => ⟨S32768x512, .f32⟩
  | 102 => ⟨S32768x512, .f32⟩
  | 103 => ⟨S32768x1024, .f32⟩
  | 104 => ⟨S1024x1024, .f32⟩
  | 105 => ⟨S32768x1024, .f32⟩
  | 106 => ⟨S_, .f32⟩
  | 107 => ⟨S32768x1024, .f32⟩
  | 108 => ⟨S32768x1024, .f32⟩
  | 109 => ⟨S32768x1024, .f32⟩
  | 110 => ⟨S1024, .f32⟩
  | 111 => ⟨S1024, .f32⟩
  | 112 => ⟨S_, .f32⟩
  | 113 => ⟨S32768, .f32⟩
  | 114 => ⟨S32768x1, .f32⟩
  | 115 => ⟨S_, .f32⟩
  | 116 => ⟨S32768x1, .f32⟩
  | 117 => ⟨S32768x1, .f32⟩
  | 118 => ⟨S32768x1024, .f32⟩
  | 119 => ⟨S32768x1024, .f32⟩
  | 120 => ⟨S32768x1024, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S32768x1024, .f32⟩
  | _ => ⟨S32768x1024, .f32⟩

abbrev hbmTy0_1 (i : Nat) : BufTy := match i % 128 with
  | 0 => ⟨S32768x1024, .f32⟩
  | 1 => ⟨S_, .f32⟩
  | 2 => ⟨S32768x1, .f32⟩
  | 3 => ⟨S32768x1, .f32⟩
  | 4 => ⟨S32768x1, .f32⟩
  | 5 => ⟨S32768x1024, .f32⟩
  | 6 => ⟨S32768x1024, .f32⟩
  | 7 => ⟨S1x1024, .f32⟩
  | 8 => ⟨S32768x1024, .f32⟩
  | 9 => ⟨S32768x1024, .f32⟩
  | 10 => ⟨S1x1024, .f32⟩
  | 11 => ⟨S32768x1024, .f32⟩
  | 12 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Kernel6.lean ====
abbrev S32768x1024 : Shape := ⟨2, ![32768, 1024]⟩
abbrev S1x1024x3240 : Shape := ⟨3, ![1, 1024, 3240]⟩
abbrev S1x1696 : Shape := ⟨2, ![1, 1696]⟩
abbrev S1x8 : Shape := ⟨2, ![1, 8]⟩
abbrev S1024x3240 : Shape := ⟨2, ![1024, 3240]⟩
abbrev S1696 : Shape := ⟨1, ![1696]⟩
abbrev S1024x1536 : Shape := ⟨2, ![1024, 1536]⟩
abbrev S1024x32 : Shape := ⟨2, ![1024, 32]⟩
abbrev S_ : Shape := ⟨0, ![]⟩
abbrev S1024x128 : Shape := ⟨2, ![1024, 128]⟩
abbrev S1024x96 : Shape := ⟨2, ![1024, 96]⟩
abbrev S1024x1920 : Shape := ⟨2, ![1024, 1920]⟩
abbrev S1x1536 : Shape := ⟨2, ![1, 1536]⟩
abbrev S1x32 : Shape := ⟨2, ![1, 32]⟩
abbrev S1x128 : Shape := ⟨2, ![1, 128]⟩
abbrev S1x96 : Shape := ⟨2, ![1, 96]⟩
abbrev S1x1920 : Shape := ⟨2, ![1, 1920]⟩
abbrev S1024x512 : Shape := ⟨2, ![1024, 512]⟩
abbrev S1024x1024 : Shape := ⟨2, ![1024, 1024]⟩
abbrev S1024x8 : Shape := ⟨2, ![1024, 8]⟩
abbrev S8 : Shape := ⟨1, ![8]⟩
abbrev S512x512 : Shape := ⟨2, ![512, 512]⟩
abbrev S32768x1920 : Shape := ⟨2, ![32768, 1920]⟩
abbrev S4x16x512x512 : Shape := ⟨4, ![4, 16, 512, 512]⟩
abbrev S32768x128 : Shape := ⟨2, ![32768, 128]⟩
abbrev S512x1024 : Shape := ⟨2, ![512, 1024]⟩
abbrev S512x1920 : Shape := ⟨2, ![512, 1920]⟩
abbrev S1x1x512x512 : Shape := ⟨4, ![1, 1, 512, 512]⟩
abbrev S512x128 : Shape := ⟨2, ![512, 128]⟩
abbrev S512x1 : Shape := ⟨2, ![512, 1]⟩
abbrev S1x512 : Shape := ⟨2, ![1, 512]⟩
abbrev S1024x384 : Shape := ⟨2, ![1024, 384]⟩
abbrev S512x384 : Shape := ⟨2, ![512, 384]⟩
abbrev S1x384 : Shape := ⟨2, ![1, 384]⟩

abbrev nBuf : Space → Nat
  | .hbm => 61
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024x3240, .f32⟩
  | .hbm, ⟨2, _⟩ => ⟨S1x1696, .f32⟩
  | .hbm, ⟨3, _⟩ => ⟨S1x8, .f32⟩
  | .hbm, ⟨4, _⟩ => ⟨S1024x3240, .f32⟩
  | .hbm, ⟨5, _⟩ => ⟨S1696, .f32⟩
  | .hbm, ⟨6, _⟩ => ⟨S1024x1536, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x96, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x1920, .f32⟩
  | .hbm, ⟨20, _⟩ => ⟨S1024x1920, .bf16⟩
  | .hbm, ⟨21, _⟩ => ⟨S1x1696, .f32⟩
  | .hbm, ⟨22, _⟩ => ⟨S1x1536, .f32⟩
  | .hbm, ⟨23, _⟩ => ⟨S1x32, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S1x32, .f32⟩
  | .hbm, ⟨28, _⟩ => ⟨S_, .i32⟩
  | .hbm, ⟨29, _⟩ => ⟨S_, .f32⟩
  | .hbm, ⟨30, _⟩ => ⟨S1x128, .f32⟩
  | .hbm, ⟨31, _⟩ => ⟨S1x96, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S1x1920, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x1024, .f32⟩
  | .hbm, ⟨41, _⟩ => ⟨S1024x1536, .f32⟩
  | .hbm, ⟨42, _⟩ => ⟨S1024x1536, .bf16⟩
  | .hbm, ⟨43, _⟩ => ⟨S1024x8, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S8, .f32⟩
  | .hbm, ⟨49, _⟩ => ⟨S1x8, .f32⟩
  | .hbm, ⟨50, _⟩ => ⟨S_, .i32⟩
  | .hbm, ⟨51, _⟩ => ⟨S_, .f32⟩
  | .hbm, ⟨52, _⟩ => ⟨S1x128, .f32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .bf16⟩
  | .hbm, ⟨57, _⟩ => ⟨S32768x1920, .f32⟩
  | .hbm, ⟨58, _⟩ => ⟨S32768x1024, .bf16⟩
  | .hbm, ⟨59, _⟩ => ⟨S4x16x512x512, .bf16⟩
  | .hbm, ⟨60, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x1920, .bf16⟩
  | .local _ .vmem, ⟨3, _⟩ => ⟨S1024x1536, .bf16⟩
  | .local _ .vmem, ⟨4, _⟩ => ⟨S1024x128, .bf16⟩
  | .local _ .vmem, ⟨5, _⟩ => ⟨S1x1920, .f32⟩
  | .local _ .vmem, ⟨6, _⟩ => ⟨S1x128, .f32⟩
  | .local _ .vmem, ⟨7, _⟩ => ⟨S512x512, .bf16⟩
  | .local _ .vmem, ⟨8, _⟩ => ⟨S512x1920, .f32⟩
  | .local _ .vmem, ⟨9, _⟩ => ⟨S512x1920, .f32⟩
  | .local _ .vmem, ⟨10, _⟩ => ⟨S512x1024, .bf16⟩
  | .local _ .vmem, ⟨11, _⟩ => ⟨S512x1024, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S512x128, .f32⟩
  | .local _ .vmem, ⟨15, _⟩ => ⟨S512x128, .f32⟩
  | .local _ .vmem, ⟨16, _⟩ => ⟨S1x1920, .f32⟩
  | .local _ .vmem, ⟨17, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_call3_v0 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call4_v0 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_call5_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_call6_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_call7_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v36_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S32768x1024 : Shape := ⟨2, ![32768, 1024]⟩
abbrev S1x1024x3240 : Shape := ⟨3, ![1, 1024, 3240]⟩
abbrev S1x1696 : Shape := ⟨2, ![1, 1696]⟩
abbrev S1x8 : Shape := ⟨2, ![1, 8]⟩
abbrev S1024x3240 : Shape := ⟨2, ![1024, 3240]⟩
abbrev S32768x3240 : Shape := ⟨2, ![32768, 3240]⟩
abbrev S4x8192x3240 : Shape := ⟨3, ![4, 8192, 3240]⟩
abbrev S4x8192x1696 : Shape := ⟨3, ![4, 8192, 1696]⟩
abbrev S_ : Shape := ⟨0, ![]⟩
abbrev S4x8193x1696 : Shape := ⟨3, ![4, 8193, 1696]⟩
abbrev S1696 : Shape := ⟨1, ![1696]⟩
abbrev S1x1x1696 : Shape := ⟨3, ![1, 1, 1696]⟩
abbrev S32768x1696 : Shape := ⟨2, ![32768, 1696]⟩
abbrev S32768x1536 : Shape := ⟨2, ![32768, 1536]⟩
abbrev S32768x32 : Shape := ⟨2, ![32768, 32]⟩
abbrev S32768x128 : Shape := ⟨2, ![32768, 128]⟩
abbrev S32768x96 : Shape := ⟨2, ![32768, 96]⟩
abbrev S32768x1920 : Shape := ⟨2, ![32768, 1920]⟩
abbrev S4x8192x1544 : Shape := ⟨3, ![4, 8192, 1544]⟩
abbrev S4x8192x512 : Shape := ⟨3, ![4, 8192, 512]⟩
abbrev S4x8192x8 : Shape := ⟨3, ![4, 8192, 8]⟩
abbrev S4x8192x1024 : Shape := ⟨3, ![4, 8192, 1024]⟩
abbrev S4x16x512x512 : Shape := ⟨4, ![4, 16, 512, 512]⟩
abbrev S8 : Shape := ⟨1, ![8]⟩
abbrev S1x1x8 : Shape := ⟨3, ![1, 1, 8]⟩
abbrev S4x8192x128 : Shape := ⟨3, ![4, 8192, 128]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x3240, .f32⟩
  | .hbm, ⟨2, _⟩ => ⟨S1x1696, .f32⟩
  | .hbm, ⟨3, _⟩ => ⟨S1x8, .f32⟩
  | .hbm, ⟨4, _⟩ => ⟨S1024x3240, .f32⟩
  | .hbm, ⟨5, _⟩ => ⟨S32768x3240, .f32⟩
  | .hbm, ⟨6, _⟩ => ⟨S4x8192x3240, .f32⟩
  | .hbm, ⟨7, _⟩ => ⟨S4x8192x1696, .f32⟩
  | .hbm, ⟨8, _⟩ => ⟨S_, .i32⟩
  | .hbm, ⟨9, _⟩ => ⟨S_, .f32⟩
  | .hbm, ⟨10, _⟩ => ⟨S4x8193x1696, .f32⟩
  | .hbm, ⟨11, _⟩ => ⟨S4x8192x1696, .f32⟩
  | .hbm, ⟨12, _⟩ => ⟨S1696, .f32⟩
  | .hbm, ⟨13, _⟩ => ⟨S4x8192x1696, .f32⟩
  | .hbm, ⟨14, _⟩ => ⟨S1x1x1696, .f32⟩
  | .hbm, ⟨15, _⟩ => ⟨S4x8192x1696, .f32⟩
  | .hbm, ⟨16, _⟩ => ⟨S4x8192x1696, .f32⟩
  | .hbm, ⟨17, _⟩ => ⟨S4x8192x1696, .f32⟩
  | .hbm, ⟨18, _⟩ => ⟨S32768x1696, .f32⟩
  | .hbm, ⟨19, _⟩ => ⟨S32768x1536, .f32⟩
  | .hbm, ⟨20, _⟩ => ⟨S32768x32, .f32⟩
  | .hbm, ⟨21, _⟩ => ⟨S_, .i32⟩
  | .hbm, ⟨22, _⟩ => ⟨S_, .f32⟩
  | .hbm, ⟨23, _⟩ => ⟨S32768x128, .f32⟩
  | .hbm, ⟨24, _⟩ => ⟨S32768x32, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S32768x96, .f32⟩
  | .hbm, ⟨29, _⟩ => ⟨S_, .i32⟩
  | .hbm, ⟨30, _⟩ => ⟨S_, .f32⟩
  | .hbm, ⟨31, _⟩ => ⟨S32768x128, .f32⟩
  | .hbm, ⟨32, _⟩ => ⟨S32768x1920, .f32⟩
  | .hbm, ⟨33, _⟩ => ⟨S4x8192x1544, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x8, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x1024, .f32⟩
  | .hbm, ⟨42, _⟩ => ⟨S32768x1024, .f32⟩
  | .hbm, ⟨43, _⟩ => ⟨S4x16x512x512, .f32⟩
  | .hbm, ⟨44, _⟩ => ⟨S4x16x512x512, .f32⟩
  | .hbm, ⟨45, _⟩ => ⟨S8, .f32⟩
  | .hbm, ⟨46, _⟩ => ⟨S1x1x8, .f32⟩
  | .hbm, ⟨47, _⟩ => ⟨S4x8192x8, .f32⟩
  | .hbm, ⟨48, _⟩ => ⟨S4x8192x8, .f32⟩
  | .hbm, ⟨49, _⟩ => ⟨S_, .i32⟩
  | .hbm, ⟨50, _⟩ => ⟨S_, .f32⟩
  | .hbm, ⟨51, _⟩ => ⟨S4x8192x128, .f32⟩
  | .hbm, ⟨52, _⟩ => ⟨S4x8192x128, .f32⟩
  | .hbm, ⟨53, _⟩ => ⟨S_, .f32⟩
  | .hbm, ⟨54, _⟩ => ⟨S4x8192x128, .f32⟩
  | .hbm, ⟨55, _⟩ => ⟨S4x8192x128, .f32⟩
  | .hbm, ⟨56, _⟩ => ⟨S4x8192x128, .f32⟩
  | .hbm, ⟨57, _⟩ => ⟨S4x8192x128, .f32⟩
  | .hbm, ⟨58, _⟩ => ⟨S4x8192x128, .i1⟩
  | .hbm, ⟨59, _⟩ => ⟨S4x8192x128, .f32⟩
  | .hbm, ⟨60, _⟩ => ⟨S4x8192x128, .f32⟩
  | .hbm, ⟨61, _⟩ => ⟨S4x8192x128, .f32⟩
  | .hbm, ⟨62, _⟩ => ⟨S4x8192x128, .f32⟩
  | .hbm, ⟨63, _⟩ => ⟨S4x8192x128, .f32⟩
  | .hbm, ⟨64, _⟩ => ⟨S4x8192x128, .f32⟩
  | .hbm, ⟨65, _⟩ => ⟨S4x8192x128, .f32⟩
  | .hbm, ⟨66, _⟩ => ⟨S4x8192x128, .f32⟩
  | .hbm, ⟨67, _⟩ => ⟨S4x8192x128, .f32⟩
  | .hbm, ⟨68, _⟩ => ⟨S_, .f32⟩
  | .hbm, ⟨69, _⟩ => ⟨S_, .f32⟩
  | .hbm, ⟨70, _⟩ => ⟨S4x8192x128, .f32⟩
  | .hbm, ⟨71, _⟩ => ⟨S32768x128, .f32⟩
  | .hbm, ⟨72, _⟩ => ⟨S32768x1024, .bf16⟩
  | .hbm, ⟨73, _⟩ => ⟨S4x16x512x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call3_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_call4_v0 : Ref sig .tc := ⟨.hbm, 50, rfl⟩
abbrev main_v36 : Ref sig .tc := ⟨.hbm, 51, rfl⟩
abbrev main_call5_v0 : Ref sig .tc := ⟨.hbm, 52, rfl⟩
abbrev main_call5_call0_cst : Ref sig .tc := ⟨.hbm, 53, rfl⟩
abbrev main_call5_call0_v0 : Ref sig .tc := ⟨.hbm, 54, rfl⟩
abbrev main_call5_call0_v1 : Ref sig .tc := ⟨.hbm, 55, rfl⟩
abbrev main_call5_call0_v2 : Ref sig .tc := ⟨.hbm, 56, rfl⟩
abbrev main_call5_call0_v3 : Ref sig .tc := ⟨.hbm, 57, rfl⟩
abbrev main_call5_call0_v4 : Ref sig .tc := ⟨.hbm, 58, rfl⟩
abbrev main_call5_call0_v5 : Ref sig .tc := ⟨.hbm, 59, rfl⟩
abbrev main_call5_call0_v6 : Ref sig .tc := ⟨.hbm, 60, rfl⟩
abbrev main_call5_call0_v7 : Ref sig .tc := ⟨.hbm, 61, rfl⟩
abbrev main_call5_call0_v8 : Ref sig .tc := ⟨.hbm, 62, rfl⟩
abbrev main_call5_call0_v9 : Ref sig .tc := ⟨.hbm, 63, rfl⟩
abbrev main_call5_call0_v10 : Ref sig .tc := ⟨.hbm, 64, rfl⟩
abbrev main_call5_call0_v11 : Ref sig .tc := ⟨.hbm, 65, rfl⟩
abbrev main_call5_v1 : Ref sig .tc := ⟨.hbm, 66, rfl⟩
abbrev main_v37 : Ref sig .tc := ⟨.hbm, 67, rfl⟩
abbrev main_call6_call0_cst : Ref sig .tc := ⟨.hbm, 68, rfl⟩
abbrev main_call6_call0_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩

abbrev nD : Nat := 1
abbrev τ : Topo := Topo.v7x

variable {F : FTy → Type} [FloatOps F]
-- ==== Proof.Expert.Setup.lean ====
/- The launch of the expert feed-forward call, up to its body: what the region finds in memory, its two look-up tables,
   the blocks the windows show the body, and what the body does to the output's buffer at one grid point. Everything is
   stated for any reading `F` of the floats. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the region -/

/-- The five stretches of host code that prepare the region's arrays and tables, in order. -/
abbrev hostOps : List (List (HloOp τ sig (Elt F))) := [hostOps0, hostOps0_1, hostOps0_2, hostOps0_3, hostOps0_4]

/-- What a buffer of core `c` holds when the region is entered. -/
abbrev entry (c : Dev nD) (b : Ref sig .tc) : Buf (Elt F) ((c : Thread nD τ).loc b) :=
  StableHlo.after (List.flatten [hostOps0, hostOps0_1, hostOps0_2, hostOps0_3, hostOps0_4]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

set_option maxHeartbeats 800000 in
/-- The program is its host code followed by the region. -/
theorem main_to_region (𝒱₀ : Variants) :
    Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

/-- A buffer none of the host operations writes is found as launched. -/
theorem entry_arg (c : Dev nD) (b : Ref sig .tc) (hb : b ∈ [main_arg0, main_arg1, main_arg2, main_arg3, main_arg4]) :
    entry m c b = m ((c : Thread nD τ).loc b) := by
  refine StableHlo.after_of_forall_not_mem (b := Proc.devRef .tc b) _ _ (List.forall_iff_forall_mem.mp ?_)
  fin_cases hb <;>
  · simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-! ## The two tables -/

/-- The tables as the region finds them: tile to expert, and tile to "has rows". -/
def tabs : pre0.Contents (Elt F) := fun j => entry m (0 : Dev nD) (pre0.ref j)

theorem entry_pre (c : Dev nD) (j : Fin 2) : entry m c (pre0.ref j) = tabs m j := by
  obtain rfl : c = 0 := Subsingleton.elim _ _; rfl

abbrev expertTab : Memref sig .tc .smem S136 .i32 := Memref.whole main_v26
abbrev usedTab : Memref sig .tc .smem S136 .i32 := Memref.whole main_v31
abbrev expertTab_whole : expertTab.IsWhole := Memref.isWhole_whole _
abbrev usedTab_whole : usedTab.IsWhole := Memref.isWhole_whole _

/-- The contents type of a table's buffer on core `c`, -/
abbrev TabBuf (c : Dev nD) {S : Shape} {e : EltTy} (M : Memref sig .tc .smem S e) : Type :=
  Buf (Elt F) (M.view.loc (c : Thread nD τ))
/-- and that buffer held at the half share the body reads it at. -/
abbrev tabPt (c : Dev nD) {S : Shape} {e : EltTy} (M : Memref sig .tc .smem S e) (f : TabBuf (F := F) c M) : sProp 𝕄 :=
  M.view.loc (c : Thread nD τ) ↦{fullShare.right} f

theorem tabs_held (c : Dev nD) :
    (Pipeline.ΦT pre0 (tabs m) c : sProp 𝕄) = iprop(tabPt c expertTab (tabs m 0) ∗ tabPt c usedTab (tabs m 1)) := by
  unfold Pipeline.ΦT Pipeline.prefHeld
  rw [show (Finset.univ : Finset (Fin 2)) = insert (0 : Fin 2) {(1 : Fin 2)} from by decide,
    bigSep_insert (by decide), bigSep_singleton]
  rfl

/-! ## The body at one point -/

/-- The accumulator the body adds to: zero in the first half of the hidden features, what it held in the second. -/
def accIn (i : grid0.Coords) (xo : Vec F S512x1024 .f32) : Vec F S512x1024 .f32 :=
  if k0_cond1 i = 1#1 then k0_pay1 else xo

/-- What the body leaves in the output's buffer, given the tile's "has rows" word. -/
def stepOut (i : grid0.Coords) (w : BitVec 32) (x0 : Vec F S512x1024 .f32) (x1 x2 : Vec F S1x1024x1792 .bf16)
    (x3 : Vec F S1x1792x1024 .bf16) (xo : Vec F S512x1024 .f32) : Vec F S512x1024 .f32 :=
  if k0_cond2 w = 1#1 then k0_pay2 x0 x1 x2 (accIn i xo) x3 else accIn i xo

/-- The word the body loads from the second table is the one the idle points are stated by. -/
theorem word_read (i : grid0.Coords) (pf : pre0.Contents (Elt F)) :
    ((usedTab.access (Rect.unit (s := S136) (k0_off1 i) S1.size (k0_off1_inb i)) : View sig .tc _ _ _).read (Elt F) (pf 1))
      (Shape.Idx.first (s := S1) (numel1_S1.symm ▸ Nat.one_pos)) = pf.atD 1 (k0_off1 i) := by
  unfold Pipeline.Prefetch.Contents.atD
  rw [dif_pos (fun a => by fin_cases a; exact k0_off1_inb i 0)]
  rfl

set_option maxHeartbeats 1000000 in
theorem body_step (c : Dev nD) (i : grid0.Coords)
    (arg4 : Memref sig .tc .vmem S512x1024 .f32) (harg4 : arg4.IsWhole)
    (arg5 : Memref sig .tc .vmem S1x1024x1792 .bf16) (harg5 : arg5.IsWhole)
    (arg6 : Memref sig .tc .vmem S1x1024x1792 .bf16) (harg6 : arg6.IsWhole)
    (arg7 : Memref sig .tc .vmem S1x1792x1024 .bf16) (harg7 : arg7.IsWhole)
    (arg8 : Memref sig .tc .vmem S512x1024 .f32) (harg8 : arg8.IsWhole)
    (x0 : Vec F S512x1024 .f32) (x1 x2 : Vec F S1x1024x1792 .bf16) (x3 : Vec F S1x1792x1024 .bf16)
    (pf : pre0.Contents (Elt F)) (xo : Vec F S512x1024 .f32)
    (E : Set ℕ) (K : PUnit → sProp 𝕄) :
    iprop(owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare xo ∗ tabPt c expertTab (pf 0) ∗ tabPt c usedTab (pf 1)
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare (stepOut i (pf.atD 1 (k0_off1 i)) x0 x1 x2 x3 xo)
            ∗ tabPt c expertTab (pf 0) ∗ tabPt c usedTab (pf 1)) -∗ K ⟨⟩))
      ⊢ wp frame (wpE (defs₀ (F := F)) Variants.none c none) E
          (cc0_moe_expert_ffn i expertTab expertTab_whole usedTab usedTab_whole arg4 harg4 arg5 harg5 arg6 harg6 arg7 harg7 arg8 harg8) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2
  obtain rfl := harg7.eq_unread hf3; obtain rfl := harg8.eq_unread hf4
  by_cases hc1 : k0_cond1 i = 1#1
  all_goals
    sl_exec (disch := first | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    swap
    · isplitl [HT0]; · iexact HT0
      iexact HT1
    iexists _; isplitr
    swap; · iexact H4
    ipureintro
  · have hw : body_step.sl.r i pf = pf.atD 1 (k0_off1 i) := word_read i pf
    rw [hw]
    unfold stepOut accIn body_step.sl.v26 body_step.sl.H4_1
    rw [if_pos hc1]
    split
    · rw [View.read_writes_full, View.readAt_full, View.readAt_full, View.readAt_full, View.readAt_full, View.readCov_full,
        hf0, hf1, hf2, hf3]
    · rw [View.read_writes_full]
  · have hw : body_step.sl.r_1 i pf = pf.atD 1 (k0_off1 i) := word_read i pf
    rw [hw]
    unfold stepOut accIn
    rw [if_neg hc1]
    split
    · rw [View.read_writes_full, View.readAt_full, View.readAt_full, View.readAt_full, View.readAt_full, View.readAt_full,
        hf0, hf1, hf2, hf3, hf4]
    · exact hf4

end Cert.Proof.Expert

end
-- ==== Proof.Expert.Run.lean ====
/- The run of the expert feed-forward call for any reading `F` of the floats, given that the weight blocks its expert table
   names lie inside the weights: what the output's buffer holds point by point, the body's obligation to the pipeline, and
   the final memory. -/
module

public import proofs.«01_k».proof.Proof.Expert.Setup

@[expose] public section

set_option maxRecDepth 16384

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight blocks the expert table names lie inside the weights. -/
abbrev TabsOk : Prop := ok0 (F := F) (tabs m)
abbrev admTabs (hO : TabsOk m) : (pcfg0 (F := F)).Adm := ⟨tabs m, hO⟩
/-- The pipeline at the tables the region finds. -/
abbrev pipe (hO : TabsOk m) : Pipeline.Cfg sig Λ₀ := cfg0 (admTabs m hO)

/-! ## The schedule -/

/-- The output block is written back after the second half of the hidden features. -/
theorem flush_out (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide)
    (Pipeline.Window.sep_of_coord cc0_transform_4 0 0 (fun _ => rfl) (by decide)) (P := 2) (m := 1) (by decide) rfl t :
    ∀ t : Fin grid0.N, Pipeline.Window.flushOf grid0 true cc0_transform_4 t = true ↔ t.val % 2 = 1)

/-- The accumulator is reset at the even points. -/
theorem reset_iff : ∀ t : Fin grid0.N, k0_cond1 (grid0.coords t) = 1#1 ↔ t.val % 2 = 0 := fun t => by
  have ht : t.val < 272 := Nat.lt_of_lt_of_eq t.isLt N_0
  have e1 : (grid0.coords t 1).val = t.val / 1 % 2 := Pipeline.Grid.coords_val t 1 (by decide) rfl
  simp only [k0_cond1, e1]
  word_cmp

theorem tile_of (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega

theorem half_of (t : Fin grid0.N) : (grid0.coords t 1).val = t.val % 2 := by
  have e1 : (grid0.coords t 1).val = t.val / 1 % 2 := Pipeline.Grid.coords_val t 1 (by decide) rfl
  omega

/-- The body stores to the output at every even point. -/
theorem stored_even (a : (pcfg0 (F := F)).Adm) (t : Fin (cfg0 a).N) (h : t.val % 2 = 0) :
    (cfg0 a).idle 4 ((cfg0 a).grid.coords t) = false := by
  have h1 : k0_cond1 (grid0.coords t) = 1#1 := (reset_iff t).mpr h
  show (!(k0_cond1 (grid0.coords t) == 1#1) && _) = false
  rw [h1]; rfl

/-! ## The blocks -/

/-- The block window `w` shows the body at point `t`. -/
def blockAt (hO : TabsOk m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (entry m c (Pipeline.arrRef spec0 w))

/-- The body's step at point `t`, from the accumulator `xo`. -/
def pointOut (hO : TabsOk m) (c : Dev nD) (t : Fin (pipe m hO).N) (xo : Vec F S512x1024 .f32) : Vec F S512x1024 .f32 :=
  stepOut (grid0.coords t) ((tabs m).atD 1 (k0_off1 (grid0.coords t))) (blockAt m hO c 0 t) (blockAt m hO c 1 t)
    (blockAt m hO c 2 t) (blockAt m hO c 3 t) xo

theorem prev_lt (hO : TabsOk m) (t : Fin (pipe m hO).N) : t.val - 1 < (pipe m hO).N :=
  Nat.lt_of_le_of_lt (Nat.sub_le _ _) t.isLt

/-- What the output's buffer holds after point `t`: one step over zero, or that and a second. -/
def outAt (hO : TabsOk m) (c : Dev nD) (t : Fin (pipe m hO).N) : Vec F S512x1024 .f32 :=
  if t.val % 2 = 0 then pointOut m hO c t k0_pay1
  else pointOut m hO c t (pointOut m hO c ⟨t.val - 1, prev_lt m hO t⟩ k0_pay1)

/-- At an even point the step does not read the buffer. -/
theorem pointOut_even (hO : TabsOk m) (c : Dev nD) (t : Fin (pipe m hO).N) (h : t.val % 2 = 0) (xo : Vec F S512x1024 .f32) :
    pointOut m hO c t xo = outAt m hO c t := by
  unfold outAt
  rw [if_pos h]
  have h1 : k0_cond1 (grid0.coords t) = 1#1 := (reset_iff t).mpr h
  unfold pointOut stepOut accIn
  rw [if_pos h1, if_pos h1]

theorem pointOut_odd (hO : TabsOk m) (c : Dev nD) (t : Fin (pipe m hO).N) (h : ¬ t.val % 2 = 0) :
    pointOut m hO c t (outAt m hO c ⟨t.val - 1, prev_lt m hO t⟩) = outAt m hO c t := by
  have h2 : (t.val - 1) % 2 = 0 := by omega
  conv_rhs => unfold outAt
  rw [if_neg h, ← pointOut_even m hO c ⟨t.val - 1, prev_lt m hO t⟩ h2 k0_pay1]

/-! ## The proof data -/

def dats (hO : TabsOk m) (_ : Fin 1) (c : Dev nD) : Dat τ (Elt F) Unit ℕ (UR sig nD τ) ℕ (pipe m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => outAt m hO c t
  Φ _ := iprop(Pipeline.ΦA spec0 c ∗ Pipeline.ΦT pre0 (tabs m) c)
  q _ := fullShare
  owed _ := 0

theorem dats_A (hO : TabsOk m) (c : Dev nD) (w : Fin (pipe m hO).W) :
    (dats m hO 0 c).A w = entry m c (Pipeline.arrRef spec0 w) := by
  dsimp only [dats]

theorem after_0 (hO : TabsOk m) (c : Dev nD) (t : Fin (pipe m hO).N) : (dats m hO 0 c).after 0 t = blockAt m hO c 0 t := by dsimp only [dats]; try rfl
theorem after_1 (hO : TabsOk m) (c : Dev nD) (t : Fin (pipe m hO).N) : (dats m hO 0 c).after 1 t = blockAt m hO c 1 t := by dsimp only [dats]; try rfl
theorem after_2 (hO : TabsOk m) (c : Dev nD) (t : Fin (pipe m hO).N) : (dats m hO 0 c).after 2 t = blockAt m hO c 2 t := by dsimp only [dats]; try rfl
theorem after_3 (hO : TabsOk m) (c : Dev nD) (t : Fin (pipe m hO).N) : (dats m hO 0 c).after 3 t = blockAt m hO c 3 t := by dsimp only [dats]; try rfl
theorem after_4 (hO : TabsOk m) (c : Dev nD) (t : Fin (pipe m hO).N) : (dats m hO 0 c).after 4 t = outAt m hO c t := by dsimp only [dats]; try rfl

/-- Each input's buffer holds its block at every point. -/
theorem before_0 (hO : TabsOk m) (c : Dev nD) (t : Fin (pipe m hO).N) (d) : (dats m hO 0 c).before 0 t d = blockAt m hO c 0 t :=
  ((dats m hO 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (hO : TabsOk m) (c : Dev nD) (t : Fin (pipe m hO).N) (d) : (dats m hO 0 c).before 1 t d = blockAt m hO c 1 t :=
  ((dats m hO 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (hO : TabsOk m) (c : Dev nD) (t : Fin (pipe m hO).N) (d) : (dats m hO 0 c).before 2 t d = blockAt m hO c 2 t :=
  ((dats m hO 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (hO : TabsOk m) (c : Dev nD) (t : Fin (pipe m hO).N) (d) : (dats m hO 0 c).before 3 t d = blockAt m hO c 3 t :=
  ((dats m hO 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)

/-- At an odd point the output's buffer holds what the point before left. -/
theorem before_4 (hO : TabsOk m) (c : Dev nD) (t : Fin (pipe m hO).N) (h : ¬ t.val % 2 = 0) (d) :
    (dats m hO 0 c).before 4 t d = outAt m hO c ⟨t.val - 1, prev_lt m hO t⟩ := by
  have h2 : (t.val - 1) % 2 = 0 := by omega
  have hfl : ((pipe m hO).win 4).flush ⟨t.val - 1, prev_lt m hO t⟩ = false :=
    Bool.eq_false_iff.mpr fun h' => by have := (flush_out (admTabs m hO) _).mp h'; dsimp only at this; omega
  rw [(dats m hO 0 c).before_of_pos 4 t (by omega) (((pipe m hO).win 4).fetch_out rfl t), hfl, if_neg Bool.false_ne_true]
  unfold Dat.left
  rw [stored_even (admTabs m hO) ⟨t.val - 1, prev_lt m hO t⟩ h2]
  show (dats m hO 0 c).kept 4 ⟨t.val - 1, prev_lt m hO t⟩ d = _
  unfold Dat.kept
  rw [Pipeline.fill_of_clip_none 4 _ (fun _ => rfl) d ((dats m hO 0 c).after 4 _), Window.fill_cut, after_4]

/-! ## The body's obligation -/

abbrev buf0 (hO : TabsOk m) (t : Fin (pipe m hO).N) : Memref sig .tc .vmem S512x1024 .f32 := spec0_0.stage ((pipe m hO).slots t 0)
abbrev buf1 (hO : TabsOk m) (t : Fin (pipe m hO).N) : Memref sig .tc .vmem S1x1024x1792 .bf16 := spec0_1.stage ((pipe m hO).slots t 1)
abbrev buf2 (hO : TabsOk m) (t : Fin (pipe m hO).N) : Memref sig .tc .vmem S1x1024x1792 .bf16 := spec0_2.stage ((pipe m hO).slots t 2)
abbrev buf3 (hO : TabsOk m) (t : Fin (pipe m hO).N) : Memref sig .tc .vmem S1x1792x1024 .bf16 := spec0_3.stage ((pipe m hO).slots t 3)
abbrev buf4 (hO : TabsOk m) (t : Fin (pipe m hO).N) : Memref sig .tc .vmem S512x1024 .f32 := spec0_4.stage ((pipe m hO).slots t 4)

/-- The body as the pipeline calls it at point `t`. -/
abbrev bodyAt (hO : TabsOk m) (t : Fin (pipe m hO).N) : Prog (TpuEff nD τ sig (Elt F) Λ₀ .tc) PUnit :=
  cc0_moe_expert_ffn (grid0.coords t) expertTab expertTab_whole usedTab usedTab_whole
    (buf0 m hO t) (hstage0_0 (((pipe m hO).slots t 0).cast nbuf0_0)) (buf1 m hO t) (hstage0_1 (((pipe m hO).slots t 1).cast nbuf0_1))
    (buf2 m hO t) (hstage0_2 (((pipe m hO).slots t 2).cast nbuf0_2)) (buf3 m hO t) (hstage0_3 (((pipe m hO).slots t 3).cast nbuf0_3))
    (buf4 m hO t) (hstage0_4 (((pipe m hO).slots t 4).cast nbuf0_4))

def handed (hO : TabsOk m) (c : Dev nD) (t : Fin (pipe m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d))
    ∗ (∃ d, owns (c : Thread nD τ) (buf4 m hO t) fullShare ((dats m hO 0 c).before 4 t d)))

def returned (hO : TabsOk m) (c : Dev nD) (t : Fin (pipe m hO).N) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t)
    ∗ owns (c : Thread nD τ) (buf4 m hO t) fullShare ((dats m hO 0 c).after 4 t))

/-- Whatever the buffer held, the body leaves `outAt` there. -/
theorem left_eq (hO : TabsOk m) (c : Dev nD) (t : Fin (pipe m hO).N) (d) :
    pointOut m hO c t ((dats m hO 0 c).before 4 t d) = outAt m hO c t := by
  by_cases h : t.val % 2 = 0
  · exact pointOut_even m hO c t h _
  · rw [before_4 m hO c t h d]; exact pointOut_odd m hO c t h

set_option maxHeartbeats 800000 in
theorem body_sound (hO : TabsOk m) (c : Dev nD) (t : Fin (pipe m hO).N) :
    handed m hO c t ⊢ wp frame (wpE (defs₀ (F := F)) Variants.none c none) Set.univ (bodyAt m hO t) (fun _ => returned m hO c t) := by
  unfold handed returned
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tabs m) c) from rfl, tabs_held]
  iintro ⟨⟨HΦ, ⟨HT0, HT1⟩⟩, Ho, ⟨%d0, H0⟩, ⟨%d1, H1⟩, ⟨%d2, H2⟩, ⟨%d3, H3⟩, ⟨%d4, H4⟩⟩
  rw [← left_eq m hO c t d4]
  unfold pointOut
  iapply (body_step c (grid0.coords t) _ _ _ _ _ _ _ _ _ _ (blockAt m hO c 0 t) (blockAt m hO c 1 t) (blockAt m hO c 2 t)
    (blockAt m hO c 3 t) (tabs m) ((dats m hO 0 c).before 4 t d4) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_row (hO : TabsOk m) (t : Fin (pipe m hO).N) :
    defs₀ (F := F) .tc (pipe m hO).body ((pipe m hO).bodyArgs t ((pipe m hO).slots t)) = bodyAt m hO t := by
  unfold defs₀; rw [Defs.onTc_tc]

/-- A point that stores nothing to the output still writes the block back: the second half of an unused tile. -/
theorem idle_flush (hO : TabsOk m) (t : Fin (pipe m hO).N)
    (h : (pipe m hO).idle 4 ((pipe m hO).grid.coords t) = true) : ((pipe m hO).win 4).flush t = true := by
  rw [flush_out]
  by_contra h'
  rw [stored_even (admTabs m hO) t (by omega)] at h
  exact Bool.false_ne_true h

theorem obligation (hO : TabsOk m) (c : Dev nD) :
    BodyObligation (dats (F := F) m hO 0 c) (defs₀ (F := F)) Variants.none () Set.univ := fun t => by
  rw [bigSep_W0, bigSep_W0, body_row m hO]
  refine triple_restated (body_sound m hO c t) rfl ?_ fun _ => ?_
  · exact .rfl
  dsimp only
  split
  · split
    · rename_i hi _ hf
      exact absurd ((idle_flush m hO t hi).symm.trans hf) (by decide)
    · exact .rfl
  · exact .rfl

/-! ## The run -/

set_option backward.isDefEq.respectTransparency.types false in
/-- Every execution ends with the pipeline's arrays at what the proof data computes, every other buffer as the region found
    it, and every counter at zero. -/
theorem run_quiet (hO : TabsOk m) : θ_run defs (onTc (τ := τ) (main (F := F))) (s₀ m ρ)
    (fun r => (Pipeline.FramePost (Pipeline.pin pcfgs fun _ => admTabs m hO) (dats m hO) 0 (entry m)) r ∧ r.2.sem = fun _ => 0) :=
  Pipeline.θ_run_frameP (Q' := _) pcfgs (fun _ => admTabs m hO) (dats m hO) (0 : Fin 1) launch0 defs₀ Variants.none m ρ main
    (hbody := fun c => (obligation m hO c).loose) (hshare := fun c => (dats m hO 0 c).share_full fun _ => rfl)
    (howed := fun _ _ => rfl) (V := entry m) (hmain := main_to_region m Variants.none) (hA := dats_A m hO) (hpf := entry_pre m)
    (hΦ := fun _ _ => rfl)

/-- Every argument ends as launched, the result at the pipeline's output array, and every counter at zero. -/
theorem run (hO : TabsOk m) : θ_run defs (onTc (τ := τ) (main (F := F))) ⟨m, fun _ => 0, ρ⟩ (fun r => (∀ c : Dev nD,
      r.2.mem ((c.tc : Thread nD τ).loc main_v32) = (dats m hO 0 c).arrAt 4 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hq => ⟨fun c => by
    obtain ⟨h, -⟩ := hq
    exact ⟨(h c).1 4,
      ((h c).1 0).trans (((dats m hO 0 c).arrAt_in 0 rfl _).trans ((dats_A m hO c 0).trans (entry_arg m c main_arg0 (by simp)))),
      ((h c).2 main_arg1 (by decide : main_arg1 ∈ Pipeline.restRefs sig spec0)).trans (entry_arg m c main_arg1 (by simp)),
      ((h c).2 main_arg2 (by decide : main_arg2 ∈ Pipeline.restRefs sig spec0)).trans (entry_arg m c main_arg2 (by simp)),
      ((h c).2 main_arg3 (by decide : main_arg3 ∈ Pipeline.restRefs sig spec0)).trans (entry_arg m c main_arg3 (by simp)),
      ((h c).2 main_arg4 (by decide : main_arg4 ∈ Pipeline.restRefs sig spec0)).trans (entry_arg m c main_arg4 (by simp))⟩, hq.2⟩)
    (run_quiet m ρ hO)

end Cert.Proof.Expert

end
-- ==== Proof.Expert.Tables.lean ====
/- What the host code leaves in the arrays and tables the expert call takes: the weights per expert, and the look-ups from
   the rows' counts. -/
module

public import proofs.«01_k».proof.Proof.Expert.Run
public import Idealize.ShloMosaic.Lib.StableHlo.Run

@[expose] public section

set_option maxRecDepth 16384

noncomputable section

namespace Cert.Proof.Expert

open Cert.KernelIdeal Cert.KernelIdeal.Gen
open Idealize.ShloMosaic Idealize.ShloMosaic.TcCoe Idealize.ShloMosaic.StableHlo Idealize.SL.Sem

variable {F : FTy → Type} [FloatOps F]

variable (m : (ℓ : Loc nD τ sig) → Buf (Elt F) ℓ)

/-- The words the look-ups start from: each expert's count of rows, rounded to whole tiles after the next line. -/
def padded (tot : FVec F S8x128 .f32) : IVec S8 32 :=
  addi (fptosi 32 (shapeCast S8 (extractStridedSlice S1x8 ![0, 0] tot slices_S8x128_S1x8_0_0) shapeCasts_S1x8_S8))
    (broadcastInDim S8 ![] bcast_S_S8 (constantI S_ 32 511#32))

/-- The floor of a word over 512, as the host spells it. -/
def tilesOf (p : IVec S8 32) : IVec S8 32 :=
  select (andi (cmpi .ne (signi p) (broadcastInDim S8 ![] bcast_S_S8 (signi (constantI S_ 32 512#32))))
      (cmpi .ne (Host.remsi p (broadcastInDim S8 ![] bcast_S_S8 (constantI S_ 32 512#32))) (broadcastInDim S8 ![] bcast_S_S8 (constantI S_ 32 0#32))))
    (subi (Host.divsi p (broadcastInDim S8 ![] bcast_S_S8 (constantI S_ 32 512#32))) (broadcastInDim S8 ![] bcast_S_S8 (constantI S_ 32 1#32)))
    (Host.divsi p (broadcastInDim S8 ![] bcast_S_S8 (constantI S_ 32 512#32)))

/-- Where each expert's rows end: the running sums of the tiles' sizes. -/
def endsOf (tot : FVec F S8x128 .f32) : IVec S8 32 :=
  Host.reduceWindow IntOp.addi ![8] ![1] ![7] ![0]
    (muli (tilesOf (padded tot)) (broadcastInDim S8 ![] bcast_S_S8 (constantI S_ 32 512#32)))
    (broadcastInDim S_ ![] bcast_S_S_ (constantI S_ 32 0#32)) reduceWindows_S8_S8_w8s1p7_0 h_S_

/-- Each tile's first row. -/
def startsOf : IVec S136 32 := muli (iotaInDim S136 32 0) (broadcastInDim S136 ![] bcast_S_S136 (constantI S_ 32 512#32))

/-- Each tile's expert: how many experts' rows end at or before its first row, at most 7. -/
def expertOf (ends : IVec S8 32) : IVec S136 32 :=
  minsi (Host.reduce IntOp.addi
      (extui 32 (cmpi .sge (broadcastInDim S136x8 ![0, 1] bcast_S136x1_S136x8_0_1 (broadcastInDim S136x1 ![0] bcast_S136_S136x1_0 startsOf))
        (broadcastInDim S136x8 ![0, 1] bcast_S1x8_S136x8_0_1 (broadcastInDim S1x8 ![1] bcast_S8_S1x8_1 ends))) natLt_1_32)
      (constantI S_ 32 0#32) reducesTo_S136x8_S136_d1 h_S_)
    (broadcastInDim S136 ![] bcast_S_S136 (constantI S_ 32 7#32))

/-- Whether each tile has rows: its first row lies before the last expert's end. -/
def usedOf (ends : IVec S8 32) : IVec S136 32 :=
  extui 32 (cmpi .slt startsOf (broadcastInDim S136 ![] bcast_S_S136
    (shapeCast S_ (extractStridedSlice S1 ![7] ends slices_S8_S1_7) shapeCasts_S1_S_))) natLt_1_32

set_option maxHeartbeats 2000000 in
theorem entry_ends (c : Dev nD) : entry m c main_v14 = endsOf (F := F) (m ((c : Thread nD τ).loc main_arg1)) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

set_option maxHeartbeats 2000000 in
theorem entry_expert (c : Dev nD) : entry m c main_v26 = expertOf (endsOf (F := F) (m ((c : Thread nD τ).loc main_arg1))) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

set_option maxHeartbeats 2000000 in
theorem entry_used (c : Dev nD) : entry m c main_v31 = usedOf (endsOf (F := F) (m ((c : Thread nD τ).loc main_arg1))) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

/-- The stacked up-projections, one slice per expert. -/
def stackIn (w : FVec F S1x8x1024x3584 .f32) : FVec F S8x1024x3584 .bf16 :=
  truncf .bf16 (shapeCast S8x1024x3584 w shapeCasts_S1x8x1024x3584_S8x1024x3584) bitsLt_bf16_f32

/-- The stacked down-projections, one slice per expert. -/
def stackOut (w : FVec F S1x8x3584x1024 .f32) : FVec F S8x3584x1024 .bf16 :=
  truncf .bf16 (shapeCast S8x3584x1024 w shapeCasts_S1x8x3584x1024_S8x3584x1024) bitsLt_bf16_f32

set_option maxHeartbeats 2000000 in
theorem entry_gate (c : Dev nD) : entry m c main_v1 = stackIn (F := F) (m ((c : Thread nD τ).loc main_arg2)) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

set_option maxHeartbeats 2000000 in
theorem entry_up (c : Dev nD) : entry m c main_v3 = stackIn (F := F) (m ((c : Thread nD τ).loc main_arg3)) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

set_option maxHeartbeats 2000000 in
theorem entry_down (c : Dev nD) : entry m c main_v5 = stackOut (F := F) (m ((c : Thread nD τ).loc main_arg4)) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

end Cert.Proof.Expert

end
-- ==== Proof.Expert.Words.lean ====
/- The look-ups' words, entry by entry: each tile's expert and "has rows" word from the experts' ends, what a row's own look-up
   gives, and that the two agree because the ends are whole tiles. -/
module

public import proofs.«01_k».proof.Proof.Expert.Tables
public import Idealize.ShloMosaic.Lib.Routing.Ops
public import Idealize.ShloMosaic.Lib.Routing.OpsOne
public import Idealize.ShloMosaic.Lib.WordArith
public import Idealize.ShloMosaic.Lib.PlanTiles.Rows

@[expose] public section

set_option maxRecDepth 16384

noncomputable section

namespace Cert.Proof.Expert

open Cert.KernelIdeal Cert.KernelIdeal.Gen
open Idealize.ShloMosaic Idealize.ShloMosaic.TcCoe Idealize.SL.Sem Idealize.ShloMosaic.ValueIdx

variable {F : FTy → Type} [FloatOps F]

/-! ## The ends -/

/-- Each expert's end is a whole number of tiles, as a word. -/
theorem ends_whole (tot : FVec F S8x128 .f32) (e : Fin 8) : ∃ k, endsOf (F := F) tot (ix1 e) = k * 512#32 := by
  unfold endsOf
  rw [Routing.cumsum_vec (N := 8) (Nm1 := 7) rfl _ _ (by rw [Routing.bc0]; rfl)]
  refine Finset.sum_induction _ (fun w : BitVec 32 => ∃ k, w = k * 512#32) ?_ ⟨0, by simp⟩ fun i _ => ?_
  · rintro _ _ ⟨a, rfl⟩ ⟨b, rfl⟩
    exact ⟨a + b, by rw [BitVec.add_mul]⟩
  · split
    · exact ⟨tilesOf (padded tot) (ix1 i), by
        show IntOp.muli _ _ = _
        rw [Routing.bc0]; rfl⟩
    · exact ⟨0, by simp⟩

/-- A whole number of tiles ends at or before a row exactly when it ends at or before the row's tile. -/
theorem sle_tile (k : BitVec 32) (i q : ℕ) (hi : i < 136) (hq : q < 512) :
    (k * 512#32).sle (BitVec.ofNat 32 (512 * i + q)) = (k * 512#32).sle (BitVec.ofNat 32 (512 * i)) := by
  have hk : (k * 512#32).toNat % 512 = 0 := by
    rw [BitVec.toNat_mul]; simp only [BitVec.toNat_ofNat]; omega
  have hl := (k * 512#32).isLt
  rw [BitVec.sle_eq_decide, BitVec.sle_eq_decide, BitVec.toInt_eq_toNat_cond, BitVec.toInt_eq_toNat_cond, BitVec.toInt_eq_toNat_cond,
    BitVec.toNat_ofNat, BitVec.toNat_ofNat, Nat.mod_eq_of_lt (by omega), Nat.mod_eq_of_lt (by omega)]
  generalize (k * 512#32).toNat = n at *
  rw [decide_eq_decide]
  split <;> split <;> split <;> omega

theorem slt_tile (k : BitVec 32) (i q : ℕ) (hi : i < 136) (hq : q < 512) :
    (BitVec.ofNat 32 (512 * i + q)).slt (k * 512#32) = (BitVec.ofNat 32 (512 * i)).slt (k * 512#32) := by
  have h := sle_tile k i q hi hq
  rw [BitVec.sle_eq_not_slt, BitVec.sle_eq_not_slt] at h
  exact Bool.not_inj h

/-! ## A row's look-up -/

/-- Expert `e`'s rows end at or before the row `w`. -/
def ended (ends : IVec S8 32) (w : BitVec 32) (e : ℕ) : Prop := (if h : e < 8 then (ends (ix1 ⟨e, h⟩)).sle w else false) = true

instance (ends : IVec S8 32) (w : BitVec 32) : DecidablePred (ended ends w) := fun e => by unfold ended; infer_instance

/-- The expert of the row `w`: how many experts' rows end at or before it, at most 7. -/
def expertAt (ends : IVec S8 32) (w : BitVec 32) : ℕ := min 7 (Nat.count (ended ends w) 8)

theorem expertAt_lt (ends : IVec S8 32) (w : BitVec 32) : expertAt ends w < 8 := by unfold expertAt; omega

/-- The count along the experts that the program writes, cut off at 7, is the row's expert. -/
theorem expert_word {n : ℕ} (ends : IVec S8 32) (rows : IVec (Routing.shape1 n) 32)
    (h₁ : (Routing.shape1 n).BroadcastsInDim (Routing.shape2 n 1) (![0] : Fin 1 → Fin (Routing.shape2 n 1).rank))
    (h₂ : (Routing.shape2 n 1).BroadcastsInDim (Routing.shape2 n 8) (![0, 1] : Fin 2 → Fin (Routing.shape2 n 8).rank))
    (h₃ : (Routing.shape1 8).BroadcastsInDim (Routing.shape2 1 8) (![1] : Fin 1 → Fin (Routing.shape2 1 8).rank))
    (h₄ : (Routing.shape2 1 8).BroadcastsInDim (Routing.shape2 n 8) (![0, 1] : Fin 2 → Fin (Routing.shape2 n 8).rank))
    (hr : (Routing.shape2 n 8).ReducesTo [1] (Routing.shape1 n)) (hu : 0 < Routing.shape0.numel) (hw : 1 < 32) (i : Fin n) :
    IntOp.minsi (Host.reduce IntOp.addi
      (extui 32 (cmpi .sge (broadcastInDim (Routing.shape2 n 8) ![0, 1] h₂ (broadcastInDim (Routing.shape2 n 1) ![0] h₁ rows))
        (broadcastInDim (Routing.shape2 n 8) ![0, 1] h₄ (broadcastInDim (Routing.shape2 1 8) ![1] h₃ ends))) hw)
      (constantI Routing.shape0 32 0#32) hr hu (ix1 i)) 7#32 = BitVec.ofNat 32 (expertAt ends (rows (ix1 i))) := by
  rw [Routing.reduce_count (by decide) _ hw hr hu i (ended ends (rows (ix1 i))) fun q => by
    show IntOp.cmpi .sge _ _ = 1#1 ↔ _
    rw [Routing.bcRows h₁ h₂, Routing.bcCols h₃ h₄]
    unfold ended IntOp.cmpi
    rw [dif_pos q.isLt]
    cases BitVec.sle (ends (ix1 q)) (rows (ix1 i)) <;> simp]
  have hc : Nat.count (ended ends (rows (ix1 i))) 8 ≤ 8 := Nat.count_le _
  exact PlanTiles.minsi_word (by omega) (by decide)

theorem starts_apply (i : Fin 136) : startsOf (ix1 i) = BitVec.ofNat 32 (512 * i.val) := by
  show IntOp.muli (BitVec.ofNat 32 i.val) _ = _
  rw [Routing.bc0]
  show BitVec.ofNat 32 i.val * BitVec.ofNat 32 512 = _
  rw [← BitVec.ofNat_mul, Nat.mul_comm]

theorem expertOf_apply (ends : IVec S8 32) (i : Fin 136) :
    expertOf ends (ix1 i) = BitVec.ofNat 32 (expertAt ends (BitVec.ofNat 32 (512 * i.val))) := by
  unfold expertOf
  show IntOp.minsi _ _ = _
  rw [Routing.bc0, ← starts_apply]
  exact expert_word (n := 136) ends startsOf _ _ _ _ _ _ _ i

/-- The last expert's end, sliced out of the vector. -/
theorem lastEnd (ends : IVec (Routing.shape1 8) 32) (h : (Routing.shape1 8).Slices ![7] (Routing.shape1 1))
    (hc : (Routing.shape1 1).ShapeCasts Routing.shape0) :
    shapeCast Routing.shape0 (extractStridedSlice (Routing.shape1 1) ![7] ends h) hc ix0 = ends (ix1 7) := by
  have h1 := ((Routing.shape1 1).rowMajor (ix1 (0 : Fin 1))).isLt
  have h0 := (Routing.shape0.rowMajor ix0).isLt
  have e1 : (Routing.shape1 1).numel = 1 := by decide
  have e0 : Routing.shape0.numel = 1 := by decide
  exact (shapeCast_apply _ hc ix0 (ix1 (0 : Fin 1)) (by omega)).trans (Routing.slice1 7 ends h 0 (by decide))

theorem usedOf_apply (ends : IVec S8 32) (i : Fin 136) :
    usedOf ends (ix1 i) = (IntOp.cmpi .slt (BitVec.ofNat 32 (512 * i.val)) (ends (ix1 7))).setWidth 32 := by
  unfold usedOf
  show (IntOp.cmpi .slt _ _).setWidth 32 = _
  rw [Routing.bc0, starts_apply, lastEnd]

/-- A row's expert is its tile's. -/
theorem expertAt_tile (tot : FVec F S8x128 .f32) (i q : ℕ) (hi : i < 136) (hq : q < 512) :
    expertAt (endsOf (F := F) tot) (BitVec.ofNat 32 (512 * i + q)) = expertAt (endsOf (F := F) tot) (BitVec.ofNat 32 (512 * i)) := by
  unfold expertAt
  congr 1
  have hP : ended (endsOf (F := F) tot) (BitVec.ofNat 32 (512 * i + q)) = ended (endsOf (F := F) tot) (BitVec.ofNat 32 (512 * i)) := by
    funext e
    unfold ended
    split
    · rename_i h
      obtain ⟨k, hk⟩ := ends_whole (F := F) tot ⟨e, h⟩
      rw [hk, sle_tile k i q hi hq]
    · rfl
  simp only [hP]

/-- A row lies before the last end exactly when its tile does. -/
theorem used_tile (tot : FVec F S8x128 .f32) (i q : ℕ) (hi : i < 136) (hq : q < 512) :
    IntOp.cmpi .slt (BitVec.ofNat 32 (512 * i + q)) (endsOf (F := F) tot (ix1 7))
      = IntOp.cmpi .slt (BitVec.ofNat 32 (512 * i)) (endsOf (F := F) tot (ix1 7)) := by
  obtain ⟨k, hk⟩ := ends_whole (F := F) tot 7
  rw [hk]
  unfold IntOp.cmpi
  dsimp only
  rw [slt_tile k i q hi hq]

/-! ## The tables at a grid point -/

variable (m : (ℓ : Loc nD τ sig) → Buf (Elt F) ℓ)

/-- The rows' counts as launched. -/
abbrev totals : FVec F S8x128 .f32 := m (((0 : Dev nD) : Thread nD τ).loc main_arg1)

theorem tile_lt (i : grid0.Coords) : (i 0).val < 136 := (i 0).isLt

theorem off_val (i : grid0.Coords) : k0_off1 i = ![(i 0).val] := by
  have h : (i 0).val < 136 := (i 0).isLt
  have e : (Scalar.indexCast (BitVec.ofNat 32 (i 0).val) : Index).toNat = (i 0).val := by
    simp [Scalar.indexCast]; omega
  unfold k0_off1
  dsimp only
  rw [e]

theorem expert_tab (i : grid0.Coords) :
    (tabs m).at 0 (Rect.unit (s := S136) (k0_off1 i) S1.size (k0_off1_inb i)) numel1_S1
      = BitVec.ofNat 32 (expertAt (endsOf (totals m)) (BitVec.ofNat 32 (512 * (i 0).val))) := by
  rw [← expertOf_apply _ (i 0), ← entry_expert m 0]
  show entry m 0 main_v26 _ = entry m 0 main_v26 _
  refine congrArg _ (funext fun (a : Fin 1) => Fin.ext ?_)
  obtain rfl : a = 0 := Subsingleton.elim a 0
  have ho : k0_off1 i 0 = (i 0).val := by rw [off_val]; rfl
  have h := (Shape.Idx.first (s := S1) (numel1_S1.symm ▸ Nat.one_pos) 0).isLt
  have hs : S1.size 0 = 1 := rfl
  show k0_off1 i 0 + 1 * (Shape.Idx.first (s := S1) (numel1_S1.symm ▸ Nat.one_pos) 0).val = (i 0).val
  omega

theorem used_tab (i : grid0.Coords) : (tabs m).atD 1 (k0_off1 i)
    = (IntOp.cmpi .slt (BitVec.ofNat 32 (512 * (i 0).val)) (endsOf (totals m) (ix1 7))).setWidth 32 := by
  rw [← usedOf_apply _ (i 0), ← entry_used m 0]
  unfold Pipeline.Prefetch.Contents.atD
  rw [dif_pos (fun a => by fin_cases a; exact k0_off1_inb i 0)]
  show entry m 0 main_v31 _ = entry m 0 main_v31 _
  refine congrArg _ (funext fun (a : Fin 1) => Fin.ext ?_)
  obtain rfl : a = 0 := Subsingleton.elim a 0
  show k0_off1 i 0 = (i 0).val
  rw [off_val]
  rfl

/-! ## The weight blocks lie inside the weights -/

theorem expert_tab_nat (i : grid0.Coords) :
    ((tabs m).at 0 (Rect.unit (s := S136) (k0_off1 i) S1.size (k0_off1_inb i)) numel1_S1 : BitVec 32).toNat
      = expertAt (endsOf (totals m)) (BitVec.ofNat 32 (512 * (i 0).val)) := by
  rw [expert_tab, BitVec.toNat_ofNat, Nat.mod_eq_of_lt]
  have := expertAt_lt (endsOf (totals m)) (BitVec.ofNat 32 (512 * (i 0).val))
  omega

/-- The expert of grid point `i`. -/
abbrev expertPt (i : grid0.Coords) : ℕ := expertAt (endsOf (totals m)) (BitVec.ofNat 32 (512 * (i 0).val))

theorem half_toNat (i : grid0.Coords) : (BitVec.ofNat 32 (i 1).val).toNat = (i 1).val := by
  have h : (i 1).val < 2 := (i 1).isLt
  rw [BitVec.toNat_ofNat, Nat.mod_eq_of_lt (by omega)]

theorem index1 (i : grid0.Coords) :
    cc0_transform_1 k0_off1_inb numel1_S1 (tabs m) i = ![expertPt m i, 0, (i 1).val] := by
  unfold cc0_transform_1
  dsimp only
  rw [half_toNat]
  have h := expert_tab_nat m i
  exact congrArg (fun n => ![n, 0, (i 1).val]) h

theorem index2 (i : grid0.Coords) :
    cc0_transform_2 k0_off1_inb numel1_S1 (tabs m) i = ![expertPt m i, 0, (i 1).val] := index1 m i

theorem index3 (i : grid0.Coords) :
    cc0_transform_3 k0_off1_inb numel1_S1 (tabs m) i = ![expertPt m i, (i 1).val, 0] := by
  unfold cc0_transform_3
  dsimp only
  rw [half_toNat]
  have h := expert_tab_nat m i
  exact congrArg (fun n => ![n, (i 1).val, 0]) h

/-- The blocks the expert table names lie inside the weights, whatever the counts are. -/
theorem tabsOk : TabsOk m := by
  have he : ∀ i : grid0.Coords, expertPt m i < 8 := fun i => expertAt_lt _ _
  have hf : ∀ i : grid0.Coords, (i 1).val < 2 := fun i => (i 1).isLt
  refine ⟨fun i => ?_, fun i => ?_, fun i => ?_⟩
  · have hb : ∀ a, (cc0_transform_1 k0_off1_inb numel1_S1 (tabs m) i a + 1) * S1x1024x1792.size a ≤ S8x1024x3584.size a := by
      rw [index1]; have := he i; have := hf i
      intro a; fin_cases a
      · show (expertPt m i + 1) * 1 ≤ 8; omega
      · show (0 + 1) * 1024 ≤ 1024; omega
      · show ((i 1).val + 1) * 1792 ≤ 3584; omega
    refine ⟨hb, .inr (.inr ⟨by decide, rfl, ?_, rfl⟩)⟩
    show cc0_transform_1 k0_off1_inb numel1_S1 (tabs m) i 1 * 1024 = 0
    rw [index1]; rfl
  · have hb : ∀ a, (cc0_transform_2 k0_off1_inb numel1_S1 (tabs m) i a + 1) * S1x1024x1792.size a ≤ S8x1024x3584.size a := by
      rw [index2]; have := he i; have := hf i
      intro a; fin_cases a
      · show (expertPt m i + 1) * 1 ≤ 8; omega
      · show (0 + 1) * 1024 ≤ 1024; omega
      · show ((i 1).val + 1) * 1792 ≤ 3584; omega
    refine ⟨hb, .inr (.inr ⟨by decide, rfl, ?_, rfl⟩)⟩
    show cc0_transform_2 k0_off1_inb numel1_S1 (tabs m) i 1 * 1024 = 0
    rw [index2]; rfl
  · have hb : ∀ a, (cc0_transform_3 k0_off1_inb numel1_S1 (tabs m) i a + 1) * S1x1792x1024.size a ≤ S8x3584x1024.size a := by
      rw [index3]; have := he i; have := hf i
      intro a; fin_cases a
      · show (expertPt m i + 1) * 1 ≤ 8; omega
      · show ((i 1).val + 1) * 1792 ≤ 3584; omega
      · show (0 + 1) * 1024 ≤ 1024; omega
    refine ⟨hb, .inr (.inl (.inr ⟨by decide, rfl, .inl ⟨?_, ?_⟩⟩))⟩
    · show 2 ∣ cc0_transform_3 k0_off1_inb numel1_S1 (tabs m) i 1 * 1792
      exact Dvd.dvd.mul_left (by decide) _
    · show 2 ∣ 1792
      decide

end Cert.Proof.Expert

end
-- ==== Proof.Expert.Blocks.lean ====
/- The blocks of the expert feed-forward call at coordinates, and the cover of its result by the blocks written back. -/
module

public import proofs.«01_k».proof.Proof.Expert.Words
public import Idealize.ShloMosaic.Lib.Pipeline.ValueKit.Geometry
public import Idealize.ShloMosaic.Lib.ValueIdx

@[expose] public section

set_option maxRecDepth 16384

noncomputable section

namespace Cert.Proof.Expert

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]

variable (m : (ℓ : Loc nD τ sig) → Buf (Elt F) ℓ)

/-- The arguments as launched. -/
abbrev rowsIn (c : Dev nD) : FVec F S69632x1024 .f32 := m ((c : Thread nD τ).loc main_arg0)
abbrev gateIn (c : Dev nD) : FVec F S1x8x1024x3584 .f32 := m ((c : Thread nD τ).loc main_arg2)
abbrev upIn (c : Dev nD) : FVec F S1x8x1024x3584 .f32 := m ((c : Thread nD τ).loc main_arg3)
abbrev downIn (c : Dev nD) : FVec F S1x8x3584x1024 .f32 := m ((c : Thread nD τ).loc main_arg4)

theorem index0 (i : grid0.Coords) : cc0_transform_0 i = ![(i 0).val, 0] := by
  have h : (i 0).val < 136 := (i 0).isLt
  unfold cc0_transform_0
  dsimp only
  rw [BitVec.toNat_ofNat, Nat.mod_eq_of_lt (by omega)]
  rfl

theorem index4 (i : grid0.Coords) : cc0_transform_4 i = ![(i 0).val, 0] := index0 i

/-- Row `q` of tile `i`. -/
abbrev rowOf (i : Fin 136) (q : Fin 512) : Fin 69632 := ⟨512 * i.val + q.val, by omega⟩
/-- Hidden feature `h` of half `f`. -/
abbrev featOf (f : Fin 2) (h : Fin 1792) : Fin 3584 := ⟨1792 * f.val + h.val, by omega⟩
/-- The expert of tile `i`. -/
abbrev expertOfTile (i : Fin 136) : Fin 8 := ⟨expertAt (endsOf (totals m)) (BitVec.ofNat 32 (512 * i.val)), expertAt_lt _ _⟩

theorem block_rows (hO : TabsOk m) (c : Dev nD) (t : Fin (pipe m hO).N) (q : Fin 512) (k : Fin 1024) :
    blockAt m hO c 0 t (ix2 q k) = rowsIn m c (ix2 (rowOf (grid0.coords t 0) q) k) := by
  show entry m c main_arg0 _ = _
  rw [entry_arg m c main_arg0 (by simp)]
  refine congrArg _ (funext fun (a : Fin 2) => Fin.ext ?_)
  fin_cases a
  · show cc0_transform_0 (grid0.coords t) 0 * 512 + 1 * q.val = 512 * (grid0.coords t 0).val + q.val
    rw [index0]
    show (grid0.coords t 0).val * 512 + 1 * q.val = _
    omega
  · show cc0_transform_0 (grid0.coords t) 1 * 1024 + 1 * k.val = k.val
    rw [index0]
    show 0 * 1024 + 1 * k.val = _
    omega

/-- Where the block of an up-projection's half sits. -/
theorem inBlock (n : Fin 8) (f : Fin 2) (k : Fin 1024) (h : Fin 1792) (a : Fin 3) :
    (![n.val, 0, f.val] : Fin 3 → ℕ) a * S1x1024x1792.size a + 1 * (ix3 (0 : Fin 1) k h a).val = (ix3 n k (featOf f h) a).val := by
  fin_cases a
  · show n.val * 1 + 1 * 0 = n.val; omega
  · show 0 * 1024 + 1 * k.val = k.val; omega
  · show f.val * 1792 + 1 * h.val = 1792 * f.val + h.val; omega

/-- Where the block of a down-projection's half sits. -/
theorem outBlock (n : Fin 8) (f : Fin 2) (h : Fin 1792) (j : Fin 1024) (a : Fin 3) :
    (![n.val, f.val, 0] : Fin 3 → ℕ) a * S1x1792x1024.size a + 1 * (ix3 (0 : Fin 1) h j a).val = (ix3 n (featOf f h) j a).val := by
  fin_cases a
  · show n.val * 1 + 1 * 0 = n.val; omega
  · show f.val * 1792 + 1 * h.val = 1792 * f.val + h.val; omega
  · show 0 * 1024 + 1 * j.val = j.val; omega

/-- A weight block's entry in its array, at any tables. -/
theorem emb1 (a : (pcfg0 (F := F)).Adm) (t : Fin (cfg0 a).N) (y : S1x1024x1792.Idx) (ax : Fin 3) :
    ((((cfg0 a).win 1).blk t).view.emb y ax).val
      = cc0_transform_1 k0_off1_inb numel1_S1 a.1 (grid0.coords t) ax * S1x1024x1792.size ax + 1 * (y ax).val := rfl
theorem emb2 (a : (pcfg0 (F := F)).Adm) (t : Fin (cfg0 a).N) (y : S1x1024x1792.Idx) (ax : Fin 3) :
    ((((cfg0 a).win 2).blk t).view.emb y ax).val
      = cc0_transform_2 k0_off1_inb numel1_S1 a.1 (grid0.coords t) ax * S1x1024x1792.size ax + 1 * (y ax).val := rfl
theorem emb3 (a : (pcfg0 (F := F)).Adm) (t : Fin (cfg0 a).N) (y : S1x1792x1024.Idx) (ax : Fin 3) :
    ((((cfg0 a).win 3).blk t).view.emb y ax).val
      = cc0_transform_3 k0_off1_inb numel1_S1 a.1 (grid0.coords t) ax * S1x1792x1024.size ax + 1 * (y ax).val := rfl

theorem block_gate (hO : TabsOk m) (c : Dev nD) (t : Fin (pipe m hO).N) (k : Fin 1024) (h : Fin 1792) :
    blockAt m hO c 1 t (ix3 0 k h) = stackIn (gateIn m c) (ix3 (expertOfTile m (grid0.coords t 0)) k (featOf (grid0.coords t 1) h)) := by
  show entry m c main_v1 _ = _
  rw [entry_gate]
  refine congrArg _ (funext fun (a : Fin 3) => Fin.ext ((emb1 (admTabs m hO) t _ a).trans ?_))
  rw [show (admTabs m hO).1 = tabs m from rfl, index1]
  exact inBlock (expertOfTile m (grid0.coords t 0)) (grid0.coords t 1) k h a

theorem block_up (hO : TabsOk m) (c : Dev nD) (t : Fin (pipe m hO).N) (k : Fin 1024) (h : Fin 1792) :
    blockAt m hO c 2 t (ix3 0 k h) = stackIn (upIn m c) (ix3 (expertOfTile m (grid0.coords t 0)) k (featOf (grid0.coords t 1) h)) := by
  show entry m c main_v3 _ = _
  rw [entry_up]
  refine congrArg _ (funext fun (a : Fin 3) => Fin.ext ((emb2 (admTabs m hO) t _ a).trans ?_))
  rw [show (admTabs m hO).1 = tabs m from rfl, index2]
  exact inBlock (expertOfTile m (grid0.coords t 0)) (grid0.coords t 1) k h a

theorem block_down (hO : TabsOk m) (c : Dev nD) (t : Fin (pipe m hO).N) (h : Fin 1792) (j : Fin 1024) :
    blockAt m hO c 3 t (ix3 0 h j) = stackOut (downIn m c) (ix3 (expertOfTile m (grid0.coords t 0)) (featOf (grid0.coords t 1) h) j) := by
  show entry m c main_v5 _ = _
  rw [entry_down]
  refine congrArg _ (funext fun (a : Fin 3) => Fin.ext ((emb3 (admTabs m hO) t _ a).trans ?_))
  rw [show (admTabs m hO).1 = tabs m from rfl, index3]
  exact outBlock (expertOfTile m (grid0.coords t 0)) (grid0.coords t 1) h j a

/-- A rank-two index is its two coordinates. -/
theorem exists_ix2 {a b : ℕ} (y : (⟨2, ![a, b]⟩ : Shape).Idx) : ∃ (q : Fin a) (j : Fin b), y = ix2 q j := ⟨y 0, y 1, eq_ix2 y⟩

/-- The result's array after the run, from the blocks written back at the odd points. -/
theorem final_of (hO : TabsOk m) (c : Dev nD) (G : FVec F S69632x1024 .f32)
    (hG : ∀ t : Fin (pipe m hO).N, t.val % 2 = 1 → ∀ (q : Fin 512) (j : Fin 1024),
      outAt m hO c t (ix2 q j) = G (ix2 (rowOf (grid0.coords t 0) q) j)) :
    (dats m hO 0 c).arrAt 4 (pipe m hO).N = G := by
  refine Pipeline.Dat.arrAt_eq_of_emb (dats m hO 0 c) 4 G (fun t hf y => ?_) fun i => ?_
  · obtain ⟨q, j, rfl⟩ := exists_ix2 (a := 512) (b := 1024) y
    show (dats m hO 0 c).after 4 t (ix2 q j) = _
    rw [after_4, hG t ((flush_out _ t).mp hf)]
    refine congrArg G (funext fun (a : Fin 2) => Fin.ext ?_)
    have e : ∀ a : Fin 2, ((((pipe m hO).win 4).blk t).view.emb (ix2 q j) a).val
      = cc0_transform_4 (grid0.coords t) a * S512x1024.size a + 1 * (ix2 q j a).val := fun a => rfl
    refine Eq.trans ?_ (e a).symm
    rw [index4]
    fin_cases a
    · show 512 * (grid0.coords t 0).val + q.val = (grid0.coords t 0).val * 512 + 1 * q.val; omega
    · show j.val = 0 * 1024 + 1 * j.val; omega
  · obtain ⟨r, j, rfl⟩ := exists_ix2 (a := 69632) (b := 1024) i
    have hr := r.isLt
    have ht : 2 * (r.val / 512) + 1 < (pipe m hO).N := Nat.lt_of_lt_of_eq (by omega : _ < 272) N_0.symm
    refine ⟨⟨2 * (r.val / 512) + 1, ht⟩, (flush_out _ _).mpr (by show (2 * (r.val / 512) + 1) % 2 = 1; omega), ?_⟩
    have hi : (grid0.coords (⟨2 * (r.val / 512) + 1, ht⟩ : Fin grid0.N) 0).val = r.val / 512 :=
      (tile_of _).trans (by show (2 * (r.val / 512) + 1) / 2 = _; omega)
    refine (((pipe m hO).win 4).emb_mem_blk_iff ⟨2 * (r.val / 512) + 1, ht⟩ (ix2 r j)).mpr fun (a : Fin 2) => ?_
    show cc0_transform_4 (grid0.coords (⟨2 * (r.val / 512) + 1, ht⟩ : Fin grid0.N)) a * S512x1024.size a ≤ (ix2 r j a).val
      ∧ (ix2 r j a).val < cc0_transform_4 (grid0.coords (⟨2 * (r.val / 512) + 1, ht⟩ : Fin grid0.N)) a * S512x1024.size a + S512x1024.size a
    rw [index4, hi]
    fin_cases a
    · show r.val / 512 * 512 ≤ r.val ∧ r.val < r.val / 512 * 512 + 512; omega
    · have := j.isLt
      show 0 * 1024 ≤ j.val ∧ j.val < 0 * 1024 + 1024; omega

end Cert.Proof.Expert

end
-- ==== Proof.Expert.Value.lean ====
/- What the expert feed-forward call computes at the ideal reading: each row's expert's gated feed-forward output, the hidden
   features summed half by half, and zero for the rows of tiles without rows. -/
module

public import proofs.«01_k».proof.Proof.Expert.Blocks
public import Idealize.ShloMosaic.Lib.KernelVsHost
public import Idealize.ShloMosaic.Lib.StackMember
public import Idealize.ShloMosaic.Lib.ValueLayout
public import Idealize.ShloMosaic.Lib.IdealHost

@[expose] public section

set_option maxRecDepth 16384

noncomputable section

namespace Cert.Proof.Expert

open Cert.KernelIdeal Cert.KernelIdeal.Gen
open Idealize.ShloMosaic Idealize.ShloMosaic.TcCoe Idealize.SL.Sem Idealize.ShloMosaic.ValueIdx

/-! ## The arithmetic of one entry -/

/-- The number one, as both programs spell it. -/
abbrev oneI : Ideal .f32 := FloatOps.ofBits .f32 0x3F800000#32

/-- The gated activation of a pair of projections: `a · σ(a) · b`. -/
def act (a b : Ideal .f32) : Ideal .f32 :=
  a * Ideal.div oneI (oneI + FloatOps.hostUnary .exp (FloatOps.hostNegf a)) * b

/-- A product onto a zero accumulator, at an entry. -/
theorem product_apply {M K N : ℕ} {φ₁ φ₂ : FTy} (A : FVec Ideal ⟨2, ![M, K]⟩ φ₁) (B : FVec Ideal ⟨2, ![K, N]⟩ φ₂) (r : Fin M) (c : Fin N) :
    matmul (DotDims.plain M K N) none A B (constant ⟨2, ![M, N]⟩ .f32 0x00000000#32) (ix2 r c) = ∑ k : Fin K, A (ix2 r k) * B (ix2 k c) := by
  rw [matmul_zero_eq_dotGeneral]
  exact StackMember.dotGeneral_plain_apply none A B r c

theorem pay1_apply (i : S512x1024.Idx) : (k0_pay1 (F := Ideal)) i = 0 := Ideal.ofBits_zero_f32

/-- One step of the body at an entry: the accumulator and the half's share of the down-projection. -/
theorem pay2_apply (x : FVec Ideal S512x1024 .f32) (g u : FVec Ideal S1x1024x1792 .bf16) (a : FVec Ideal S512x1024 .f32)
    (d : FVec Ideal S1x1792x1024 .bf16) (q : Fin 512) (j : Fin 1024) :
    k0_pay2 x g u a d (ix2 q j) = a (ix2 q j) + ∑ h : Fin 1792,
      act (∑ k : Fin 1024, x (ix2 q k) * g (ix3 0 k h)) (∑ k : Fin 1024, x (ix2 q k) * u (ix3 0 k h)) * d (ix3 0 h j) := by
  have hg : ∀ (w : FVec Ideal S1x1024x1792 .bf16) (h : Fin 1792),
      matmul dot_S512x1024_S1024x1792_S512x1792_1_0_0_1_n_n none (truncf .bf16 x bitsLt_bf16_f32 : FVec Ideal S512x1024 .bf16)
        (shapeCast S1024x1792 w shapeCasts_S1x1024x1792_S1024x1792) (constant S512x1792 .f32 0x00000000#32) (ix2 q h)
      = ∑ k : Fin 1024, x (ix2 q k) * w (ix3 0 k h) := fun w h => by
    refine (product_apply (M := 512) (K := 1024) (N := 1792) _ _ q h).trans (Finset.sum_congr rfl fun k _ => ?_)
    rw [shapeCast_1ab_ab_apply]
    rfl
  unfold k0_pay2
  rw [addf_apply]
  refine congrArg₂ (· + ·) ?_ ?_
  · rw [shapeCast_self]
  · refine (product_apply (M := 512) (K := 1792) (N := 1024) _ _ q j).trans (Finset.sum_congr rfl fun h _ => ?_)
    rw [shapeCast_1ab_ab_apply, ← hg g h, ← hg u h, subf_zero_eq_hostNegf]
    rfl

/-! ## One tile -/

variable (m : (ℓ : Loc nD τ sig) → Buf (Elt Ideal) ℓ)

theorem stackIn_apply (w : FVec Ideal S1x8x1024x3584 .f32) (e : Fin 8) (k : Fin 1024) (h : Fin 3584) :
    stackIn w (ix3 e k h) = w (ix4 0 e k h) := shapeCast_1abc_abc_apply w _ e k h

theorem stackOut_apply (w : FVec Ideal S1x8x3584x1024 .f32) (e : Fin 8) (h : Fin 3584) (j : Fin 1024) :
    stackOut w (ix3 e h j) = w (ix4 0 e h j) := shapeCast_1abc_abc_apply w _ e h j

/-- Hidden feature `h`'s share of expert `e`'s output for the row `r`, at output feature `j`. -/
def share (x : FVec Ideal S69632x1024 .f32) (wg wu : FVec Ideal S1x8x1024x3584 .f32) (wd : FVec Ideal S1x8x3584x1024 .f32)
    (e : Fin 8) (r : Fin 69632) (j : Fin 1024) (h : Fin 3584) : Ideal .f32 :=
  act (∑ k : Fin 1024, x (ix2 r k) * wg (ix4 0 e k h)) (∑ k : Fin 1024, x (ix2 r k) * wu (ix4 0 e k h)) * wd (ix4 0 e h j)

/-- Expert `e`'s output for the row `r`. -/
def expertOut (x : FVec Ideal S69632x1024 .f32) (wg wu : FVec Ideal S1x8x1024x3584 .f32) (wd : FVec Ideal S1x8x3584x1024 .f32)
    (e : Fin 8) (r : Fin 69632) (j : Fin 1024) : Ideal .f32 := ∑ h : Fin 3584, share x wg wu wd e r j h

theorem sum_halves (f : Fin 3584 → Ideal .f32) :
    ∑ h : Fin 3584, f h = ∑ h : Fin 1792, f (featOf 0 h) + ∑ h : Fin 1792, f (featOf 1 h) := by
  refine (Fin.sum_univ_add (a := 1792) (b := 1792) f).trans ?_
  congr 1
  all_goals
    refine Finset.sum_congr rfl fun h _ => congrArg f (Fin.ext ?_)
    simp [featOf]

theorem cond2_iff : ∀ b : BitVec 1, k0_cond2 (b.setWidth 32) = 1#1 ↔ b = 1#1 := by decide

/-- Whether tile `i` has rows, as the bit the table is made of. -/
abbrev hasRows (i : Fin 136) : BitVec 1 := IntOp.cmpi .slt (BitVec.ofNat 32 (512 * i.val)) (endsOf (totals m) (ix1 7))

/-- The body's step at point `t`, at an entry. -/
theorem pointOut_apply (hO : TabsOk m) (c : Dev nD) (t : Fin (pipe m hO).N) (xo : FVec Ideal S512x1024 .f32) (q : Fin 512) (j : Fin 1024) :
    pointOut m hO c t xo (ix2 q j) = if hasRows m (grid0.coords t 0) = 1#1 then
        accIn (F := Ideal) (grid0.coords t) xo (ix2 q j) + ∑ h : Fin 1792, share (rowsIn m c) (gateIn m c) (upIn m c) (downIn m c)
          (expertOfTile m (grid0.coords t 0)) (rowOf (grid0.coords t 0) q) j (featOf (grid0.coords t 1) h)
      else accIn (F := Ideal) (grid0.coords t) xo (ix2 q j) := by
  unfold pointOut stepOut
  rw [used_tab]
  by_cases hu : hasRows m (grid0.coords t 0) = 1#1
  · rw [if_pos ((cond2_iff _).mpr hu), if_pos hu]
    refine (pay2_apply _ _ _ _ _ q j).trans ?_
    refine congrArg (accIn (F := Ideal) (grid0.coords t) xo (ix2 q j) + ·) (Finset.sum_congr rfl fun h _ => ?_)
    unfold share
    have e1 := fun k : Fin 1024 => congrArg₂ (fun a b : Ideal .f32 => a * b) (block_rows m hO c t q k)
      ((block_gate m hO c t k h).trans (stackIn_apply _ _ _ _))
    have e2 := fun k : Fin 1024 => congrArg₂ (fun a b : Ideal .f32 => a * b) (block_rows m hO c t q k)
      ((block_up m hO c t k h).trans (stackIn_apply _ _ _ _))
    have e3 : blockAt m hO c 3 t (ix3 0 h j) = downIn m c (ix4 0 (expertOfTile m (grid0.coords t 0)) (featOf (grid0.coords t 1) h) j) := by
      rw [block_down, stackOut_apply]
    exact congrArg₂ (fun a b : Ideal .f32 => a * b) (congrArg₂ act (Finset.sum_congr rfl fun k _ => e1 k) (Finset.sum_congr rfl fun k _ => e2 k)) e3
  · rw [if_neg (fun h => hu ((cond2_iff _).mp h)), if_neg hu]

/-- What an odd point leaves: the tile's whole output, or zero. -/
theorem outAt_odd (hO : TabsOk m) (c : Dev nD) (t : Fin (pipe m hO).N) (ht : t.val % 2 = 1) (q : Fin 512) (j : Fin 1024) :
    outAt m hO c t (ix2 q j) = if hasRows m (grid0.coords t 0) = 1#1 then
        expertOut (rowsIn m c) (gateIn m c) (upIn m c) (downIn m c) (expertOfTile m (grid0.coords t 0)) (rowOf (grid0.coords t 0) q) j
      else 0 := by
  have hN : t.val < grid0.N := t.isLt
  have hp : t.val - 1 < grid0.N := prev_lt m hO t
  have c0 : grid0.coords ⟨t.val - 1, hp⟩ 0 = grid0.coords t 0 := Fin.ext (by
    rw [tile_of, tile_of]; show (t.val - 1) / 2 = t.val / 2; omega)
  have h0 : grid0.coords ⟨t.val - 1, hp⟩ 1 = (0 : Fin 2) := Fin.ext (by
    rw [half_of]; show (t.val - 1) % 2 = 0; omega)
  have h1 : grid0.coords t 1 = (1 : Fin 2) := Fin.ext (by rw [half_of]; exact ht)
  have r0 : k0_cond1 (grid0.coords ⟨t.val - 1, hp⟩) = 1#1 := (reset_iff _).mpr (by show (t.val - 1) % 2 = 0; omega)
  have r1 : ¬ k0_cond1 (grid0.coords t) = 1#1 := fun h => by have := (reset_iff _).mp h; omega
  unfold outAt
  rw [if_neg (by omega), pointOut_apply]
  unfold accIn
  rw [if_neg r1, pointOut_apply]
  unfold accIn
  rw [if_pos r0, c0]
  split
  · rw [pay1_apply, h0, h1, zero_add]
    exact (sum_halves _).symm
  · exact pay1_apply _

/-- Each entry of the result: the output of the row's expert, or zero past the last expert's rows. -/
def kernelOut (x : FVec Ideal S69632x1024 .f32) (tot : FVec Ideal S8x128 .f32) (wg wu : FVec Ideal S1x8x1024x3584 .f32)
    (wd : FVec Ideal S1x8x3584x1024 .f32) : FVec Ideal S69632x1024 .f32 := fun i =>
  if IntOp.cmpi .slt (BitVec.ofNat 32 (i 0).val) (endsOf tot (ix1 7)) = 1#1 then
    expertOut x wg wu wd ⟨expertAt (endsOf tot) (BitVec.ofNat 32 (i 0).val), expertAt_lt _ _⟩ (i 0) (i 1)
  else 0

/-- The call's result. -/
theorem final (hO : TabsOk m) (c : Dev nD) : (dats m hO 0 c).arrAt 4 (pipe m hO).N
    = kernelOut (rowsIn m c) (m ((c : Thread nD τ).loc main_arg1)) (gateIn m c) (upIn m c) (downIn m c) := by
  obtain rfl : c = 0 := Subsingleton.elim _ _
  refine final_of m hO 0 _ fun t ht q j => ?_
  rw [outAt_odd m hO 0 t ht]
  have hi : (grid0.coords t 0).val < 136 := (grid0.coords t 0).isLt
  have hu := used_tile (totals m) (grid0.coords t 0).val q.val hi q.isLt
  have he := expertAt_tile (totals m) (grid0.coords t 0).val q.val hi q.isLt
  show _ = if IntOp.cmpi .slt (BitVec.ofNat 32 (512 * (grid0.coords t 0).val + q.val)) (endsOf (totals m) (ix1 7)) = 1#1 then
    expertOut _ _ _ _ ⟨expertAt (endsOf (totals m)) (BitVec.ofNat 32 (512 * (grid0.coords t 0).val + q.val)), expertAt_lt _ _⟩
      (rowOf (grid0.coords t 0) q) j else 0
  rw [hu]
  simp only [he]

end Cert.Proof.Expert

end
-- ==== Proof.Expert.Reference.lean ====
/- The reference's value, entry by entry: every expert's output for every row, weighted by whether the row is the expert's, and
   summed. Only the row's own expert is left. -/
module

public import proofs.«01_k».proof.Proof.Expert.Value
public import proofs.«01_k».proof.Proof.Gen.ReferenceIdeal.Run

@[expose] public section

set_option maxRecDepth 16384

noncomputable section

namespace Cert.Proof.ExpertReference

open Cert.ReferenceIdeal Cert.ReferenceIdeal.Gen
open Idealize.ShloMosaic Idealize.ShloMosaic.TcCoe Idealize.SL.Sem Idealize.ShloMosaic.ValueIdx
open Cert.Proof.Expert (oneI act share expertOut expertAt expertAt_lt expert_word lastEnd kernelOut)

/-! ## The gates -/

/-- Whether a row lies before the last expert's end, and whether expert `e` is its own. -/
def gatesOf (ends : IVec S8 32) : FVec Ideal S69632x8 .f32 :=
  mulf (uitofp .f32 (cmpi .eq (broadcastInDim S69632x8 ![0, 1] bcast_S69632x1_S69632x8_0_1 (broadcastInDim S69632x1 ![0] bcast_S69632_S69632x1_0
      (minsi (Host.reduce IntOp.addi (extui 32 (cmpi .sge (broadcastInDim S69632x8 ![0, 1] bcast_S69632x1_S69632x8_0_1
        (broadcastInDim S69632x1 ![0] bcast_S69632_S69632x1_0 (iotaInDim S69632 32 0)))
        (broadcastInDim S69632x8 ![0, 1] bcast_S1x8_S69632x8_0_1 (broadcastInDim S1x8 ![1] bcast_S8_S1x8_1 ends))) natLt_1_32)
        (constantI S_ 32 0#32) reducesTo_S69632x8_S69632_d1 h_S_) (broadcastInDim S69632 ![] bcast_S_S69632 (constantI S_ 32 7#32)))))
    (broadcastInDim S69632x8 ![0, 1] bcast_S1x8_S69632x8_0_1 (iotaInDim S1x8 32 1))))
  (broadcastInDim S69632x8 ![0, 1] bcast_S69632x1_S69632x8_0_1 (broadcastInDim S69632x1 ![0] bcast_S69632_S69632x1_0
    (sitofp .f32 (extui 32 (cmpi .slt (iotaInDim S69632 32 0) (broadcastInDim S69632 ![] bcast_S_S69632
      (shapeCast S_ (extractStridedSlice S1 ![7] ends slices_S8_S1_7) shapeCasts_S1_S_))) natLt_1_32))))

/-- A bit as a number. -/
theorem bit_number (b : BitVec 1) : (FloatOps.uitofp .f32 b : Ideal .f32) = if b = 1#1 then 1 else 0 := by
  rcases (by decide +revert : b = 0#1 ∨ b = 1#1) with rfl | rfl
  · show ((((0#1 : BitVec 1).toNat : ℕ) : ℝ) : EReal) = _
    simp
  · show ((((1#1 : BitVec 1).toNat : ℕ) : ℝ) : EReal) = _
    simp

theorem row_iota (n w : ℕ) (r : Fin n) : (iotaInDim (Routing.shape1 n) w 0) (ix1 r) = BitVec.ofNat w r.val := rfl

theorem lane_iota (r : Fin 69632) (e : Fin 8) :
    broadcastInDim S69632x8 ![0, 1] bcast_S1x8_S69632x8_0_1 (iotaInDim S1x8 32 1) (ix2 r e) = BitVec.ofNat 32 e.val := by
  refine (broadcastInDim_apply _ _ _ _ (ix2 (0 : Fin 1) e) fun a => ?_).trans rfl
  match a with
  | ⟨0, _⟩ => rfl
  | ⟨1, _⟩ => rfl

theorem gates_apply (ends : IVec S8 32) (r : Fin 69632) (e : Fin 8) :
    gatesOf ends (ix2 r e) = if e.val = expertAt ends (BitVec.ofNat 32 r.val) ∧ IntOp.cmpi .slt (BitVec.ofNat 32 r.val) (ends (ix1 7)) = 1#1
      then 1 else 0 := by
  unfold gatesOf
  rw [sitofp_extui_eq_uitofp]
  refine (congrArg₂ (fun a b : Ideal .f32 => a * b) (bit_number _) ((Routing.bcRows _ _ _ r e).trans (bit_number _))).trans ?_
  have hE := expertAt_lt ends (BitVec.ofNat 32 r.val)
  have h1 : (cmpi .eq (broadcastInDim S69632x8 ![0, 1] bcast_S69632x1_S69632x8_0_1 (broadcastInDim S69632x1 ![0] bcast_S69632_S69632x1_0
      (minsi (Host.reduce IntOp.addi (extui 32 (cmpi .sge (broadcastInDim S69632x8 ![0, 1] bcast_S69632x1_S69632x8_0_1
        (broadcastInDim S69632x1 ![0] bcast_S69632_S69632x1_0 (iotaInDim S69632 32 0)))
        (broadcastInDim S69632x8 ![0, 1] bcast_S1x8_S69632x8_0_1 (broadcastInDim S1x8 ![1] bcast_S8_S1x8_1 ends))) natLt_1_32)
        (constantI S_ 32 0#32) reducesTo_S69632x8_S69632_d1 h_S_) (broadcastInDim S69632 ![] bcast_S_S69632 (constantI S_ 32 7#32)))))
      (broadcastInDim S69632x8 ![0, 1] bcast_S1x8_S69632x8_0_1 (iotaInDim S1x8 32 1)) (ix2 r e) : BitVec 1) = 1#1
      ↔ e.val = expertAt ends (BitVec.ofNat 32 r.val) := by
    show IntOp.cmpi .eq _ _ = 1#1 ↔ _
    rw [lane_iota, Routing.bcRows (n := 69632) (m := 8)]
    have hm : _ = BitVec.ofNat 32 (expertAt ends (BitVec.ofNat 32 r.val)) := expert_word (n := 69632) ends (iotaInDim S69632 32 0) bcast_S69632_S69632x1_0 bcast_S69632x1_S69632x8_0_1
      bcast_S8_S1x8_1 bcast_S1x8_S69632x8_0_1 reducesTo_S69632x8_S69632_d1 h_S_ natLt_1_32 r
    have hc : (broadcastInDim S69632 ![] bcast_S_S69632 (constantI S_ 32 7#32)) (ix1 r) = 7#32 := Routing.bc0 _ _ _
    show IntOp.cmpi .eq (IntOp.minsi _ _) _ = 1#1 ↔ _
    rw [hc]
    refine (iff_of_eq (congrArg (fun w => IntOp.cmpi .eq w (BitVec.ofNat 32 e.val) = 1#1) hm)).trans ?_
    show BitVec.ofBool (_ == _) = 1#1 ↔ _
    have he := e.isLt
    generalize expertAt ends (BitVec.ofNat 32 r.val) = n at *
    obtain ⟨e, _⟩ := e
    clear hm hc
    show BitVec.ofBool (BitVec.ofNat 32 n == BitVec.ofNat 32 e) = 1#1 ↔ e = n
    interval_cases n <;> interval_cases e <;> decide
  have h2 : (cmpi .slt (iotaInDim S69632 32 0) (broadcastInDim S69632 ![] bcast_S_S69632
      (shapeCast S_ (extractStridedSlice S1 ![7] ends slices_S8_S1_7) shapeCasts_S1_S_)) (ix1 r) : BitVec 1)
      = IntOp.cmpi .slt (BitVec.ofNat 32 r.val) (ends (ix1 7)) := by
    show IntOp.cmpi .slt _ _ = _
    rw [Routing.bc0, lastEnd]
    rfl
  rw [h2]
  by_cases a1 : e.val = expertAt ends (BitVec.ofNat 32 r.val)
  · by_cases a2 : IntOp.cmpi .slt (BitVec.ofNat 32 r.val) (ends (ix1 7)) = 1#1
    · rw [if_pos (h1.mpr a1), if_pos a2, if_pos (And.intro a1 a2), mul_one]
    · rw [if_neg a2, mul_zero, if_neg (fun h : _ ∧ _ => a2 h.2)]
  · rw [if_neg (fun h => a1 (h1.mp h)), zero_mul, if_neg (fun h : _ ∧ _ => a1 h.1)]

/-! ## One expert's part -/

/-- Expert `e`'s output for every row, weighted by its gate. -/
def part (e : ℕ) (h₁ : S69632x8.Slices ![0, e] S69632x1) (h₂ : S1x8x1024x3584.Slices ![0, e, 0, 0] S1x1x1024x3584)
    (h₃ : S1x8x3584x1024.Slices ![0, e, 0, 0] S1x1x3584x1024) (gates : FVec Ideal S69632x8 .f32) (x : FVec Ideal S69632x1024 .f32)
    (wg wu : FVec Ideal S1x8x1024x3584 .f32) (wd : FVec Ideal S1x8x3584x1024 .f32) : FVec Ideal S69632x1024 .f32 :=
  let A : FVec Ideal S69632x3584 .f32 := Host.dotGeneral dot_S69632x1024_S1024x3584_S69632x3584_1_0_0_1_n_n none x
    (shapeCast S1024x3584 (extractStridedSlice S1x1x1024x3584 ![0, e, 0, 0] wg h₂) shapeCasts_S1x1x1024x3584_S1024x3584)
  mulf (broadcastInDim S69632x1024 ![0, 1] bcast_S69632x1_S69632x1024_0_1 (extractStridedSlice S69632x1 ![0, e] gates h₁))
    (Host.dotGeneral dot_S69632x3584_S3584x1024_S69632x1024_1_0_0_1_n_n none
      (mulf (mulf A (Host.divf (broadcastInDim S69632x3584 ![] bcast_S_S69632x3584 (constant S_ .f32 0x3F800000#32))
          (addf (broadcastInDim S69632x3584 ![] bcast_S_S69632x3584 (constant S_ .f32 0x3F800000#32)) (Host.exp (Host.negf A)))))
        (Host.dotGeneral dot_S69632x1024_S1024x3584_S69632x3584_1_0_0_1_n_n none x
          (shapeCast S1024x3584 (extractStridedSlice S1x1x1024x3584 ![0, e, 0, 0] wu h₂) shapeCasts_S1x1x1024x3584_S1024x3584)))
      (shapeCast S3584x1024 (extractStridedSlice S1x1x3584x1024 ![0, e, 0, 0] wd h₃) shapeCasts_S1x1x3584x1024_S3584x1024))

/-- One expert's matrix out of a stack. -/
theorem expert_slice {a b : ℕ} (e : Fin 8) (w : (⟨4, ![1, 8, a, b]⟩ : Shape).Idx → Ideal .f32)
    (h : (⟨4, ![1, 8, a, b]⟩ : Shape).Slices ![0, e.val, 0, 0] ⟨4, ![1, 1, a, b]⟩)
    (hc : (⟨4, ![1, 1, a, b]⟩ : Shape).ShapeCasts ⟨2, ![a, b]⟩) (k : Fin a) (j : Fin b) :
    shapeCast ⟨2, ![a, b]⟩ (extractStridedSlice ⟨4, ![1, 1, a, b]⟩ ![0, e.val, 0, 0] w h) hc (ix2 k j) = w (ix4 0 e k j) := by
  refine (shapeCast_apply _ hc (ix2 k j) (ix4 0 0 k j) ?_).trans ?_
  · rw [Shape.rowMajor_val_four, Shape.rowMajor_val_two]
    show ((0 * 1 + 0) * a + k.val) * b + j.val = k.val * b + j.val
    simp only [Nat.zero_mul, Nat.zero_add]
  · refine extractStridedSlice_apply _ _ _ _ _ fun a' => ?_
    match a' with
    | ⟨0, _⟩ => rfl
    | ⟨1, _⟩ => rfl
    | ⟨2, _⟩ => exact (Nat.zero_add _).symm
    | ⟨3, _⟩ => exact (Nat.zero_add _).symm

theorem part_apply (e : Fin 8) (h₁ : S69632x8.Slices ![0, e.val] S69632x1) (h₂ : S1x8x1024x3584.Slices ![0, e.val, 0, 0] S1x1x1024x3584)
    (h₃ : S1x8x3584x1024.Slices ![0, e.val, 0, 0] S1x1x3584x1024) (gates : FVec Ideal S69632x8 .f32) (x : FVec Ideal S69632x1024 .f32)
    (wg wu : FVec Ideal S1x8x1024x3584 .f32) (wd : FVec Ideal S1x8x3584x1024 .f32) (r : Fin 69632) (j : Fin 1024) :
    part e.val h₁ h₂ h₃ gates x wg wu wd (ix2 r j) = gates (ix2 r e) * expertOut x wg wu wd e r j := by
  unfold part expertOut
  refine congrArg₂ (fun a b : Ideal .f32 => a * b) ?_ ?_
  · refine (broadcastInDim_apply _ _ _ _ (ix2 r (0 : Fin 1)) fun a => ?_).trans ?_
    · match a with
      | ⟨0, _⟩ => rfl
      | ⟨1, _⟩ => rfl
    · refine extractStridedSlice_apply _ _ _ _ _ fun a' => ?_
      match a' with
      | ⟨0, _⟩ => exact (Nat.zero_add _).symm
      | ⟨1, _⟩ => rfl
  · refine (StackMember.dotGeneral_plain_apply (m := 69632) (k := 3584) (n := 1024) none _ _ r j).trans (Finset.sum_congr rfl fun h _ => ?_)
    unfold share act
    have hA : ∀ w : FVec Ideal S1x8x1024x3584 .f32, Host.dotGeneral dot_S69632x1024_S1024x3584_S69632x3584_1_0_0_1_n_n none x
        (shapeCast S1024x3584 (extractStridedSlice S1x1x1024x3584 ![0, e.val, 0, 0] w h₂) shapeCasts_S1x1x1024x3584_S1024x3584) (ix2 r h)
        = ∑ k : Fin 1024, x (ix2 r k) * w (ix4 0 e k h) := fun w =>
      (StackMember.dotGeneral_plain_apply (m := 69632) (k := 1024) (n := 3584) none _ _ r h).trans
        (Finset.sum_congr rfl fun k _ => congrArg (fun b : Ideal .f32 => x (ix2 r k) * b) (expert_slice e w h₂ _ k h))
    have h1 : (broadcastInDim S69632x3584 ![] bcast_S_S69632x3584 (constant (F := Ideal) S_ .f32 0x3F800000#32)) (ix2 r h) = oneI :=
      Routing.bc0 _ _ _
    rw [← hA wg, ← hA wu, ← h1]
    exact congrArg (fun b : Ideal .f32 => _ * b) (expert_slice e wd h₃ _ h j)

/-! ## The sum -/

/-- The gated sum over the experts is the row's own expert's output, or zero past the last end. -/
theorem sum_gated (x : FVec Ideal S69632x1024 .f32) (ends : IVec S8 32)
    (wg wu : FVec Ideal S1x8x1024x3584 .f32) (wd : FVec Ideal S1x8x3584x1024 .f32) (r : Fin 69632) (j : Fin 1024) :
    ∑ e : Fin 8, gatesOf ends (ix2 r e) * expertOut x wg wu wd e r j
      = if IntOp.cmpi .slt (BitVec.ofNat 32 r.val) (ends (ix1 7)) = 1#1 then
          expertOut x wg wu wd ⟨expertAt ends (BitVec.ofNat 32 r.val), expertAt_lt _ _⟩ r j
        else 0 := by
  by_cases hu : IntOp.cmpi .slt (BitVec.ofNat 32 r.val) (ends (ix1 7)) = 1#1
  · rw [if_pos hu, Finset.sum_eq_single ⟨expertAt ends (BitVec.ofNat 32 r.val), expertAt_lt _ _⟩]
    · rw [gates_apply, if_pos ⟨rfl, hu⟩, one_mul]
    · intro e _ he
      rw [gates_apply, if_neg (fun h => he (Fin.ext h.1)), zero_mul]
    · exact fun h => absurd (Finset.mem_univ _) h
  · rw [if_neg hu]
    refine Finset.sum_eq_zero fun e _ => ?_
    rw [gates_apply, if_neg (fun h => hu h.2), zero_mul]

theorem add_eight (z a b c d e f g h : Ideal .f32) (hz : z = 0) :
    z + a + b + c + d + e + f + g + h = a + b + c + d + e + f + g + h := by rw [hz, zero_add]

variable (V0 : Valuation τ sig (Elt Ideal))

theorem ends_eq : Value.res_main_v8 V0 = Expert.endsOf (F := Ideal) (V0 (Proc.devRef .tc main_arg1)) := rfl

theorem gates_eq : Value.res_main_v28 V0 = gatesOf (Expert.endsOf (F := Ideal) (V0 (Proc.devRef .tc main_arg1))) :=
  (rfl : Value.res_main_v28 V0 = gatesOf (Value.res_main_v8 V0)).trans (congrArg gatesOf (ends_eq V0))

/-- Expert `e`'s part of the reference's result. -/
abbrev partOf (e : ℕ) (h₁ : S69632x8.Slices ![0, e] S69632x1) (h₂ : S1x8x1024x3584.Slices ![0, e, 0, 0] S1x1x1024x3584)
    (h₃ : S1x8x3584x1024.Slices ![0, e, 0, 0] S1x1x3584x1024) : FVec Ideal S69632x1024 .f32 :=
  part e h₁ h₂ h₃ (Value.res_main_v28 V0) (V0 (Proc.devRef .tc main_arg0)) (V0 (Proc.devRef .tc main_arg2))
    (V0 (Proc.devRef .tc main_arg3)) (V0 (Proc.devRef .tc main_arg4))

/-- The eight parts, summed. -/
abbrev total : FVec Ideal S69632x1024 .f32 :=
  addf (addf (addf (addf (addf (addf (addf (addf (broadcastInDim S69632x1024 ![] bcast_S_S69632x1024 (constant S_ .f32 0x00000000#32))
    (partOf V0 0 slices_S69632x8_S69632x1_0_0 slices_S1x8x1024x3584_S1x1x1024x3584_0_0_0_0 slices_S1x8x3584x1024_S1x1x3584x1024_0_0_0_0))
    (partOf V0 1 slices_S69632x8_S69632x1_0_1 slices_S1x8x1024x3584_S1x1x1024x3584_0_1_0_0 slices_S1x8x3584x1024_S1x1x3584x1024_0_1_0_0))
    (partOf V0 2 slices_S69632x8_S69632x1_0_2 slices_S1x8x1024x3584_S1x1x1024x3584_0_2_0_0 slices_S1x8x3584x1024_S1x1x3584x1024_0_2_0_0))
    (partOf V0 3 slices_S69632x8_S69632x1_0_3 slices_S1x8x1024x3584_S1x1x1024x3584_0_3_0_0 slices_S1x8x3584x1024_S1x1x3584x1024_0_3_0_0))
    (partOf V0 4 slices_S69632x8_S69632x1_0_4 slices_S1x8x1024x3584_S1x1x1024x3584_0_4_0_0 slices_S1x8x3584x1024_S1x1x3584x1024_0_4_0_0))
    (partOf V0 5 slices_S69632x8_S69632x1_0_5 slices_S1x8x1024x3584_S1x1x1024x3584_0_5_0_0 slices_S1x8x3584x1024_S1x1x3584x1024_0_5_0_0))
    (partOf V0 6 slices_S69632x8_S69632x1_0_6 slices_S1x8x1024x3584_S1x1x1024x3584_0_6_0_0 slices_S1x8x3584x1024_S1x1x3584x1024_0_6_0_0))
    (partOf V0 7 slices_S69632x8_S69632x1_0_7 slices_S1x8x1024x3584_S1x1x1024x3584_0_7_0_0 slices_S1x8x3584x1024_S1x1x3584x1024_0_7_0_0)

theorem total_eq : total V0 = kernelOut (V0 (Proc.devRef .tc main_arg0)) (V0 (Proc.devRef .tc main_arg1))
    (V0 (Proc.devRef .tc main_arg2)) (V0 (Proc.devRef .tc main_arg3)) (V0 (Proc.devRef .tc main_arg4)) := by
  funext i
  obtain ⟨r, j, rfl⟩ := Expert.exists_ix2 (a := 69632) (b := 1024) i
  have hz : (broadcastInDim S69632x1024 ![] bcast_S_S69632x1024 (constant (F := Ideal) S_ .f32 0x00000000#32)) (ix2 r j) = 0 :=
    (Routing.bc0 _ _ _).trans Ideal.ofBits_zero_f32
  have hp := fun (e : Fin 8) h₁ h₂ h₃ => (part_apply e h₁ h₂ h₃ (Value.res_main_v28 V0)
    (V0 (Proc.devRef .tc main_arg0)) (V0 (Proc.devRef .tc main_arg2)) (V0 (Proc.devRef .tc main_arg3))
    (V0 (Proc.devRef .tc main_arg4)) r j).trans (by rw [gates_eq])
  refine Eq.trans ?_ (sum_gated (V0 (Proc.devRef .tc main_arg0)) (Expert.endsOf (F := Ideal) (V0 (Proc.devRef .tc main_arg1)))
    (V0 (Proc.devRef .tc main_arg2)) (V0 (Proc.devRef .tc main_arg3)) (V0 (Proc.devRef .tc main_arg4)) r j)
  rw [Fin.sum_univ_eight]
  refine (add_eight _ _ _ _ _ _ _ _ _ hz).trans ?_
  exact congrArg₂ (fun a b : Ideal .f32 => a + b) (congrArg₂ (fun a b : Ideal .f32 => a + b) (congrArg₂ (fun a b : Ideal .f32 => a + b)
    (congrArg₂ (fun a b : Ideal .f32 => a + b) (congrArg₂ (fun a b : Ideal .f32 => a + b) (congrArg₂ (fun a b : Ideal .f32 => a + b)
    (congrArg₂ (fun a b : Ideal .f32 => a + b) (hp 0 _ _ _) (hp 1 _ _ _)) (hp 2 _ _ _)) (hp 3 _ _ _)) (hp 4 _ _ _)) (hp 5 _ _ _))
    (hp 6 _ _ _)) (hp 7 _ _ _)

variable (m : (ℓ : Loc nD τ sig) → Buf (Elt Ideal) ℓ)

/-- The reference's result is the same array of rows. -/
theorem run (ρ : Dev nD → PrngReg) :
    θ_run defs (onTc (τ := τ) (main (F := Ideal))) ⟨m, fun _ => 0, ρ⟩ fun r => ∀ c : Dev nD,
      r.2.mem ((c.tc : Thread nD τ).loc main_v149) = kernelOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, (h c).2⟩) (Value.run m ρ)
  exact ((h c).1.trans (rfl : _ = total (StableHlo.launchContents m c))).trans (total_eq (StableHlo.launchContents m c))

end Cert.Proof.ExpertReference

end
-- ==== Proof.ExpertWords.Tables.lean ====
/- The tables of the expert call as printed, and that the weight blocks they name lie inside the weights. The look-ups' words
   are those of the ideal reading: no float enters them but the counts. -/
module

public import proofs.«01_k».proof.Proof.ExpertWords.Run
public import proofs.«01_k».proof.Proof.Expert.Words

@[expose] public section

set_option maxRecDepth 16384

noncomputable section

namespace Cert.Proof.ExpertWords

open Cert.Kernel Cert.Kernel.Gen
open Idealize.ShloMosaic Idealize.ShloMosaic.TcCoe Idealize.ShloMosaic.StableHlo Idealize.SL.Sem Idealize.ShloMosaic.ValueIdx
open Cert.Proof.Expert (endsOf expertOf usedOf expertOf_apply usedOf_apply expertAt expertAt_lt)

variable {F : FTy → Type} [FloatOps F]

variable (m : (ℓ : Loc nD τ sig) → Buf (Elt F) ℓ)

set_option maxHeartbeats 2000000 in
theorem entry_expert (c : Dev nD) : entry m c main_v26 = expertOf (endsOf (F := F) (m ((c : Thread nD τ).loc main_arg1))) := by
  simp only [entry, hostOps0, hostOps0_1, hostOps0_2, hostOps0_3, hostOps0_4, TRef.binary, TRef.nullary, TRef.unary,
    TRef.ternary, TRef.toBuf, TRef.ofBuf, cast_eq, List.flatten_cons, List.flatten_nil, List.append_nil, List.cons_append,
    List.nil_append]
  after_results_simp
  rfl

/-- The rows' counts as launched. -/
abbrev totals : FVec F S8x128 .f32 := m (((0 : Dev nD) : Thread nD τ).loc main_arg1)

theorem tile_lt (i : grid0.Coords) : (i 0).val < 136 := (i 0).isLt

theorem off_val (i : grid0.Coords) : k0_off1 i = ![(i 0).val] := by
  have h : (i 0).val < 136 := (i 0).isLt
  have e : (Scalar.indexCast (BitVec.ofNat 32 (i 0).val) : Index).toNat = (i 0).val := by
    simp [Scalar.indexCast]; omega
  unfold k0_off1
  dsimp only
  rw [e]

theorem expert_tab (i : grid0.Coords) :
    (tabs m).at 0 (Rect.unit (s := S136) (k0_off1 i) S1.size (k0_off1_inb i)) numel1_S1
      = BitVec.ofNat 32 (expertAt (endsOf (totals m)) (BitVec.ofNat 32 (512 * (i 0).val))) := by
  rw [← expertOf_apply _ (i 0), ← entry_expert m 0]
  show entry m 0 main_v26 _ = entry m 0 main_v26 _
  refine congrArg _ (funext fun (a : Fin 1) => Fin.ext ?_)
  obtain rfl : a = 0 := Subsingleton.elim a 0
  have ho : k0_off1 i 0 = (i 0).val := by rw [off_val]; rfl
  have h := (Shape.Idx.first (s := S1) (numel1_S1.symm ▸ Nat.one_pos) 0).isLt
  have hs : S1.size 0 = 1 := rfl
  show k0_off1 i 0 + 1 * (Shape.Idx.first (s := S1) (numel1_S1.symm ▸ Nat.one_pos) 0).val = (i 0).val
  omega

/-! ## The weight blocks lie inside the weights -/

theorem expert_tab_nat (i : grid0.Coords) :
    ((tabs m).at 0 (Rect.unit (s := S136) (k0_off1 i) S1.size (k0_off1_inb i)) numel1_S1 : BitVec 32).toNat
      = expertAt (endsOf (totals m)) (BitVec.ofNat 32 (512 * (i 0).val)) := by
  rw [expert_tab, BitVec.toNat_ofNat, Nat.mod_eq_of_lt]
  have := expertAt_lt (endsOf (totals m)) (BitVec.ofNat 32 (512 * (i 0).val))
  omega

/-- The expert of grid point `i`. -/
abbrev expertPt (i : grid0.Coords) : ℕ := expertAt (endsOf (totals m)) (BitVec.ofNat 32 (512 * (i 0).val))

theorem half_toNat (i : grid0.Coords) : (BitVec.ofNat 32 (i 1).val).toNat = (i 1).val := by
  have h : (i 1).val < 2 := (i 1).isLt
  rw [BitVec.toNat_ofNat, Nat.mod_eq_of_lt (by omega)]

theorem index1 (i : grid0.Coords) :
    cc0_transform_1 k0_off1_inb numel1_S1 (tabs m) i = ![expertPt m i, 0, (i 1).val] := by
  unfold cc0_transform_1
  dsimp only
  rw [half_toNat]
  have h := expert_tab_nat m i
  exact congrArg (fun n => ![n, 0, (i 1).val]) h

theorem index2 (i : grid0.Coords) :
    cc0_transform_2 k0_off1_inb numel1_S1 (tabs m) i = ![expertPt m i, 0, (i 1).val] := index1 m i

theorem index3 (i : grid0.Coords) :
    cc0_transform_3 k0_off1_inb numel1_S1 (tabs m) i = ![expertPt m i, (i 1).val, 0] := by
  unfold cc0_transform_3
  dsimp only
  rw [half_toNat]
  have h := expert_tab_nat m i
  exact congrArg (fun n => ![n, (i 1).val, 0]) h

/-- The blocks the expert table names lie inside the weights, whatever the counts are. -/
theorem tabsOk : TabsOk m := by
  have he : ∀ i : grid0.Coords, expertPt m i < 8 := fun i => expertAt_lt _ _
  have hf : ∀ i : grid0.Coords, (i 1).val < 2 := fun i => (i 1).isLt
  refine ⟨fun i => ?_, fun i => ?_, fun i => ?_⟩
  · have hb : ∀ a, (cc0_transform_1 k0_off1_inb numel1_S1 (tabs m) i a + 1) * S1x1024x1792.size a ≤ S8x1024x3584.size a := by
      rw [index1]; have := he i; have := hf i
      intro a; fin_cases a
      · show (expertPt m i + 1) * 1 ≤ 8; omega
      · show (0 + 1) * 1024 ≤ 1024; omega
      · show ((i 1).val + 1) * 1792 ≤ 3584; omega
    refine ⟨hb, .inr (.inr ⟨by decide, rfl, ?_, rfl⟩)⟩
    show cc0_transform_1 k0_off1_inb numel1_S1 (tabs m) i 1 * 1024 = 0
    rw [index1]; rfl
  · have hb : ∀ a, (cc0_transform_2 k0_off1_inb numel1_S1 (tabs m) i a + 1) * S1x1024x1792.size a ≤ S8x1024x3584.size a := by
      rw [index2]; have := he i; have := hf i
      intro a; fin_cases a
      · show (expertPt m i + 1) * 1 ≤ 8; omega
      · show (0 + 1) * 1024 ≤ 1024; omega
      · show ((i 1).val + 1) * 1792 ≤ 3584; omega
    refine ⟨hb, .inr (.inr ⟨by decide, rfl, ?_, rfl⟩)⟩
    show cc0_transform_2 k0_off1_inb numel1_S1 (tabs m) i 1 * 1024 = 0
    rw [index2]; rfl
  · have hb : ∀ a, (cc0_transform_3 k0_off1_inb numel1_S1 (tabs m) i a + 1) * S1x1792x1024.size a ≤ S8x3584x1024.size a := by
      rw [index3]; have := he i; have := hf i
      intro a; fin_cases a
      · show (expertPt m i + 1) * 1 ≤ 8; omega
      · show ((i 1).val + 1) * 1792 ≤ 3584; omega
      · show (0 + 1) * 1024 ≤ 1024; omega
    refine ⟨hb, .inr (.inl (.inr ⟨by decide, rfl, .inl ⟨?_, ?_⟩⟩))⟩
    · show 2 ∣ cc0_transform_3 k0_off1_inb numel1_S1 (tabs m) i 1 * 1792
      exact Dvd.dvd.mul_left (by decide) _
    · show 2 ∣ 1792
      decide

end Cert.Proof.ExpertWords

end
-- ==== Proof.Rows.Norm.lean ====
/- Layer norm of a row, as the calls' bodies compute it for a tile's rows and as the references compute it for all of
   them; and the loads and blocks that the calls with one grid axis share. -/
module

public import Idealize.ShloMosaic.Lib.KernelVsHost
public import Idealize.ShloMosaic.Lib.StackMember
public import Idealize.ShloMosaic.Lib.ValueLayout
public import Idealize.ShloMosaic.Lib.ValueLayoutCasts
public import Idealize.ShloMosaic.Lib.IdealHost
public import Idealize.ShloMosaic.Lib.Routing.Ops
public import Idealize.ShloMosaic.Lib.Pointwise.Reduce
public import Idealize.ShloMosaic.Lib.Pointwise.IndexBridge
public import Idealize.ShloMosaic.Lib.Pipeline.Value
public import Idealize.ShloMosaic.Lib.Pipeline.ValueKit.Geometry

@[expose] public section

set_option maxRecDepth 16384

noncomputable section

namespace Cert.Proof.Rows

open Idealize.ShloMosaic hiding ix1 ix2
open Idealize.ShloMosaic.ValueIdx

/-- The number one, the row's length, and the small number under the root, as both programs spell them. -/
abbrev oneI : Ideal .f32 := FloatOps.ofBits .f32 0x3F800000#32
abbrev lenI : Ideal .f32 := FloatOps.ofBits .f32 0x44800000#32
abbrev epsI : Ideal .f32 := FloatOps.ofBits .f32 0x3727C5AC#32
/-- The residual's scale, as both programs spell it. -/
abbrev alphaI : Ideal .f32 := FloatOps.ofBits .f32 0x3FB504F3#32

/-- The sigmoid function. -/
def sigmoid (a : Ideal .f32) : Ideal .f32 := Ideal.div oneI (oneI + FloatOps.hostUnary .exp (FloatOps.hostNegf a))

/-- A row's mean. -/
def mean (y : Fin 1024 → Ideal .f32) : Ideal .f32 := Ideal.div (∑ k : Fin 1024, y k) lenI

/-- Layer norm of a row at feature `j`, with that feature's gain and offset. -/
def norm (y : Fin 1024 → Ideal .f32) (g b : Ideal .f32) (j : Fin 1024) : Ideal .f32 :=
  (y j - mean y) * FloatOps.hostUnary .rsqrt (mean (fun k => (y k - mean y) * (y k - mean y)) + epsI) * g + b

/-- A rank-two index is its two coordinates. -/
theorem exists_ix2 {a b : ℕ} (y : (⟨2, ![a, b]⟩ : Shape).Idx) : ∃ (q : Fin a) (j : Fin b), y = ix2 q j := ⟨y 0, y 1, ValueIdx.eq_ix2 y⟩

theorem zeros : (![0, 0] : Fin 2 → ℕ) = fun _ => 0 := funext fun a => by fin_cases a <;> rfl

/-- A matrix product onto a zero accumulator, at an entry. -/
theorem product_apply {M K N : ℕ} {φ₁ φ₂ : FTy} (A : FVec Ideal ⟨2, ![M, K]⟩ φ₁) (B : FVec Ideal ⟨2, ![K, N]⟩ φ₂) (r : Fin M) (c : Fin N) :
    matmul (DotDims.plain M K N) none A B (constant ⟨2, ![M, N]⟩ .f32 0x00000000#32) (ix2 r c) = ∑ k : Fin K, A (ix2 r k) * B (ix2 k c) := by
  rw [matmul_zero_eq_dotGeneral]
  exact StackMember.dotGeneral_plain_apply none A B r c

/-! ## As a body computes it -/

section Body
variable {M : ℕ} (hR : (⟨2, ![M, 1024]⟩ : Shape).Reduces [1] ⟨1, ![M]⟩) (hC : (⟨1, ![M]⟩ : Shape).ShapeCasts ⟨2, ![M, 1]⟩)
  (hB : (⟨2, ![M, 1]⟩ : Shape).Broadcasts ⟨2, ![M, 1024]⟩) (hG : (⟨2, ![1, 1024]⟩ : Shape).Broadcasts ⟨2, ![M, 1024]⟩)

/-- A column laid along every feature. -/
theorem column_apply {α : Type} (v : (⟨2, ![M, 1]⟩ : Shape).Idx → α) (q : Fin M) (j : Fin 1024) :
    broadcastTo ⟨2, ![M, 1024]⟩ v hB (ix2 q j) = v (ix2 q 0) := by
  refine broadcastTo_apply v hB (ix2 q j) (ix2 q (0 : Fin 1)) fun ax => ?_
  match ax with
  | ⟨0, _⟩ =>
    show q.val = if M = 1 then 0 else q.val
    split
    · have := q.isLt; omega
    · rfl
  | ⟨1, _⟩ => rfl

/-- The column of the rows' means, as a body computes it. -/
abbrev bodyMean (y : FVec Ideal ⟨2, ![M, 1024]⟩ .f32) : FVec Ideal ⟨2, ![M, 1]⟩ .f32 :=
  divf (shapeCast ⟨2, ![M, 1]⟩ (multiReduction .add [1] ⟨1, ![M]⟩ y 0x00000000#32 hR (.inl rfl) rfl) hC)
    (broadcast ⟨2, ![M, 1]⟩ (Scalar.ofBits .f32 0x44800000#32))

theorem bodyMean_apply (y : FVec Ideal ⟨2, ![M, 1024]⟩ .f32) (q : Fin M) :
    bodyMean hR hC y (ix2 q 0) = mean fun k => y (ix2 q k) := by
  have h : shapeCast ⟨2, ![M, 1]⟩ (multiReduction .add [1] ⟨1, ![M]⟩ y 0x00000000#32 hR (.inl rfl) rfl) hC (ix2 q (0 : Fin 1))
      = ∑ k : Fin 1024, y (ix2 q k) := by
    exact (shapeCast_a_a1_apply _ hC q 0).trans ((Ideal.reduceAdd_r2_a1 hR y (ix1 q)).trans
      (Finset.sum_congr rfl fun k _ => congrArg y (ix2_eq_valueIdx q k)))
  exact congrArg (fun a : Ideal .f32 => Ideal.div a lenI) h

/-- The rows less their means. -/
abbrev bodyCentred (y : FVec Ideal ⟨2, ![M, 1024]⟩ .f32) : FVec Ideal ⟨2, ![M, 1024]⟩ .f32 :=
  subf y (broadcastTo ⟨2, ![M, 1024]⟩ (bodyMean hR hC y) hB)

theorem bodyCentred_apply (y : FVec Ideal ⟨2, ![M, 1024]⟩ .f32) (q : Fin M) (j : Fin 1024) :
    bodyCentred hR hC hB y (ix2 q j) = y (ix2 q j) - mean fun k => y (ix2 q k) :=
  congrArg (fun a : Ideal .f32 => y (ix2 q j) - a) ((column_apply hB _ q j).trans (bodyMean_apply hR hC y q))

theorem bodyNorm_apply (y : FVec Ideal ⟨2, ![M, 1024]⟩ .f32) (g b : FVec Ideal ⟨2, ![1, 1024]⟩ .f32) (q : Fin M) (j : Fin 1024) :
    addf (mulf (mulf (bodyCentred hR hC hB y) (broadcastTo ⟨2, ![M, 1024]⟩ (rsqrt (addf
        (bodyMean hR hC (mulf (bodyCentred hR hC hB y) (bodyCentred hR hC hB y)))
        (broadcast ⟨2, ![M, 1]⟩ (Scalar.ofBits .f32 0x3727C5AC#32)))) hB))
      (broadcastTo ⟨2, ![M, 1024]⟩ g hG)) (broadcastTo ⟨2, ![M, 1024]⟩ b hG) (ix2 q j)
      = norm (fun k => y (ix2 q k)) (g (ix2 0 j)) (b (ix2 0 j)) j := by
  have hv : bodyMean hR hC (mulf (bodyCentred hR hC hB y) (bodyCentred hR hC hB y)) (ix2 q 0)
      = mean fun k => (y (ix2 q k) - mean fun k => y (ix2 q k)) * (y (ix2 q k) - mean fun k => y (ix2 q k)) := by
    rw [bodyMean_apply]
    exact congrArg mean (funext fun k => congrArg₂ (fun a b : Ideal .f32 => a * b) (bodyCentred_apply hR hC hB y q k) (bodyCentred_apply hR hC hB y q k))
  have h1 := bodyCentred_apply hR hC hB y q j
  have h2 := (column_apply hB (rsqrt (addf (bodyMean hR hC (mulf (bodyCentred hR hC hB y) (bodyCentred hR hC hB y)))
        (broadcast ⟨2, ![M, 1]⟩ (Scalar.ofBits .f32 0x3727C5AC#32)))) q j).trans
    (congrArg (fun a : Ideal .f32 => (FloatOps.hostUnary .rsqrt (a + epsI) : Ideal .f32)) hv)
  exact congrArg₂ (fun a b : Ideal .f32 => a + b) (congrArg₂ (fun a b : Ideal .f32 => a * b)
    (congrArg₂ (fun a b : Ideal .f32 => a * b) h1 h2) (broadcastTo_1b_ab_apply g hG q j)) (broadcastTo_1b_ab_apply b hG q j)

end Body

/-! ## As a reference computes it -/

section Host
variable {M : ℕ} (hR : (⟨2, ![M, 1024]⟩ : Shape).ReducesTo [1] ⟨1, ![M]⟩) (hS : 0 < (⟨0, ![]⟩ : Shape).numel)
  (hC : (⟨1, ![M]⟩ : Shape).BroadcastsInDim ⟨2, ![M, 1]⟩ (![0] : Fin 1 → Fin 2))
  (hZ : (⟨0, ![]⟩ : Shape).BroadcastsInDim ⟨2, ![M, 1]⟩ (![] : Fin 0 → Fin 2))
  (hB : (⟨2, ![M, 1]⟩ : Shape).BroadcastsInDim ⟨2, ![M, 1024]⟩ (![0, 1] : Fin 2 → Fin 2))
  (hW : (⟨2, ![1, 1024]⟩ : Shape).ShapeCasts ⟨1, ![1024]⟩)
  (hU : (⟨1, ![1024]⟩ : Shape).BroadcastsInDim ⟨2, ![1, 1024]⟩ (![1] : Fin 1 → Fin 2))
  (hG : (⟨2, ![1, 1024]⟩ : Shape).BroadcastsInDim ⟨2, ![M, 1024]⟩ (![0, 1] : Fin 2 → Fin 2))

/-- A column laid along every feature. -/
theorem hostColumn_apply {α : Type} (v : (⟨2, ![M, 1]⟩ : Shape).Idx → α) (q : Fin M) (j : Fin 1024) :
    broadcastInDim ⟨2, ![M, 1024]⟩ (![0, 1] : Fin 2 → Fin 2) hB v (ix2 q j) = v (ix2 q 0) := by
  refine broadcastInDim_apply _ hB v (ix2 q j) (ix2 q (0 : Fin 1)) fun ax => ?_
  match ax with
  | ⟨0, _⟩ =>
    show q.val = if M = 1 then 0 else q.val
    split
    · have := q.isLt; omega
    · rfl
  | ⟨1, _⟩ => rfl

/-- The column of the rows' means, as a reference computes it. -/
abbrev hostMean (y : FVec Ideal ⟨2, ![M, 1024]⟩ .f32) : FVec Ideal ⟨2, ![M, 1]⟩ .f32 :=
  Host.divf (broadcastInDim ⟨2, ![M, 1]⟩ (![0] : Fin 1 → Fin 2) hC (Host.reduceAdd y (constant ⟨0, ![]⟩ .f32 0x00000000#32) hR hS))
    (broadcastInDim ⟨2, ![M, 1]⟩ (![] : Fin 0 → Fin 2) hZ (constant ⟨0, ![]⟩ .f32 0x44800000#32))

theorem hostMean_apply (y : FVec Ideal ⟨2, ![M, 1024]⟩ .f32) (q : Fin M) :
    hostMean hR hS hC hZ y (ix2 q 0) = mean fun k => y (ix2 q k) := by
  have h : broadcastInDim ⟨2, ![M, 1]⟩ (![0] : Fin 1 → Fin 2) hC (Host.reduceAdd y (constant ⟨0, ![]⟩ .f32 0x00000000#32) hR hS) (ix2 q (0 : Fin 1))
      = ∑ k : Fin 1024, y (ix2 q k) := by
    refine (Routing.bcCol hC _ q).trans ?_
    rw [Host.reduceAdd_apply]
    refine (Ideal.hostReduceAdd_r2_a1 hR y _ (ix1 q)).trans ?_
    refine (congrArg₂ (fun a b : Ideal .f32 => a + b) Ideal.ofBits_zero_f32
      (Finset.sum_congr rfl fun k _ => congrArg y (ix2_eq_valueIdx q k))).trans ?_
    exact zero_add _
  have h2 : broadcastInDim ⟨2, ![M, 1]⟩ (![] : Fin 0 → Fin 2) hZ (constant (F := Ideal) ⟨0, ![]⟩ .f32 0x44800000#32) (ix2 q (0 : Fin 1)) = lenI :=
    Routing.bc0 hZ _ _
  exact congrArg₂ (fun a b : Ideal .f32 => Ideal.div a b) h h2

/-- The rows less their means. -/
abbrev hostCentred (y : FVec Ideal ⟨2, ![M, 1024]⟩ .f32) : FVec Ideal ⟨2, ![M, 1024]⟩ .f32 :=
  subf y (broadcastInDim ⟨2, ![M, 1024]⟩ (![0, 1] : Fin 2 → Fin 2) hB (hostMean hR hS hC hZ y))

theorem hostCentred_apply (y : FVec Ideal ⟨2, ![M, 1024]⟩ .f32) (q : Fin M) (j : Fin 1024) :
    hostCentred hR hS hC hZ hB y (ix2 q j) = y (ix2 q j) - mean fun k => y (ix2 q k) :=
  congrArg (fun a : Ideal .f32 => y (ix2 q j) - a) ((hostColumn_apply hB _ q j).trans (hostMean_apply hR hS hC hZ y q))

/-- A vector of one row laid along every row. -/
theorem hostRow_apply (g : FVec Ideal ⟨2, ![1, 1024]⟩ .f32) (q : Fin M) (j : Fin 1024) :
    broadcastInDim ⟨2, ![M, 1024]⟩ (![0, 1] : Fin 2 → Fin 2) hG (broadcastInDim ⟨2, ![1, 1024]⟩ (![1] : Fin 1 → Fin 2) hU
      (shapeCast ⟨1, ![1024]⟩ g hW)) (ix2 q j) = g (ix2 0 j) :=
  (Routing.bcCols hU hG _ q j).trans (shapeCast_1a_a_apply g hW j)

theorem hostNorm_apply (y : FVec Ideal ⟨2, ![M, 1024]⟩ .f32) (g b : FVec Ideal ⟨2, ![1, 1024]⟩ .f32) (q : Fin M) (j : Fin 1024) :
    addf (mulf (mulf (hostCentred hR hS hC hZ hB y) (broadcastInDim ⟨2, ![M, 1024]⟩ (![0, 1] : Fin 2 → Fin 2) hB (Host.rsqrt (addf
        (hostMean hR hS hC hZ (mulf (hostCentred hR hS hC hZ hB y) (hostCentred hR hS hC hZ hB y)))
        (broadcastInDim ⟨2, ![M, 1]⟩ (![] : Fin 0 → Fin 2) hZ (constant ⟨0, ![]⟩ .f32 0x3727C5AC#32))))))
      (broadcastInDim ⟨2, ![M, 1024]⟩ (![0, 1] : Fin 2 → Fin 2) hG (broadcastInDim ⟨2, ![1, 1024]⟩ (![1] : Fin 1 → Fin 2) hU (shapeCast ⟨1, ![1024]⟩ g hW))))
      (broadcastInDim ⟨2, ![M, 1024]⟩ (![0, 1] : Fin 2 → Fin 2) hG (broadcastInDim ⟨2, ![1, 1024]⟩ (![1] : Fin 1 → Fin 2) hU (shapeCast ⟨1, ![1024]⟩ b hW)))
      (ix2 q j)
      = norm (fun k => y (ix2 q k)) (g (ix2 0 j)) (b (ix2 0 j)) j := by
  have hv : hostMean hR hS hC hZ (mulf (hostCentred hR hS hC hZ hB y) (hostCentred hR hS hC hZ hB y)) (ix2 q 0)
      = mean fun k => (y (ix2 q k) - mean fun k => y (ix2 q k)) * (y (ix2 q k) - mean fun k => y (ix2 q k)) := by
    rw [hostMean_apply]
    exact congrArg mean (funext fun k => congrArg₂ (fun a b : Ideal .f32 => a * b)
      (hostCentred_apply hR hS hC hZ hB y q k) (hostCentred_apply hR hS hC hZ hB y q k))
  have he : broadcastInDim ⟨2, ![M, 1]⟩ (![] : Fin 0 → Fin 2) hZ (constant (F := Ideal) ⟨0, ![]⟩ .f32 0x3727C5AC#32) (ix2 q (0 : Fin 1)) = epsI :=
    Routing.bc0 hZ _ _
  have h1 := hostCentred_apply hR hS hC hZ hB y q j
  have h2 := (hostColumn_apply hB (Host.rsqrt (addf
        (hostMean hR hS hC hZ (mulf (hostCentred hR hS hC hZ hB y) (hostCentred hR hS hC hZ hB y)))
        (broadcastInDim ⟨2, ![M, 1]⟩ (![] : Fin 0 → Fin 2) hZ (constant ⟨0, ![]⟩ .f32 0x3727C5AC#32)))) q j).trans
    (congrArg₂ (fun a e : Ideal .f32 => (FloatOps.hostUnary .rsqrt (a + e) : Ideal .f32)) hv he)
  exact congrArg₂ (fun a b : Ideal .f32 => a + b) (congrArg₂ (fun a b : Ideal .f32 => a * b)
    (congrArg₂ (fun a b : Ideal .f32 => a * b) h1 h2) (hostRow_apply hW hU hG g q j)) (hostRow_apply hW hU hG b q j)

end Host

end Cert.Proof.Rows

end
-- ==== Proof.Combine.Value.lean ====
/- What the call that joins the experts' outputs computes at the ideal reading: for each row, the layer norm of the scaled
   residual and the two experts' outputs by their weights. -/
module

public import proofs.«01_k».proof.Proof.Rows.Norm
public import proofs.«01_k».proof.Proof.Gen.Kernel2Ideal.Value
public import proofs.«01_k».proof.Proof.Gen.Reference2Ideal.Run

@[expose] public section

set_option maxRecDepth 16384

noncomputable section

namespace Cert.Proof.Combine

open Cert.Kernel2Ideal Cert.Kernel2Ideal.Gen Cert.Kernel2Ideal.Value
open Idealize.ShloMosaic hiding ix1 ix2 ix3
open Idealize.ShloMosaic.TcCoe Idealize.SL.Sem Idealize.ShloMosaic.ValueIdx Cert.Proof.Rows

/-- Row `r`'s scaled residual and its experts' outputs by their weights, at feature `k`. -/
def joined (x : FVec Ideal S32768x1024 .f32) (y : FVec Ideal S65536x1024 .f32) (w : FVec Ideal S32768x128 .f32) (r : Fin 32768) (k : Fin 1024) :
    Ideal .f32 := alphaI * x (ix2 r k) + (w (ix2 r 2) * y (ix2 ⟨r.val, by omega⟩ k) + w (ix2 r 3) * y (ix2 ⟨32768 + r.val, by omega⟩ k))

/-- The call's result. -/
def out (x : FVec Ideal S32768x1024 .f32) (y : FVec Ideal S65536x1024 .f32) (w : FVec Ideal S32768x128 .f32) (g b : FVec Ideal S1x1024 .f32) :
    FVec Ideal S32768x1024 .f32 := fun i => norm (joined x y w (i 0)) (g (ix2 0 (i 1))) (b (ix2 0 (i 1))) (i 1)

/-- The body's arithmetic at an entry. -/
theorem pay1_apply (w : FVec Ideal S512x128 .f32) (y0 y1 x : FVec Ideal S512x1024 .f32) (g b : FVec Ideal S1x1024 .f32) (q : Fin 512) (j : Fin 1024) :
    k0_pay1 w y0 y1 x g b (ix2 q j) = norm (fun k => alphaI * x (ix2 q k) + (w (ix2 q 2) * y0 (ix2 q k) + w (ix2 q 3) * y1 (ix2 q k)))
      (g (ix2 0 j)) (b (ix2 0 j)) j := by
  have h2 : ∀ k : Fin 1024, broadcastTo S512x1024 (extractStridedSlice S512x1 ![0, 2] w slices_S512x128_o0_2_S512x1) broadcasts_S512x1_S512x1024 (ix2 q k)
      = w (ix2 q 2) := fun k => (column_apply (M := 512) _ _ q k).trans (slice2_axis1_apply 2 w _ q 0 2 rfl)
  have h3 : ∀ k : Fin 1024, broadcastTo S512x1024 (extractStridedSlice S512x1 ![0, 3] w slices_S512x128_o0_3_S512x1) broadcasts_S512x1_S512x1024 (ix2 q k)
      = w (ix2 q 3) := fun k => (column_apply (M := 512) _ _ q k).trans (slice2_axis1_apply 3 w _ q 0 3 rfl)
  refine (bodyNorm_apply (M := 512) reduces_S512x1024_S512 shapeCasts_S512_S512x1 broadcasts_S512x1_S512x1024 broadcasts_S1x1024_S512x1024 _ g b q j).trans ?_
  refine congrArg (fun y => norm y (g (ix2 0 j)) (b (ix2 0 j)) j) (funext fun k => ?_)
  exact congrArg (fun a : Ideal .f32 => alphaI * x (ix2 q k) + a) (congrArg₂ (fun a b : Ideal .f32 => a * y0 (ix2 q k) + b * y1 (ix2 q k)) (h2 k) (h3 k))

variable (m : (ℓ : Loc nD τ sig) → Buf (Elt Ideal) ℓ)

/-- The arguments as launched. -/
abbrev xIn (c : Dev nD) : FVec Ideal S32768x1024 .f32 := m ((c : Thread nD τ).loc main_arg0)
abbrev yIn (c : Dev nD) : FVec Ideal S65536x1024 .f32 := m ((c : Thread nD τ).loc main_arg1)
abbrev wIn (c : Dev nD) : FVec Ideal S32768x128 .f32 := m ((c : Thread nD τ).loc main_arg2)
abbrev gIn (c : Dev nD) : FVec Ideal S1x1024 .f32 := m ((c : Thread nD τ).loc main_arg3)
abbrev bIn (c : Dev nD) : FVec Ideal S1x1024 .f32 := m ((c : Thread nD τ).loc main_arg4)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 64 + t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem points : cfg0.N = 64 := (by decide +kernel : grid0.N = 64)

/-- Row `q` of tile `t`, and where its two experts' outputs lie. -/
abbrev rowOf (t : Fin cfg0.N) (q : Fin 512) : Fin 32768 := ⟨512 * t.val + q.val, by have := t.isLt; have := points; omega⟩
abbrev firstOf (t : Fin cfg0.N) (q : Fin 512) : Fin 65536 := ⟨512 * t.val + q.val, by have := t.isLt; have := points; omega⟩
abbrev secondOf (t : Fin cfg0.N) (q : Fin 512) : Fin 65536 := ⟨32768 + (512 * t.val + q.val), by have := t.isLt; have := points; omega⟩

theorem block0 (c : Dev nD) (t : Fin cfg0.N) (q : Fin 512) (k : Fin 1024) : iblk m c 0 t (ix2 q k) = xIn m c (ix2 (rowOf t q) k) := by
  show V m c main_arg0 (((cfg0.win 0).blk t).view.emb (ix2 q k)) = _
  rw [V_main_arg0]
  obtain ⟨e0, e1⟩ := index0 t
  refine congrArg _ (funext fun (a : Fin 2) => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega

theorem block1 (c : Dev nD) (t : Fin cfg0.N) (q : Fin 512) (k : Fin 1024) : iblk m c 1 t (ix2 q k) = yIn m c (ix2 (firstOf t q) k) := by
  show V m c main_arg1 (((cfg0.win 1).blk t).view.emb (ix2 q k)) = _
  rw [V_main_arg1]
  obtain ⟨e0, e1⟩ := index1 t
  refine congrArg _ (funext fun (a : Fin 2) => Fin.ext ?_)
  match a with
  | ⟨0, _⟩ => show win0_1.index t (0 : Fin 2) * 512 + 1 * q.val = 512 * t.val + q.val; omega
  | ⟨1, _⟩ => show win0_1.index t (1 : Fin 2) * 1024 + 1 * k.val = k.val; omega

theorem block2 (c : Dev nD) (t : Fin cfg0.N) (q : Fin 512) (k : Fin 1024) : iblk m c 2 t (ix2 q k) = yIn m c (ix2 (secondOf t q) k) := by
  show V m c main_arg1 (((cfg0.win 2).blk t).view.emb (ix2 q k)) = _
  rw [V_main_arg1]
  obtain ⟨e0, e1⟩ := index2 t
  refine congrArg _ (funext fun (a : Fin 2) => Fin.ext ?_)
  match a with
  | ⟨0, _⟩ => show win0_2.index t (0 : Fin 2) * 512 + 1 * q.val = 32768 + (512 * t.val + q.val); omega
  | ⟨1, _⟩ => show win0_2.index t (1 : Fin 2) * 1024 + 1 * k.val = k.val; omega

theorem block3 (c : Dev nD) (t : Fin cfg0.N) (q : Fin 512) (k : Fin 128) : iblk m c 3 t (ix2 q k) = wIn m c (ix2 (rowOf t q) k) := by
  show V m c main_arg2 (((cfg0.win 3).blk t).view.emb (ix2 q k)) = _
  rw [V_main_arg2]
  obtain ⟨e0, e1⟩ := index3 t
  refine congrArg _ (funext fun (a : Fin 2) => Fin.ext ?_)
  match a with
  | ⟨0, _⟩ => show win0_3.index t (0 : Fin 2) * 512 + 1 * q.val = 512 * t.val + q.val; omega
  | ⟨1, _⟩ => show win0_3.index t (1 : Fin 2) * 128 + 1 * k.val = k.val; omega

theorem block4 (c : Dev nD) (t : Fin cfg0.N) (f : Fin 1024) : iblk m c 4 t (ix2 0 f) = gIn m c (ix2 0 f) := by
  show V m c main_arg3 (((cfg0.win 4).blk t).view.emb (ix2 0 f)) = _
  have e : ((cfg0.win 4).blk t).view.emb (ix2 0 f) = ix2 0 f := by
    obtain ⟨e0, e1⟩ := index4 t
    refine funext fun (a : Fin 2) => Fin.ext ?_
    match a with
    | ⟨0, _⟩ => show win0_4.index t (0 : Fin 2) * 1 + 1 * 0 = 0; omega
    | ⟨1, _⟩ => show win0_4.index t (1 : Fin 2) * 1024 + 1 * f.val = f.val; omega
  rw [e, V_main_arg3]

theorem block5 (c : Dev nD) (t : Fin cfg0.N) (f : Fin 1024) : iblk m c 5 t (ix2 0 f) = bIn m c (ix2 0 f) := by
  show V m c main_arg4 (((cfg0.win 5).blk t).view.emb (ix2 0 f)) = _
  have e : ((cfg0.win 5).blk t).view.emb (ix2 0 f) = ix2 0 f := by
    obtain ⟨e0, e1⟩ := index5 t
    refine funext fun (a : Fin 2) => Fin.ext ?_
    match a with
    | ⟨0, _⟩ => show win0_5.index t (0 : Fin 2) * 1 + 1 * 0 = 0; omega
    | ⟨1, _⟩ => show win0_5.index t (1 : Fin 2) * 1024 + 1 * f.val = f.val; omega
  rw [e, V_main_arg4]

/-- What point `t` leaves in the result's block. -/
theorem out_apply (c : Dev nD) (t : Fin cfg0.N) (q : Fin 512) (j : Fin 1024) :
    out0_6 (iblk m c 0 t) (iblk m c 1 t) (iblk m c 2 t) (iblk m c 3 t) (iblk m c 4 t) (iblk m c 5 t) (ix2 q j)
      = out (xIn m c) (yIn m c) (wIn m c) (gIn m c) (bIn m c) (ix2 (rowOf t q) j) := by
  unfold out0_6
  rw [View.canon_unit_zero zeros]
  repeat rw [View.ld_unit_zero zeros]
  refine (pay1_apply _ _ _ _ _ _ q j).trans ?_
  unfold out
  refine congr (congr (congrArg norm (funext fun k => ?_)) (block4 m c t j)) (block5 m c t j) |> fun h => congrFun h j
  unfold joined
  exact congrArg₂ (fun a b : Ideal .f32 => alphaI * a + b) (block0 m c t q k) (congrArg₂ (fun a b : Ideal .f32 => a + b)
    (congrArg₂ (fun a b : Ideal .f32 => a * b) (block3 m c t q 2) (block1 m c t q k))
    (congrArg₂ (fun a b : Ideal .f32 => a * b) (block3 m c t q 3) (block2 m c t q k)))

/-- The result's array after the run. -/
theorem final (c : Dev nD) : (dats m 0 c).arrAt 6 cfg0.N = out (xIn m c) (yIn m c) (wIn m c) (gIn m c) (bIn m c) := by
  refine Pipeline.Dat.arrAt_eq_of_emb (dats m 0 c) 6 _ (fun t hf y => ?_) fun i => ?_
  · obtain ⟨q, j, rfl⟩ := exists_ix2 (a := 512) (b := 1024) y
    show (dats m 0 c).after 6 t (ix2 q j) = _
    rw [after0_6, out_apply]
    refine congrArg (out (xIn m c) (yIn m c) (wIn m c) (gIn m c) (bIn m c)) (funext fun (a : Fin 2) => Fin.ext ?_)
    obtain ⟨e0, e1⟩ := index6 t
    match a with
    | ⟨0, _⟩ => show 512 * t.val + q.val = win0_6.index t (0 : Fin 2) * 512 + 1 * q.val; omega
    | ⟨1, _⟩ => show j.val = win0_6.index t (1 : Fin 2) * 1024 + 1 * j.val; omega
  · obtain ⟨r, j, rfl⟩ := exists_ix2 (a := 32768) (b := 1024) i
    have hr := r.isLt
    have hj := j.isLt
    have ht : r.val / 512 < cfg0.N := Nat.lt_of_lt_of_eq (by omega : _ < 64) points.symm
    refine ⟨⟨r.val / 512, ht⟩, flush0_6 _, ?_⟩
    obtain ⟨e0, e1⟩ := index6 ⟨r.val / 512, ht⟩
    refine ((cfg0.win 6).emb_mem_blk_iff ⟨r.val / 512, ht⟩ (ix2 r j)).mpr fun (a : Fin 2) => ?_
    match a with
    | ⟨0, _⟩ =>
      show win0_6.index ⟨r.val / 512, ht⟩ (0 : Fin 2) * 512 ≤ r.val ∧ r.val < win0_6.index ⟨r.val / 512, ht⟩ (0 : Fin 2) * 512 + 512
      rw [e0]
      show r.val / 512 * 512 ≤ r.val ∧ r.val < r.val / 512 * 512 + 512
      omega
    | ⟨1, _⟩ =>
      show win0_6.index ⟨r.val / 512, ht⟩ (1 : Fin 2) * 1024 ≤ j.val ∧ j.val < win0_6.index ⟨r.val / 512, ht⟩ (1 : Fin 2) * 1024 + 1024
      rw [e1]
      omega

end Cert.Proof.Combine

end
-- ==== Proof.Combine.Reference.lean ====
/- The reference's joining of the experts' outputs at an entry: the same function of the arguments as the call's. -/
module

public import proofs.«01_k».proof.Proof.Combine.Value

@[expose] public section

set_option maxRecDepth 16384

noncomputable section

namespace Cert.Proof.CombineReference

open Cert.Reference2Ideal Cert.Reference2Ideal.Gen
open Idealize.ShloMosaic hiding ix1 ix2 ix3
open Idealize.ShloMosaic.TcCoe Idealize.ShloMosaic.ValueIdx Cert.Proof.Rows

/-- The scaled residual and the experts' outputs by their weights. -/
abbrev sums (x : FVec Ideal S32768x1024 .f32) (y : FVec Ideal S65536x1024 .f32) (w : FVec Ideal S32768x128 .f32) : FVec Ideal S32768x1024 .f32 :=
  addf (mulf (broadcastInDim S32768x1024 ![] bcast_S_S32768x1024 (constant S_ .f32 0x3FB504F3#32)) x)
    (addf (addf (broadcastInDim S32768x1024 ![] bcast_S_S32768x1024 (constant S_ .f32 0x00000000#32))
      (mulf (broadcastInDim S32768x1024 ![0, 1] bcast_S32768x1_S32768x1024_0_1 (extractStridedSlice S32768x1 ![0, 2] w slices_S32768x128_S32768x1_0_2))
        (extractStridedSlice S32768x1024 ![0, 0] y slices_S65536x1024_S32768x1024_0_0)))
      (mulf (broadcastInDim S32768x1024 ![0, 1] bcast_S32768x1_S32768x1024_0_1 (extractStridedSlice S32768x1 ![0, 3] w slices_S32768x128_S32768x1_0_3))
        (extractStridedSlice S32768x1024 ![32768, 0] y slices_S65536x1024_S32768x1024_32768_0)))

theorem sums_apply (x : FVec Ideal S32768x1024 .f32) (y : FVec Ideal S65536x1024 .f32) (w : FVec Ideal S32768x128 .f32) (r : Fin 32768) (k : Fin 1024) :
    sums x y w (ix2 r k) = Combine.joined x y w r k := by
  have ha : broadcastInDim S32768x1024 ![] bcast_S_S32768x1024 (constant (F := Ideal) S_ .f32 0x3FB504F3#32) (ix2 r k) = alphaI := Routing.bc0 _ _ _
  have hz : broadcastInDim S32768x1024 ![] bcast_S_S32768x1024 (constant (F := Ideal) S_ .f32 0x00000000#32) (ix2 r k) = (0 : Ideal .f32) :=
    (Routing.bc0 _ _ _).trans Ideal.ofBits_zero_f32
  have w2 : broadcastInDim S32768x1024 ![0, 1] bcast_S32768x1_S32768x1024_0_1 (extractStridedSlice S32768x1 ![0, 2] w slices_S32768x128_S32768x1_0_2) (ix2 r k)
      = w (ix2 r 2) := (hostColumn_apply (M := 32768) _ _ r k).trans (slice2_axis1_apply 2 w _ r 0 2 rfl)
  have w3 : broadcastInDim S32768x1024 ![0, 1] bcast_S32768x1_S32768x1024_0_1 (extractStridedSlice S32768x1 ![0, 3] w slices_S32768x128_S32768x1_0_3) (ix2 r k)
      = w (ix2 r 3) := (hostColumn_apply (M := 32768) _ _ r k).trans (slice2_axis1_apply 3 w _ r 0 3 rfl)
  have y0 : extractStridedSlice S32768x1024 ![0, 0] y slices_S65536x1024_S32768x1024_0_0 (ix2 r k) = y (ix2 ⟨r.val, by omega⟩ k) :=
    slice2_axis0_apply 0 y _ r k ⟨r.val, by omega⟩ (by simp)
  have y1 : extractStridedSlice S32768x1024 ![32768, 0] y slices_S65536x1024_S32768x1024_32768_0 (ix2 r k) = y (ix2 ⟨32768 + r.val, by omega⟩ k) :=
    slice2_axis0_apply 32768 y _ r k ⟨32768 + r.val, by omega⟩ rfl
  refine congrArg₂ (fun a b : Ideal .f32 => a * x (ix2 r k) + b) ha (congrArg₂ (fun a b : Ideal .f32 => a + b) ?_ (congrArg₂ (fun a b : Ideal .f32 => a * b) w3 y1))
  exact (congrArg₂ (fun a b : Ideal .f32 => a + b) hz (congrArg₂ (fun a b : Ideal .f32 => a * b) w2 y0)).trans (zero_add _)

theorem result (m : (ℓ : Loc nD τ sig) → Buf (Elt Ideal) ℓ) (c : Dev nD) : Cert.Reference2Ideal.Value.res_main_v39 m c
    = Combine.out (m ((c : Thread nD τ).loc main_arg0)) (m ((c : Thread nD τ).loc main_arg1)) (m ((c : Thread nD τ).loc main_arg2))
      (m ((c : Thread nD τ).loc main_arg3)) (m ((c : Thread nD τ).loc main_arg4)) := by
  funext i
  obtain ⟨r, j, rfl⟩ := exists_ix2 (a := 32768) (b := 1024) i
  refine (hostNorm_apply (M := 32768) reducesTo_S32768x1024_S32768_d1 h_S_ bcast_S32768_S32768x1_0 bcast_S_S32768x1 bcast_S32768x1_S32768x1024_0_1
    shapeCasts_S1x1024_S1024 bcast_S1024_S1x1024_1 bcast_S1x1024_S32768x1024_0_1
    (sums (m ((c : Thread nD τ).loc main_arg0)) (m ((c : Thread nD τ).loc main_arg1)) (m ((c : Thread nD τ).loc main_arg2)))
    (m ((c : Thread nD τ).loc main_arg3)) (m ((c : Thread nD τ).loc main_arg4)) r j).trans ?_
  unfold Combine.out
  exact congrArg (fun y => norm y _ _ j) (funext fun k => sums_apply _ _ _ r k)

end Cert.Proof.CombineReference

end
-- ==== Proof.Dense.Value.lean ====
/- What the dense feed-forward call computes at the ideal reading: for each row, the layer norm of the scaled residual and
   the gated feed-forward output, the hidden features summed in two runs. -/
module

public import proofs.«01_k».proof.Proof.Rows.Norm
public import proofs.«01_k».proof.Proof.Gen.Kernel3Ideal.Value
public import proofs.«01_k».proof.Proof.Gen.Reference3Ideal.Run

@[expose] public section

set_option maxRecDepth 16384

noncomputable section

namespace Cert.Proof.Dense

open Cert.Kernel3Ideal Cert.Kernel3Ideal.Gen Cert.Kernel3Ideal.Value
open Idealize.ShloMosaic hiding ix1 ix2 ix3
open Idealize.ShloMosaic.TcCoe Idealize.SL.Sem Idealize.ShloMosaic.ValueIdx Cert.Proof.Rows

/-- Hidden feature `h`'s gated activation for the row `r`. -/
def hidden (x : FVec Ideal S32768x1024 .f32) (wg wu : FVec Ideal S1x1024x2816 .f32) (r : Fin 32768) (h : Fin 2816) : Ideal .f32 :=
  (∑ k : Fin 1024, x (ix2 r k) * wg (ix3 0 k h)) * sigmoid (∑ k : Fin 1024, x (ix2 r k) * wg (ix3 0 k h)) * ∑ k : Fin 1024, x (ix2 r k) * wu (ix3 0 k h)

/-- Row `r`'s scaled residual and its feed-forward output, at feature `k`. -/
def joined (x : FVec Ideal S32768x1024 .f32) (wg wu : FVec Ideal S1x1024x2816 .f32) (wd : FVec Ideal S1x2816x1024 .f32) (r : Fin 32768) (k : Fin 1024) :
    Ideal .f32 := alphaI * x (ix2 r k) + ∑ h : Fin 2816, hidden x wg wu r h * wd (ix3 0 h k)

/-- The call's result. -/
def out (x : FVec Ideal S32768x1024 .f32) (wg wu : FVec Ideal S1x1024x2816 .f32) (wd : FVec Ideal S1x2816x1024 .f32) (g b : FVec Ideal S1x1024 .f32) :
    FVec Ideal S32768x1024 .f32 := fun i => norm (joined x wg wu wd (i 0)) (g (ix2 0 (i 1))) (b (ix2 0 (i 1))) (i 1)

/-- A hidden feature of the first and of the second run. -/
abbrev lo (h : Fin 1536) : Fin 2816 := ⟨h.val, by omega⟩
abbrev hi (h : Fin 1280) : Fin 2816 := ⟨1536 + h.val, by omega⟩

theorem sum_runs (f : Fin 2816 → Ideal .f32) : ∑ h : Fin 2816, f h = ∑ h : Fin 1536, f (lo h) + ∑ h : Fin 1280, f (hi h) :=
  Fin.sum_univ_add (a := 1536) (b := 1280) f

/-- The gated activation that a body computes of a row and a pair of columns. -/
def bodyHidden {n : ℕ} (x : FVec Ideal S512x1024 .f32) (g u : FVec Ideal ⟨2, ![1024, n]⟩ .bf16) (q : Fin 512) (h : Fin n) : Ideal .f32 :=
  (∑ k : Fin 1024, x (ix2 q k) * g (ix2 k h)) * sigmoid (∑ k : Fin 1024, x (ix2 q k) * g (ix2 k h)) * ∑ k : Fin 1024, x (ix2 q k) * u (ix2 k h)

theorem pay3_apply (x : FVec Ideal S512x1024 .f32) (g u : FVec Ideal S1024x1536 .bf16) (d : FVec Ideal S1536x1024 .bf16) (q : Fin 512) (j : Fin 1024) :
    k0_pay3 x g u d (ix2 q j) = ∑ h : Fin 1536, bodyHidden x g u q h * d (ix2 h j) := by
  have hg : ∀ (w : FVec Ideal S1024x1536 .bf16) (h : Fin 1536),
      matmul dot_S512x1024_S1024x1536_S512x1536_1_0_0_1_n_n none (k0_pay2 x) (shapeCast S1024x1536 w shapeCasts_S1024x1536_S1024x1536)
        (constant S512x1536 .f32 0x00000000#32) (ix2 q h) = ∑ k : Fin 1024, x (ix2 q k) * w (ix2 k h) := fun w h => by
    rw [shapeCast_self]
    exact product_apply (M := 512) (K := 1024) (N := 1536) _ _ q h
  unfold k0_pay3
  refine (product_apply (M := 512) (K := 1536) (N := 1024) _ _ q j).trans (Finset.sum_congr rfl fun h _ => ?_)
  unfold bodyHidden sigmoid
  rw [← hg g h, ← hg u h, shapeCast_self d, subf_zero_eq_hostNegf]
  rfl

theorem pay4_apply (x : FVec Ideal S512x1024 .f32) (g u : FVec Ideal S1024x1280 .bf16) (q : Fin 512) (h : Fin 1280) :
    k0_pay4 x g u (ix2 q h) = bodyHidden x g u q h := by
  have hg : ∀ (w : FVec Ideal S1024x1280 .bf16) (h : Fin 1280),
      matmul dot_S512x1024_S1024x1280_S512x1280_1_0_0_1_n_n none (k0_pay2 x) (shapeCast S1024x1280 w shapeCasts_S1024x1280_S1024x1280)
        (constant S512x1280 .f32 0x00000000#32) (ix2 q h) = ∑ k : Fin 1024, x (ix2 q k) * w (ix2 k h) := fun w h => by
    rw [shapeCast_self]
    exact product_apply (M := 512) (K := 1024) (N := 1280) _ _ q h
  unfold bodyHidden sigmoid k0_pay4
  rw [← hg g h, ← hg u h, subf_zero_eq_hostNegf]
  rfl

/-- The body's last step at an entry. -/
theorem pay1_apply (a : FVec Ideal S512x1024 .f32) (f : FVec Ideal S512x1280 .f32) (d : FVec Ideal S1280x1024 .bf16) (x : FVec Ideal S512x1024 .f32)
    (g b : FVec Ideal S1x1024 .f32) (q : Fin 512) (j : Fin 1024) :
    k0_pay1 a f d x g b (ix2 q j) = norm (fun k => alphaI * x (ix2 q k) + (a (ix2 q k) + ∑ h : Fin 1280, f (ix2 q h) * d (ix2 h k)))
      (g (ix2 0 j)) (b (ix2 0 j)) j := by
  unfold k0_pay1
  rw [shapeCast_self g, shapeCast_self b, shapeCast_self d]
  refine (bodyNorm_apply (M := 512) reduces_S512x1024_S512 shapeCasts_S512_S512x1 broadcasts_S512x1_S512x1024 broadcasts_S1x1024_S512x1024 _ g b q j).trans ?_
  refine congrArg (fun y => norm y (g (ix2 0 j)) (b (ix2 0 j)) j) (funext fun k => ?_)
  exact congrArg (fun s : Ideal .f32 => alphaI * x (ix2 q k) + (a (ix2 q k) + s)) (product_apply (M := 512) (K := 1280) (N := 1024) _ _ q k)

variable (m : (ℓ : Loc nD τ sig) → Buf (Elt Ideal) ℓ)

/-- The arguments as launched. -/
abbrev xIn (c : Dev nD) : FVec Ideal S32768x1024 .f32 := m ((c : Thread nD τ).loc main_arg0)
abbrev gateIn (c : Dev nD) : FVec Ideal S1x1024x2816 .f32 := m ((c : Thread nD τ).loc main_arg1)
abbrev upIn (c : Dev nD) : FVec Ideal S1x1024x2816 .f32 := m ((c : Thread nD τ).loc main_arg2)
abbrev downIn (c : Dev nD) : FVec Ideal S1x2816x1024 .f32 := m ((c : Thread nD τ).loc main_arg3)
abbrev gIn (c : Dev nD) : FVec Ideal S1x1024 .f32 := m ((c : Thread nD τ).loc main_arg4)
abbrev bIn (c : Dev nD) : FVec Ideal S1x1024 .f32 := m ((c : Thread nD τ).loc main_arg5)

theorem entry1 (c : Dev nD) : V m c main_v1 = (shapeCast S1024x2816 (gateIn m c) shapeCasts_S1x1024x2816_S1024x2816 : FVec Ideal S1024x2816 .bf16) := by
  show StableHlo.after hostOps0 _ _ = _
  after_results <;> rfl
theorem entry2 (c : Dev nD) : V m c main_v3 = (shapeCast S1024x2816 (upIn m c) shapeCasts_S1x1024x2816_S1024x2816 : FVec Ideal S1024x2816 .bf16) := by
  show StableHlo.after hostOps0 _ _ = _
  after_results <;> rfl
theorem entry3 (c : Dev nD) : V m c main_v5 = (shapeCast S2816x1024 (downIn m c) shapeCasts_S1x2816x1024_S2816x1024 : FVec Ideal S2816x1024 .bf16) := by
  show StableHlo.after hostOps0 _ _ = _
  after_results <;> rfl
theorem entry4 (c : Dev nD) : V m c main_v7 = (shapeCast S1x1024 (shapeCast S1024 (gIn m c) shapeCasts_S1x1024_S1024) shapeCasts_S1024_S1x1024 : FVec Ideal S1x1024 .f32) := by
  show StableHlo.after hostOps0 _ _ = _
  after_results <;> rfl
theorem entry5 (c : Dev nD) : V m c main_v9 = (shapeCast S1x1024 (shapeCast S1024 (bIn m c) shapeCasts_S1x1024_S1024) shapeCasts_S1024_S1x1024 : FVec Ideal S1x1024 .f32) := by
  show StableHlo.after hostOps0 _ _ = _
  after_results <;> rfl

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem points : cfg0.N = 64 := (by decide +kernel : grid0.N = 64)

/-- Row `q` of tile `t`. -/
abbrev rowOf (t : Fin cfg0.N) (q : Fin 512) : Fin 32768 := ⟨512 * t.val + q.val, by have := t.isLt; have := points; omega⟩

theorem block0 (c : Dev nD) (t : Fin cfg0.N) (q : Fin 512) (k : Fin 1024) : iblk m c 0 t (ix2 q k) = xIn m c (ix2 (rowOf t q) k) := by
  show V m c main_arg0 (((cfg0.win 0).blk t).view.emb (ix2 q k)) = _
  rw [V_main_arg0]
  obtain ⟨e0, e1⟩ := index0 t
  refine congrArg _ (funext fun (a : Fin 2) => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega

theorem block1 (c : Dev nD) (t : Fin cfg0.N) (k : Fin 1024) (f : Fin 2816) : iblk m c 1 t (ix2 k f) = gateIn m c (ix3 0 k f) := by
  show V m c main_v1 (((cfg0.win 1).blk t).view.emb (ix2 k f)) = _
  have e : ((cfg0.win 1).blk t).view.emb (ix2 k f) = ix2 k f := by
    obtain ⟨e0, e1⟩ := index1 t
    refine funext fun (a : Fin 2) => Fin.ext ?_
    match a with
    | ⟨0, _⟩ => show win0_1.index t (0 : Fin 2) * 1024 + 1 * k.val = k.val; omega
    | ⟨1, _⟩ => show win0_1.index t (1 : Fin 2) * 2816 + 1 * f.val = f.val; omega
  rw [e, entry1]
  exact shapeCast_1ab_ab_apply (gateIn m c) _ k f

theorem block2 (c : Dev nD) (t : Fin cfg0.N) (k : Fin 1024) (f : Fin 2816) : iblk m c 2 t (ix2 k f) = upIn m c (ix3 0 k f) := by
  show V m c main_v3 (((cfg0.win 2).blk t).view.emb (ix2 k f)) = _
  have e : ((cfg0.win 2).blk t).view.emb (ix2 k f) = ix2 k f := by
    obtain ⟨e0, e1⟩ := index2 t
    refine funext fun (a : Fin 2) => Fin.ext ?_
    match a with
    | ⟨0, _⟩ => show win0_2.index t (0 : Fin 2) * 1024 + 1 * k.val = k.val; omega
    | ⟨1, _⟩ => show win0_2.index t (1 : Fin 2) * 2816 + 1 * f.val = f.val; omega
  rw [e, entry2]
  exact shapeCast_1ab_ab_apply (upIn m c) _ k f

theorem block3 (c : Dev nD) (t : Fin cfg0.N) (k : Fin 2816) (f : Fin 1024) : iblk m c 3 t (ix2 k f) = downIn m c (ix3 0 k f) := by
  show V m c main_v5 (((cfg0.win 3).blk t).view.emb (ix2 k f)) = _
  have e : ((cfg0.win 3).blk t).view.emb (ix2 k f) = ix2 k f := by
    obtain ⟨e0, e1⟩ := index3 t
    refine funext fun (a : Fin 2) => Fin.ext ?_
    match a with
    | ⟨0, _⟩ => show win0_3.index t (0 : Fin 2) * 2816 + 1 * k.val = k.val; omega
    | ⟨1, _⟩ => show win0_3.index t (1 : Fin 2) * 1024 + 1 * f.val = f.val; omega
  rw [e, entry3]
  exact shapeCast_1ab_ab_apply (downIn m c) _ k f

theorem block4 (c : Dev nD) (t : Fin cfg0.N) (f : Fin 1024) : iblk m c 4 t (ix2 0 f) = gIn m c (ix2 0 f) := by
  show V m c main_v7 (((cfg0.win 4).blk t).view.emb (ix2 0 f)) = _
  have e : ((cfg0.win 4).blk t).view.emb (ix2 0 f) = ix2 0 f := by
    obtain ⟨e0, e1⟩ := index4 t
    refine funext fun (a : Fin 2) => Fin.ext ?_
    match a with
    | ⟨0, _⟩ => show win0_4.index t (0 : Fin 2) * 1 + 1 * 0 = 0; omega
    | ⟨1, _⟩ => show win0_4.index t (1 : Fin 2) * 1024 + 1 * f.val = f.val; omega
  rw [e, entry4]
  exact (shapeCast_a_1a_apply _ _ 0 f).trans (shapeCast_1a_a_apply (gIn m c) _ f)

theorem block5 (c : Dev nD) (t : Fin cfg0.N) (f : Fin 1024) : iblk m c 5 t (ix2 0 f) = bIn m c (ix2 0 f) := by
  show V m c main_v9 (((cfg0.win 5).blk t).view.emb (ix2 0 f)) = _
  have e : ((cfg0.win 5).blk t).view.emb (ix2 0 f) = ix2 0 f := by
    obtain ⟨e0, e1⟩ := index5 t
    refine funext fun (a : Fin 2) => Fin.ext ?_
    match a with
    | ⟨0, _⟩ => show win0_5.index t (0 : Fin 2) * 1 + 1 * 0 = 0; omega
    | ⟨1, _⟩ => show win0_5.index t (1 : Fin 2) * 1024 + 1 * f.val = f.val; omega
  rw [e, entry5]
  exact (shapeCast_a_1a_apply _ _ 0 f).trans (shapeCast_1a_a_apply (bIn m c) _ f)

/-- A run's columns of an up-projection, and its rows of the down-projection. -/
theorem cols_lo (b : FVec Ideal S1024x2816 .bf16) (k : Fin 1024) (h : Fin 1536) : View.ld (Val := Elt Ideal) (e' := .bf16) b r0_1 (ix2 k h) = b (ix2 k (lo h)) := by
  rw [View.ld_unit]
  exact slice2_axis1_apply 0 b _ k h (lo h) (by simp)
theorem cols_hi (b : FVec Ideal S1024x2816 .bf16) (k : Fin 1024) (h : Fin 1280) : View.ld (Val := Elt Ideal) (e' := .bf16) b r0_3 (ix2 k h) = b (ix2 k (hi h)) := by
  rw [View.ld_unit]
  exact slice2_axis1_apply 1536 b _ k h (hi h) rfl
theorem rows_lo (b : FVec Ideal S2816x1024 .bf16) (h : Fin 1536) (k : Fin 1024) : View.ld (Val := Elt Ideal) (e' := .bf16) b r0_2 (ix2 h k) = b (ix2 (lo h) k) := by
  rw [View.ld_unit]
  exact slice2_axis0_apply 0 b _ h k (lo h) (by simp)
theorem rows_hi (b : FVec Ideal S2816x1024 .bf16) (h : Fin 1280) (k : Fin 1024) : View.ld (Val := Elt Ideal) (e' := .bf16) b r0_4 (ix2 h k) = b (ix2 (hi h) k) := by
  rw [View.ld_unit]
  exact slice2_axis0_apply 1536 b _ h k (hi h) rfl

/-- A hidden feature as the body computes it is the reference's. -/
theorem hidden_lo (c : Dev nD) (t : Fin cfg0.N) (q : Fin 512) (h : Fin 1536) :
    bodyHidden (iblk m c 0 t) (View.ld (Val := Elt Ideal) (iblk m c 1 t) r0_1) (View.ld (Val := Elt Ideal) (iblk m c 2 t) r0_1) q h
      = hidden (xIn m c) (gateIn m c) (upIn m c) (rowOf t q) (lo h) := by
  have e1 := Finset.sum_congr (s₁ := (Finset.univ : Finset (Fin 1024))) rfl fun k _ => congrArg₂ (fun a b : Ideal .f32 => a * b)
    (block0 m c t q k) ((cols_lo (iblk m c 1 t) k h).trans (block1 m c t k _))
  have e2 := Finset.sum_congr (s₁ := (Finset.univ : Finset (Fin 1024))) rfl fun k _ => congrArg₂ (fun a b : Ideal .f32 => a * b)
    (block0 m c t q k) ((cols_lo (iblk m c 2 t) k h).trans (block2 m c t k _))
  exact congrArg₂ (fun a b : Ideal .f32 => a * sigmoid a * b) e1 e2
theorem hidden_hi (c : Dev nD) (t : Fin cfg0.N) (q : Fin 512) (h : Fin 1280) :
    bodyHidden (iblk m c 0 t) (View.ld (Val := Elt Ideal) (iblk m c 1 t) r0_3) (View.ld (Val := Elt Ideal) (iblk m c 2 t) r0_3) q h
      = hidden (xIn m c) (gateIn m c) (upIn m c) (rowOf t q) (hi h) := by
  have e1 := Finset.sum_congr (s₁ := (Finset.univ : Finset (Fin 1024))) rfl fun k _ => congrArg₂ (fun a b : Ideal .f32 => a * b)
    (block0 m c t q k) ((cols_hi (iblk m c 1 t) k h).trans (block1 m c t k _))
  have e2 := Finset.sum_congr (s₁ := (Finset.univ : Finset (Fin 1024))) rfl fun k _ => congrArg₂ (fun a b : Ideal .f32 => a * b)
    (block0 m c t q k) ((cols_hi (iblk m c 2 t) k h).trans (block2 m c t k _))
  exact congrArg₂ (fun a b : Ideal .f32 => a * sigmoid a * b) e1 e2

/-- What point `t` leaves in the result's block. -/
theorem out_apply (c : Dev nD) (t : Fin cfg0.N) (q : Fin 512) (j : Fin 1024) :
    out0_6 (iblk m c 0 t) (iblk m c 1 t) (iblk m c 2 t) (iblk m c 3 t) (iblk m c 4 t) (iblk m c 5 t) (ix2 q j)
      = out (xIn m c) (gateIn m c) (upIn m c) (downIn m c) (gIn m c) (bIn m c) (ix2 (rowOf t q) j) := by
  unfold out0_6
  rw [View.canon_unit_zero zeros]
  repeat rw [View.ld_unit_zero zeros]
  refine (pay1_apply _ _ _ _ _ _ q j).trans ?_
  unfold out
  refine congr (congr (congrArg norm (funext fun k => ?_)) (block4 m c t j)) (block5 m c t j) |> fun h => congrFun h j
  unfold joined
  refine congrArg₂ (fun a b : Ideal .f32 => alphaI * a + b) (block0 m c t q k) ?_
  refine (congrArg₂ (fun a b : Ideal .f32 => a + b) (pay3_apply _ _ _ _ q k) rfl).trans ?_
  refine Eq.trans ?_ (sum_runs _).symm
  refine congrArg₂ (fun a b : Ideal .f32 => a + b) (Finset.sum_congr rfl fun h _ => ?_) (Finset.sum_congr rfl fun h _ => ?_)
  · exact congrArg₂ (fun a b : Ideal .f32 => a * b) (hidden_lo m c t q h) ((rows_lo (iblk m c 3 t) h k).trans (block3 m c t _ k))
  · exact congrArg₂ (fun a b : Ideal .f32 => a * b) ((pay4_apply _ _ _ q h).trans (hidden_hi m c t q h))
      ((rows_hi (iblk m c 3 t) h k).trans (block3 m c t _ k))

/-- The result's array after the run. -/
theorem final (c : Dev nD) : (dats m 0 c).arrAt 6 cfg0.N = out (xIn m c) (gateIn m c) (upIn m c) (downIn m c) (gIn m c) (bIn m c) := by
  refine Pipeline.Dat.arrAt_eq_of_emb (dats m 0 c) 6 _ (fun t hf y => ?_) fun i => ?_
  · obtain ⟨q, j, rfl⟩ := exists_ix2 (a := 512) (b := 1024) y
    show (dats m 0 c).after 6 t (ix2 q j) = _
    rw [after0_6, out_apply]
    refine congrArg (out (xIn m c) (gateIn m c) (upIn m c) (downIn m c) (gIn m c) (bIn m c)) (funext fun (a : Fin 2) => Fin.ext ?_)
    obtain ⟨e0, e1⟩ := index6 t
    match a with
    | ⟨0, _⟩ => show 512 * t.val + q.val = win0_6.index t (0 : Fin 2) * 512 + 1 * q.val; omega
    | ⟨1, _⟩ => show j.val = win0_6.index t (1 : Fin 2) * 1024 + 1 * j.val; omega
  · obtain ⟨r, j, rfl⟩ := exists_ix2 (a := 32768) (b := 1024) i
    have hr := r.isLt
    have hj := j.isLt
    have ht : r.val / 512 < cfg0.N := Nat.lt_of_lt_of_eq (by omega : _ < 64) points.symm
    refine ⟨⟨r.val / 512, ht⟩, flush0_6 _, ?_⟩
    obtain ⟨e0, e1⟩ := index6 ⟨r.val / 512, ht⟩
    refine ((cfg0.win 6).emb_mem_blk_iff ⟨r.val / 512, ht⟩ (ix2 r j)).mpr fun (a : Fin 2) => ?_
    match a with
    | ⟨0, _⟩ =>
      show win0_6.index ⟨r.val / 512, ht⟩ (0 : Fin 2) * 512 ≤ r.val ∧ r.val < win0_6.index ⟨r.val / 512, ht⟩ (0 : Fin 2) * 512 + 512
      rw [e0]
      show r.val / 512 * 512 ≤ r.val ∧ r.val < r.val / 512 * 512 + 512
      omega
    | ⟨1, _⟩ =>
      show win0_6.index ⟨r.val / 512, ht⟩ (1 : Fin 2) * 1024 ≤ j.val ∧ j.val < win0_6.index ⟨r.val / 512, ht⟩ (1 : Fin 2) * 1024 + 1024
      rw [e1]
      omega

end Cert.Proof.Dense

end
-- ==== Proof.Dense.Reference.lean ====
/- The reference's dense feed-forward step at an entry: the same function of the arguments as the call's. -/
module

public import proofs.«01_k».proof.Proof.Dense.Value

@[expose] public section

set_option maxRecDepth 16384

noncomputable section

namespace Cert.Proof.DenseReference

open Cert.Reference3Ideal Cert.Reference3Ideal.Gen
open Idealize.ShloMosaic hiding ix1 ix2 ix3
open Idealize.ShloMosaic.TcCoe Idealize.ShloMosaic.ValueIdx Cert.Proof.Rows

/-- The rows through an up-projection. -/
abbrev through (x : FVec Ideal S32768x1024 .f32) (w : FVec Ideal S1x1024x2816 .f32) : FVec Ideal S32768x2816 .f32 :=
  Host.dotGeneral dot_S32768x1024_S1024x2816_S32768x2816_1_0_0_1_n_n none x (shapeCast S1024x2816 w shapeCasts_S1x1024x2816_S1024x2816)

theorem through_apply (x : FVec Ideal S32768x1024 .f32) (w : FVec Ideal S1x1024x2816 .f32) (r : Fin 32768) (h : Fin 2816) :
    through x w (ix2 r h) = ∑ k : Fin 1024, x (ix2 r k) * w (ix3 0 k h) :=
  (StackMember.dotGeneral_plain_apply (m := 32768) (k := 1024) (n := 2816) none _ _ r h).trans (Finset.sum_congr rfl fun k _ =>
    congrArg (fun a : Ideal .f32 => x (ix2 r k) * a) (shapeCast_1ab_ab_apply w _ k h))

/-- The gated activations. -/
abbrev activations (x : FVec Ideal S32768x1024 .f32) (wg wu : FVec Ideal S1x1024x2816 .f32) : FVec Ideal S32768x2816 .f32 :=
  mulf (mulf (through x wg) (Host.divf (broadcastInDim S32768x2816 ![] bcast_S_S32768x2816 (constant S_ .f32 0x3F800000#32))
    (addf (broadcastInDim S32768x2816 ![] bcast_S_S32768x2816 (constant S_ .f32 0x3F800000#32)) (Host.exp (Host.negf (through x wg)))))) (through x wu)

theorem activations_apply (x : FVec Ideal S32768x1024 .f32) (wg wu : FVec Ideal S1x1024x2816 .f32) (r : Fin 32768) (h : Fin 2816) :
    activations x wg wu (ix2 r h) = Dense.hidden x wg wu r h := by
  have ho : broadcastInDim S32768x2816 ![] bcast_S_S32768x2816 (constant (F := Ideal) S_ .f32 0x3F800000#32) (ix2 r h) = oneI := Routing.bc0 _ _ _
  exact congrArg₂ (fun a b : Ideal .f32 => a * b) (congrArg₂ (fun o a : Ideal .f32 => a * Ideal.div o (o + FloatOps.hostUnary .exp (FloatOps.hostNegf a)))
    ho (through_apply x wg r h)) (through_apply x wu r h)

/-- The scaled residual and the feed-forward output. -/
abbrev sums (x : FVec Ideal S32768x1024 .f32) (wg wu : FVec Ideal S1x1024x2816 .f32) (wd : FVec Ideal S1x2816x1024 .f32) : FVec Ideal S32768x1024 .f32 :=
  addf (mulf (broadcastInDim S32768x1024 ![] bcast_S_S32768x1024 (constant S_ .f32 0x3FB504F3#32)) x)
    (Host.dotGeneral dot_S32768x2816_S2816x1024_S32768x1024_1_0_0_1_n_n none (activations x wg wu) (shapeCast S2816x1024 wd shapeCasts_S1x2816x1024_S2816x1024))

theorem sums_apply (x : FVec Ideal S32768x1024 .f32) (wg wu : FVec Ideal S1x1024x2816 .f32) (wd : FVec Ideal S1x2816x1024 .f32) (r : Fin 32768) (k : Fin 1024) :
    sums x wg wu wd (ix2 r k) = Dense.joined x wg wu wd r k := by
  have ha : broadcastInDim S32768x1024 ![] bcast_S_S32768x1024 (constant (F := Ideal) S_ .f32 0x3FB504F3#32) (ix2 r k) = alphaI := Routing.bc0 _ _ _
  refine congrArg₂ (fun a b : Ideal .f32 => a * x (ix2 r k) + b) ha ?_
  refine (StackMember.dotGeneral_plain_apply (m := 32768) (k := 2816) (n := 1024) none _ _ r k).trans (Finset.sum_congr rfl fun h _ => ?_)
  exact congrArg₂ (fun a b : Ideal .f32 => a * b) (activations_apply x wg wu r h) (shapeCast_1ab_ab_apply wd _ h k)

theorem result (m : (ℓ : Loc nD τ sig) → Buf (Elt Ideal) ℓ) (c : Dev nD) : Cert.Reference3Ideal.Value.res_main_v36 m c
    = Dense.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨r, j, rfl⟩ := exists_ix2 (a := 32768) (b := 1024) i
  refine (hostNorm_apply (M := 32768) reducesTo_S32768x1024_S32768_d1 h_S_ bcast_S32768_S32768x1_0 bcast_S_S32768x1 bcast_S32768x1_S32768x1024_0_1
    shapeCasts_S1x1024_S1024 bcast_S1024_S1x1024_1 bcast_S1x1024_S32768x1024_0_1
    (sums (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) r j).trans ?_
  unfold Dense.out
  exact congrArg (fun y => norm y _ _ j) (funext fun k => sums_apply _ _ _ _ r k)

end Cert.Proof.DenseReference

end
-- ==== Proof.Inproj.Tile.lean ====
/- The input projection's tile: its products, its shift by a row, its running sums, as the body's steps compute them. -/
module

public import proofs.«01_k».proof.Proof.Gen.Kernel6Ideal.Value
public import proofs.«01_k».proof.Proof.Rows.Norm

@[expose] public section

set_option maxRecDepth 16384

noncomputable section

namespace Cert.Proof.Inproj

open Cert.Kernel6Ideal Cert.Kernel6Ideal.Gen Cert.Kernel6Ideal.Value
open Idealize.ShloMosaic hiding ix1 ix2 ix3 ix4
open Idealize.ShloMosaic.TcCoe Idealize.SL.Sem Idealize.ShloMosaic.ValueIdx Cert.Proof.Rows

/-- The tile's rows times a run of columns. -/
def proj {n : ℕ} (x : FVec Ideal S512x1024 .f32) (w : FVec Ideal ⟨2, ![1024, n]⟩ .bf16) : FVec Ideal ⟨2, ![512, n]⟩ .f32 :=
  fun i => ∑ k : Fin 1024, x (ix2 (i 0) k) * w (ix2 k (i 1))

/-- The row above, where the first row's is given. -/
def above {n : ℕ} (l : FVec Ideal ⟨2, ![1, n]⟩ .f32) (p : FVec Ideal ⟨2, ![512, n]⟩ .f32) (q : Fin 512) (j : Fin n) : Ideal .f32 :=
  if q.val = 0 then l (ix2 0 j) else p (ix2 ⟨q.val - 1, by omega⟩ j)

/-- The rows mixed with the rows above. -/
def mixed {n : ℕ} (p : FVec Ideal ⟨2, ![512, n]⟩ .f32) (l mu : FVec Ideal ⟨2, ![1, n]⟩ .f32) : FVec Ideal ⟨2, ![512, n]⟩ .f32 :=
  fun i => p i + mu (ix2 0 (i 1)) * (above l p (i 0) (i 1) - p i)

/-- The last row. -/
def lastRow {n : ℕ} (p : FVec Ideal ⟨2, ![512, n]⟩ .f32) : FVec Ideal ⟨2, ![1, n]⟩ .f32 := fun i => p (ix2 511 (i 1))

section Columns
variable {n : ℕ} (hb : (⟨2, ![512, 1]⟩ : Shape).Broadcasts ⟨2, ![512, n]⟩) (hl : (⟨2, ![1, n]⟩ : Shape).Broadcasts ⟨2, ![512, n]⟩)
  (hr : (⟨2, ![512, n]⟩ : Shape).Rotates 0 none)

/-- The mask of the first row. -/
theorem first_apply (q : Fin 512) : k0_pay6 (ix2 q 0) = if q.val = 0 then 1#1 else 0#1 := by
  unfold k0_pay6
  show IntOp.cmpi .eq (BitVec.ofNat 32 (0 * 512 + q.val)) (BitVec.ofNat 32 0) = _
  rw [Nat.zero_mul, Nat.zero_add]
  by_cases h : q.val = 0
  · rw [if_pos h, h]; rfl
  · rw [if_neg h]
    exact (WordCmp.cmpi_eq_ofNat_eq_zero_iff (w := 32) (by have := q.isLt; omega) (by omega)).mpr h

theorem mask_apply (q : Fin 512) (j : Fin n) : broadcastTo ⟨2, ![512, n]⟩ k0_pay6 hb (ix2 q j) = k0_pay6 (ix2 q 0) := by
  refine broadcastTo_apply k0_pay6 hb (ix2 q j) (ix2 q (0 : Fin 1)) fun ax => ?_
  match ax with
  | ⟨0, _⟩ => rfl
  | ⟨1, _⟩ => rfl

theorem turned_apply (p : FVec Ideal ⟨2, ![512, n]⟩ .f32) (q : Fin 512) (j : Fin n) (h : q.val ≠ 0) :
    dynamicRotate 0 1#32 none p hr (ix2 q j) = p (ix2 ⟨q.val - 1, by omega⟩ j) := by
  refine dynamicRotate_apply 0 1#32 p hr (ix2 q j) (ix2 ⟨q.val - 1, by omega⟩ j) fun b => ?_
  match b with
  | ⟨0, _⟩ =>
    show q.val - 1 = (q.val + 512 - 1 % 512) % 512
    have := q.isLt
    omega
  | ⟨1, _⟩ => rfl

theorem picked_apply (p : FVec Ideal ⟨2, ![512, n]⟩ .f32) (l : FVec Ideal ⟨2, ![1, n]⟩ .f32) (q : Fin 512) (j : Fin n) :
    select (broadcastTo ⟨2, ![512, n]⟩ k0_pay6 hb) (broadcastTo ⟨2, ![512, n]⟩ l hl) (dynamicRotate 0 1#32 none p hr) (ix2 q j) = above l p q j := by
  show Scalar.select (broadcastTo ⟨2, ![512, n]⟩ k0_pay6 hb (ix2 q j)) (broadcastTo ⟨2, ![512, n]⟩ l hl (ix2 q j))
    (dynamicRotate 0 1#32 none p hr (ix2 q j)) = _
  rw [mask_apply hb q j, first_apply q, broadcastTo_1b_ab_apply l hl q j]
  unfold above
  by_cases h : q.val = 0
  · rw [if_pos h, if_pos h]; rfl
  · rw [if_neg h, if_neg h, turned_apply hr p q j h]; rfl

theorem mixed_eq (p : FVec Ideal ⟨2, ![512, n]⟩ .f32) (l mu : FVec Ideal ⟨2, ![1, n]⟩ .f32) :
    addf p (mulf (broadcastTo ⟨2, ![512, n]⟩ mu hl) (subf (select (broadcastTo ⟨2, ![512, n]⟩ k0_pay6 hb) (broadcastTo ⟨2, ![512, n]⟩ l hl)
      (dynamicRotate 0 1#32 none p hr)) p)) = mixed p l mu := by
  funext i
  obtain ⟨q, j, rfl⟩ := exists_ix2 i
  exact congrArg₂ (fun a b : Ideal .f32 => p (ix2 q j) + a * (b - p (ix2 q j))) (broadcastTo_1b_ab_apply mu hl q j) (picked_apply hb hl hr p l q j)
end Columns

variable (x : FVec Ideal S512x1024 .f32) (w : FVec Ideal S1024x512 .bf16) (w' : FVec Ideal S1024x384 .bf16) (l mu : FVec Ideal S1x512 .f32) (l' mu' : FVec Ideal S1x384 .f32)

theorem product512 : matmul dot_S512x1024_S1024x512_S512x512_1_0_0_1_n_n none (k0_pay5 x) w (constant S512x512 .f32 0x00000000#32) = proj x w := by
  funext i
  obtain ⟨q, j, rfl⟩ := exists_ix2 i
  exact product_apply (M := 512) (K := 1024) (N := 512) _ _ q j
theorem product384 : matmul dot_S512x1024_S1024x384_S512x384_1_0_0_1_n_n none (k0_pay5 x) w' (constant S512x384 .f32 0x00000000#32) = proj x w' := by
  funext i
  obtain ⟨q, j, rfl⟩ := exists_ix2 i
  exact product_apply (M := 512) (K := 1024) (N := 384) _ _ q j
theorem pay7_eq : k0_pay7 x w = proj x w := by
  unfold k0_pay7
  rw [shapeCast_self w]
  exact product512 x w
theorem pay12_eq : k0_pay12 (k0_pay5 x) w = proj x w := by
  unfold k0_pay12
  rw [shapeCast_self w]
  exact product512 x w
theorem pay15_eq : k0_pay15 (k0_pay5 x) w = proj x w := by
  unfold k0_pay15
  rw [shapeCast_self w]
  exact product512 x w
theorem pay20_eq : k0_pay20 (k0_pay5 x) w' = proj x w' := by
  unfold k0_pay20
  rw [shapeCast_self w']
  exact product384 x w'

theorem cut512 (p : FVec Ideal S512x512 .f32) : shapeCast S1x512 (extractStridedSlice S1x512 ![511, 0] p slices_S512x512_o511_0_S1x512) shapeCasts_S1x512_S1x512 = lastRow p := by
  rw [shapeCast_self]
  funext i
  obtain ⟨q, j, rfl⟩ := exists_ix2 i
  exact slice2_axis0_apply 511 p _ q j 511 (by have := q.isLt; show 511 = 511 + q.val; omega)
theorem pay8_eq : k0_pay8 x w = lastRow (proj x w) := by
  unfold k0_pay8
  rw [pay7_eq]
  exact cut512 _
theorem pay13_eq : k0_pay13 (k0_pay5 x) w = lastRow (proj x w) := by
  unfold k0_pay13
  rw [pay12_eq]
  exact cut512 _
theorem pay18_eq : k0_pay18 (k0_pay17 (k0_pay5 x) w) = lastRow (proj x w) := by
  unfold k0_pay18 k0_pay17
  rw [pay15_eq]
  exact cut512 _
theorem cut384 (p : FVec Ideal S512x384 .f32) : shapeCast S1x384 (extractStridedSlice S1x384 ![511, 0] p slices_S512x384_o511_0_S1x384) shapeCasts_S1x384_S1x384 = lastRow p := by
  rw [shapeCast_self]
  funext i
  obtain ⟨q, j, rfl⟩ := exists_ix2 i
  exact slice2_axis0_apply 511 p _ q j 511 (by have := q.isLt; show 511 = 511 + q.val; omega)
theorem pay21_eq : k0_pay21 (k0_pay5 x) w' = lastRow (proj x w') := by
  unfold k0_pay21
  rw [pay20_eq]
  exact cut384 _

theorem pay11_eq : k0_pay11 (k0_pay7 x w) (k0_pay9 x w l) (k0_pay10 mu) = mixed (proj x w) l mu := by
  unfold k0_pay11 k0_pay9 k0_pay10
  rw [pay7_eq, shapeCast_self l, shapeCast_self mu, shapeCast_self k0_pay6]
  exact mixed_eq _ _ _ _ _ _
theorem pay14_eq : k0_pay14 (k0_pay5 x) k0_pay6 w l mu = mixed (proj x w) l mu := by
  unfold k0_pay14
  rw [pay12_eq, shapeCast_self l, shapeCast_self mu, shapeCast_self k0_pay6]
  exact mixed_eq _ _ _ _ _ _
theorem pay19_eq : k0_pay19 (k0_pay15 (k0_pay5 x) w) (k0_pay16 (k0_pay5 x) k0_pay6 w l) mu = mixed (proj x w) l mu := by
  unfold k0_pay19 k0_pay16
  rw [pay15_eq, shapeCast_self l, shapeCast_self mu, shapeCast_self k0_pay6]
  exact mixed_eq _ _ _ _ _ _
theorem pay22_eq : k0_pay22 (k0_pay5 x) k0_pay6 w' l' mu' = mixed (proj x w') l' mu' := by
  unfold k0_pay22
  rw [pay20_eq, shapeCast_self l', shapeCast_self mu', shapeCast_self k0_pay6]
  exact mixed_eq _ _ _ _ _ _

theorem pay23_apply (i : S512x512.Idx) : (k0_pay23 (F := Ideal) (k0_pay5 x) w i : EReal) = (proj x w i : EReal) := by
  unfold k0_pay23
  rw [shapeCast_self w, product512]
  rfl
theorem pay24_apply (i : S512x512.Idx) : (k0_pay24 (F := Ideal) (k0_pay5 x) w i : EReal) = (proj x w i : EReal) := by
  unfold k0_pay24
  rw [shapeCast_self w, product512]
  rfl

/-- The values, turned. -/
theorem pay25_apply (a b : Fin 512) : (k0_pay25 (F := Ideal) (k0_pay5 x) w (ix4 0 0 a b) : EReal) = (proj x w (ix2 b a) : EReal) := by
  unfold k0_pay25
  rw [shapeCast_self w, product512]
  refine (shapeCast_apply _ shapeCasts_S512x512_S1x1x512x512 (ix4 0 0 a b) (ix2 a b) ?_).trans ?_
  · rw [Shape.rowMajor_val_four, Shape.rowMajor_val_two]
    show a.val * 512 + b.val = ((0 * 1 + 0) * 512 + a.val) * 512 + b.val
    omega
  · exact transpose_ix2_apply (proj x w) transposes_S512x512_p1_0_S512x512 a b

end Cert.Proof.Inproj

end
-- ==== Proof.Inproj.Sums.lean ====
/- The input projection's running sums: a tile's logarithms of gates, summed down the rows onto the sum carried in. -/
module

public import proofs.«01_k».proof.Proof.Inproj.Tile

@[expose] public section

set_option maxRecDepth 16384

noncomputable section

namespace Cert.Proof.Inproj

open Cert.Kernel6Ideal Cert.Kernel6Ideal.Gen Cert.Kernel6Ideal.Value
open Idealize.ShloMosaic hiding ix1 ix2 ix3 ix4
open Idealize.ShloMosaic.TcCoe Idealize.SL.Sem Idealize.ShloMosaic.ValueIdx Cert.Proof.Rows

/-- The logarithm of the sigmoid, as the body computes it. -/
def logSig (v : Ideal .f32) : Ideal .f32 :=
  (min (v : EReal) (Ideal.ofBits .f32 0x00000000#32) - Ideal.log (1 + Ideal.exp (Ideal.ofBits .f32 0x00000000#32 - max (v : EReal) (-v))) : EReal)

variable (x : FVec Ideal S512x1024 .f32) (w : FVec Ideal S1024x128 .bf16) (b : FVec Ideal S1x128 .f32)

theorem pay26_apply (q : Fin 512) (j : Fin 128) : k0_pay26 (k0_pay5 x) w b (ix2 q j) = logSig (proj x w (ix2 q j) + b (ix2 0 j)) := by
  have hp : matmul dot_S512x1024_S1024x128_S512x128_1_0_0_1_n_n none (k0_pay5 x) w (constant S512x128 .f32 0x00000000#32) (ix2 q j) = proj x w (ix2 q j) :=
    product_apply (M := 512) (K := 1024) (N := 128) _ _ q j
  unfold k0_pay26
  rw [← hp, ← broadcastTo_1b_ab_apply b broadcasts_S1x128_S512x128 q j, shapeCast_self w, shapeCast_self b]
  rfl

/-! ## A sum in three parts -/

/-- With a minus infinity among its terms a sum is minus infinity. -/
theorem sum_bot {n : ℕ} (f : Fin n → EReal) (s : Fin n) (h : f s = ⊥) : ∑ k, f k = ⊥ := by
  rw [← Finset.add_sum_erase _ _ (Finset.mem_univ s), h, EReal.bot_add]

/-- The masked numbers, their rounding errors and those errors' add up to the masked numbers. -/
theorem sum_parts {n : ℕ} (a v : Fin n → EReal) (P : Fin n → Prop) [DecidablePred P] (ha : ∀ s, a s = if P s then 1 else 0) (hv : ∀ s, v s ≠ ⊤) :
    ∑ s, a s * v s + ∑ s, a s * (v s - v s) + ∑ s, a s * ((v s - v s) - (v s - v s)) = ∑ s, if P s then v s else 0 := by
  have h1 : ∑ s, a s * v s = ∑ s, if P s then v s else 0 := Finset.sum_congr rfl fun s _ => by
    rw [ha s]; split
    · exact one_mul _
    · exact zero_mul _
  rw [h1]
  by_cases hb : ∃ s, P s ∧ v s = ⊥
  · obtain ⟨s, hP, hs⟩ := hb
    rw [sum_bot (fun s => if P s then v s else 0) s (by show (if P s then v s else 0) = ⊥; rw [if_pos hP, hs]), EReal.bot_add, EReal.bot_add]
  · have hz : ∀ s, P s → v s - v s = 0 := fun s hP => EReal.sub_self (hv s) fun h => hb ⟨s, hP, h⟩
    have h2 : ∑ s, a s * (v s - v s) = 0 := Finset.sum_eq_zero fun s _ => by
      rw [ha s]; split
      · rw [hz s ‹_›, mul_zero]
      · exact zero_mul _
    have h3 : ∑ s, a s * ((v s - v s) - (v s - v s)) = 0 := Finset.sum_eq_zero fun s _ => by
      rw [ha s]; split
      · rw [hz s ‹_›, sub_zero, mul_zero]
      · exact zero_mul _
    rw [h2, h3, add_zero, add_zero]

/-- Three parts side by side. -/
abbrev parts (u v z : FVec Ideal S512x128 .bf16) : FVec Ideal S512x384 .bf16 :=
  concatenate S512x384 1 [⟨S512x128, u⟩, ⟨S512x128, v⟩, ⟨S512x128, z⟩] concatenates_S512x128_S512x128_S512x128_S512x384_d1

theorem parts_apply (u v z : FVec Ideal S512x128 .bf16) (s : Fin 512) (j : Fin 128) :
    parts u v z (ix2 s ⟨j.val, by omega⟩) = u (ix2 s j) ∧ parts u v z (ix2 s ⟨128 + j.val, by omega⟩) = v (ix2 s j)
    ∧ parts u v z (ix2 s ⟨256 + j.val, by omega⟩) = z (ix2 s j) := by
  refine ⟨?_, ?_, ?_⟩
  · refine concatenate_apply_piece (t := S512x384) 1 [⟨S512x128, u⟩, ⟨S512x128, v⟩, ⟨S512x128, z⟩] concatenates_S512x128_S512x128_S512x128_S512x384_d1
      (ix2 s ⟨j.val, by omega⟩) 0 (by show 0 < 3; omega) S512x128 u rfl rfl 0 rfl (ix2 s j) (fun b hb => ?_) (Nat.zero_add _)
    match b with
    | ⟨0, _⟩ => rfl
    | ⟨1, _⟩ => exact absurd rfl hb
  · refine concatenate_apply_piece (t := S512x384) 1 [⟨S512x128, u⟩, ⟨S512x128, v⟩, ⟨S512x128, z⟩] concatenates_S512x128_S512x128_S512x128_S512x384_d1
      (ix2 s ⟨128 + j.val, by omega⟩) 1 (by show 1 < 3; omega) S512x128 v rfl rfl 128 rfl (ix2 s j) (fun b hb => ?_) rfl
    match b with
    | ⟨0, _⟩ => rfl
    | ⟨1, _⟩ => exact absurd rfl hb
  · refine concatenate_apply_piece (t := S512x384) 1 [⟨S512x128, u⟩, ⟨S512x128, v⟩, ⟨S512x128, z⟩] concatenates_S512x128_S512x128_S512x128_S512x384_d1
      (ix2 s ⟨256 + j.val, by omega⟩) 2 (by show 2 < 3; omega) S512x128 z rfl rfl 256 rfl (ix2 s j) (fun b hb => ?_) rfl
    match b with
    | ⟨0, _⟩ => rfl
    | ⟨1, _⟩ => exact absurd rfl hb

/-- The mask of the rows at or above. -/
abbrev Below (t : FVec Ideal S512x512 .bf16) : Prop := ∀ r s : Fin 512, t (ix2 r s) = (if s.val ≤ r.val then 1 else 0 : EReal)

/-- A tile's running sums of its columns, onto the sums carried in. -/
def sums (v : FVec Ideal S512x128 .f32) (carry : FVec Ideal S1x128 .f32) : FVec Ideal S512x128 .f32 :=
  fun i => (∑ s : Fin 512, if s.val ≤ (i 0).val then v (ix2 s (i 1)) else 0) + carry (ix2 0 (i 1))

theorem pay1_eq (tri : FVec Ideal S512x512 .bf16) (htri : Below tri) (v : FVec Ideal S512x128 .f32) (hv : ∀ i, (v i : EReal) ≠ ⊤) (carry : FVec Ideal S1x128 .f32) :
    k0_pay1 (F := Ideal) tri (truncf .bf16 v bitsLt_bf16_f32) (subf v v) (truncf .bf16 (subf v v) bitsLt_bf16_f32) (subf v v) carry = sums v carry := by
  funext i
  obtain ⟨q, j, rfl⟩ := exists_ix2 i
  have hp : ∀ (y : FVec Ideal S512x384 .bf16) (e : Fin 384), matmul dot_S512x512_S512x384_S512x384_1_0_0_1_n_n none tri y (constant S512x384 .f32 0x00000000#32) (ix2 q e)
      = ∑ s : Fin 512, tri (ix2 q s) * y (ix2 s e) := fun y e => product_apply (M := 512) (K := 512) (N := 384) _ _ q e
  let y := parts (truncf .bf16 v bitsLt_bf16_f32) (truncf .bf16 (subf v v) bitsLt_bf16_f32) (truncf .bf16 (subf (subf v v) (subf v v)) bitsLt_bf16_f32)
  unfold k0_pay1
  refine congrArg₂ (fun a b : Ideal .f32 => a + b) ?_ (broadcastTo_1b_ab_apply carry broadcasts_S1x128_S512x128 q j)
  refine Eq.trans ?_ (sum_parts (fun s => tri (ix2 q s)) (fun s => v (ix2 s j)) (fun s : Fin 512 => s.val ≤ q.val) (fun s => htri q s) fun s => hv _)
  refine congrArg₂ (fun a b : Ideal .f32 => a + b) (congrArg₂ (fun a b : Ideal .f32 => a + b) ?_ ?_) ?_
  · exact (slice2_axis1_apply 0 (matmul dot_S512x512_S512x384_S512x384_1_0_0_1_n_n none tri y (constant S512x384 .f32 0x00000000#32)) _ q j ⟨j.val, by omega⟩ (Nat.zero_add _).symm).trans ((hp y _).trans
      (Finset.sum_congr rfl fun s _ => congrArg (fun a : Ideal .f32 => tri (ix2 q s) * a) (parts_apply _ _ _ s j).1))
  · exact (slice2_axis1_apply 128 (matmul dot_S512x512_S512x384_S512x384_1_0_0_1_n_n none tri y (constant S512x384 .f32 0x00000000#32)) _ q j ⟨128 + j.val, by omega⟩ rfl).trans ((hp y _).trans
      (Finset.sum_congr rfl fun s _ => congrArg (fun a : Ideal .f32 => tri (ix2 q s) * a) (parts_apply _ _ _ s j).2.1))
  · exact (slice2_axis1_apply 256 (matmul dot_S512x512_S512x384_S512x384_1_0_0_1_n_n none tri y (constant S512x384 .f32 0x00000000#32)) _ q j ⟨256 + j.val, by omega⟩ rfl).trans ((hp y _).trans
      (Finset.sum_congr rfl fun s _ => congrArg (fun a : Ideal .f32 => tri (ix2 q s) * a) (parts_apply _ _ _ s j).2.2))

/-- One more than an exponential has a logarithm above minus infinity. -/
theorem log_one_exp_ne_bot (v : EReal) : Ideal.log (1 + Ideal.exp v) ≠ ⊥ := by
  induction v using EReal.rec with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | coe r =>
    show Ideal.log (1 + (Real.exp r : EReal)) ≠ ⊥
    have h : (1 + (Real.exp r : EReal)) = ((1 + Real.exp r : ℝ) : EReal) := by rw [EReal.coe_add]; rfl
    rw [h]
    show (if 1 + Real.exp r ≤ 0 then (⊥ : EReal) else (Real.log (1 + Real.exp r) : EReal)) ≠ ⊥
    rw [if_neg (by have := Real.exp_pos r; linarith)]
    exact EReal.coe_ne_bot _
  | top =>
    show Ideal.log (1 + ⊤) ≠ ⊥
    have h : (1 : EReal) + ⊤ = ⊤ := EReal.coe_add_top 1
    rw [h]
    exact bot_ne_top.symm

/-- The logarithm of the sigmoid, in the reals' operations. -/
theorem logSig_eq (v : Ideal .f32) : (logSig v : EReal) = min (v : EReal) 0 - Ideal.log (1 + Ideal.exp (0 - max (v : EReal) (-v))) := by
  unfold logSig
  rw [Ideal.ofBits_zero_f32]

/-- It is never plus infinity. -/
theorem logSig_ne_top (v : Ideal .f32) : (logSig v : EReal) ≠ ⊤ := by
  rw [logSig_eq]
  intro h
  have hL := log_one_exp_ne_bot (0 - max (v : EReal) (-v))
  generalize Ideal.log (1 + Ideal.exp (0 - max (v : EReal) (-v))) = L at h hL
  have hm : min (v : EReal) 0 ≤ 0 := min_le_right _ _
  generalize min (v : EReal) 0 = a at h hm
  rw [sub_eq_add_neg] at h
  have hn : -L ≠ ⊤ := fun hh => hL (by rw [← neg_neg L, hh]; rfl)
  exact (EReal.add_ne_top (fun ha => by rw [ha] at hm; exact absurd hm (by decide)) hn) h

end Cert.Proof.Inproj

end
-- ==== Proof.Inproj.Body.lean ====
/- The input projection's body: what a point leaves in the four results' blocks and in the two buffers that the next point
   reads, from the point's blocks and what the point before left. -/
module

public import proofs.«01_k».proof.Proof.Inproj.Sums

@[expose] public section

set_option maxRecDepth 16384

noncomputable section

namespace Cert.Proof.Inproj

open Cert.Kernel6Ideal Cert.Kernel6Ideal.Gen Cert.Kernel6Ideal.Value
open Idealize.ShloMosaic hiding ix1 ix2 ix3 ix4
open Idealize.ShloMosaic.TcCoe Idealize.SL.Sem Idealize.ShloMosaic.ValueIdx Cert.Proof.Rows

/-! ## A run of columns -/

section Cut
variable {n N : ℕ} (o : ℕ) (hO : ∀ a, (![0, o] : Fin 2 → ℕ) a + (![512, n] : Fin 2 → ℕ) a ≤ (⟨2, ![512, N]⟩ : Shape).size a)
  (hW : ∀ a, (![0, o] : Fin 2 → ℕ) a + (![1024, n] : Fin 2 → ℕ) a ≤ (⟨2, ![1024, N]⟩ : Shape).size a)
  (hL : ∀ a, (![0, o] : Fin 2 → ℕ) a + (![1, n] : Fin 2 → ℕ) a ≤ (⟨2, ![1, N]⟩ : Shape).size a)

abbrev cutW (w : FVec Ideal ⟨2, ![1024, N]⟩ .bf16) : FVec Ideal ⟨2, ![1024, n]⟩ .bf16 := View.ld (Val := Elt Ideal) (e' := .bf16) w (Rect.unit (s := ⟨2, ![1024, N]⟩) ![0, o] ![1024, n] hW)
abbrev cutL (l : FVec Ideal ⟨2, ![1, N]⟩ .f32) : FVec Ideal ⟨2, ![1, n]⟩ .f32 := View.ld (Val := Elt Ideal) (e' := .f32) l (Rect.unit (s := ⟨2, ![1, N]⟩) ![0, o] ![1, n] hL)

include hW in
theorem col_lt (j : Fin n) : o + j.val < N := by
  have h := hW 1
  have h' : o + n ≤ N := h
  omega

theorem cutW_apply (w : FVec Ideal ⟨2, ![1024, N]⟩ .bf16) (k : Fin 1024) (j : Fin n) : cutW o hW w (ix2 k j) = w (ix2 k ⟨o + j.val, col_lt o hW j⟩) :=
  congrArg w (funext fun a => Fin.ext (by
    match a with
    | ⟨0, _⟩ => show 0 + 1 * k.val = k.val; omega
    | ⟨1, _⟩ => show o + 1 * j.val = o + j.val; omega))
theorem cutL_apply (l : FVec Ideal ⟨2, ![1, N]⟩ .f32) (j : Fin n) : cutL o hL l (ix2 0 j) = l (ix2 0 ⟨o + j.val, by have h : o + n ≤ N := hL 1; omega⟩) :=
  congrArg l (funext fun a => Fin.ext (by
    match a with
    | ⟨0, _⟩ => rfl
    | ⟨1, _⟩ => show o + 1 * j.val = o + j.val; omega))

theorem proj_cut (x : FVec Ideal S512x1024 .f32) (w : FVec Ideal ⟨2, ![1024, N]⟩ .bf16) (q : Fin 512) (j : Fin n) :
    proj x (cutW o hW w) (ix2 q j) = proj x w (ix2 q ⟨o + j.val, col_lt o hW j⟩) :=
  Finset.sum_congr rfl fun k _ => congrArg (fun a : Ideal .f32 => x (ix2 q k) * a) (cutW_apply o hW w k j)

theorem above_cut (x : FVec Ideal S512x1024 .f32) (w : FVec Ideal ⟨2, ![1024, N]⟩ .bf16) (l : FVec Ideal ⟨2, ![1, N]⟩ .f32) (q : Fin 512) (j : Fin n) :
    above (cutL o hL l) (proj x (cutW o hW w)) q j = above l (proj x w) q ⟨o + j.val, col_lt o hW j⟩ := by
  unfold above
  split
  · exact cutL_apply o hL l j
  · exact proj_cut o hW x w _ j

theorem emb_cut (z : (Rect.unit (s := ⟨2, ![512, N]⟩) ![0, o] ![512, n] hO).shape.Idx) :
    (Rect.unit (s := ⟨2, ![512, N]⟩) ![0, o] ![512, n] hO).emb z = ix2 (n0 := 512) (n1 := N) (z 0) ⟨o + (z 1).val, by
      have h : o + n ≤ N := hO 1
      have := (z 1).isLt
      have h2 : (z 1).val < n := this
      omega⟩ :=
  funext fun a => Fin.ext (by
    match a with
    | ⟨0, _⟩ => show 0 + 1 * (z 0).val = (z 0).val; omega
    | ⟨1, _⟩ => show o + 1 * (z 1).val = o + (z 1).val; omega)

/-- The mixed rows' run of columns is the run's mixed rows. -/
theorem mixed_cut (x : FVec Ideal S512x1024 .f32) (w : FVec Ideal ⟨2, ![1024, N]⟩ .bf16) (l mu : FVec Ideal ⟨2, ![1, N]⟩ .f32)
    (z : (Rect.unit (s := ⟨2, ![512, N]⟩) ![0, o] ![512, n] hO).shape.Idx) :
    mixed (proj x (cutW o hW w)) (cutL o hL l) (cutL o hL mu) z = mixed (proj x w) l mu ((Rect.unit (s := ⟨2, ![512, N]⟩) ![0, o] ![512, n] hO).emb z) := by
  rw [emb_cut o hO z]
  obtain ⟨q, j, rfl⟩ := exists_ix2 (a := 512) (b := n) z
  unfold mixed
  show proj x (cutW o hW w) (ix2 q j) + cutL o hL mu (ix2 0 j) * (above (cutL o hL l) (proj x (cutW o hW w)) q j - proj x (cutW o hW w) (ix2 q j)) = _
  rw [proj_cut, cutL_apply, above_cut]
  rfl

theorem proj_emb (x : FVec Ideal S512x1024 .f32) (w : FVec Ideal ⟨2, ![1024, N]⟩ .bf16)
    (z : (Rect.unit (s := ⟨2, ![512, N]⟩) ![0, o] ![512, n] hO).shape.Idx) :
    proj x (cutW o hW w) z = proj x w ((Rect.unit (s := ⟨2, ![512, N]⟩) ![0, o] ![512, n] hO).emb z) := by
  rw [emb_cut o hO z]
  obtain ⟨q, j, rfl⟩ := exists_ix2 (a := 512) (b := n) z
  exact proj_cut o hW x w q j

theorem last_cut (x : FVec Ideal S512x1024 .f32) (w : FVec Ideal ⟨2, ![1024, N]⟩ .bf16)
    (z : (Rect.unit (s := ⟨2, ![1, N]⟩) ![0, o] ![1, n] hL).shape.Idx) :
    lastRow (proj x (cutW o hW w)) z = lastRow (proj x w) ((Rect.unit (s := ⟨2, ![1, N]⟩) ![0, o] ![1, n] hL).emb z) := by
  obtain ⟨q, j, rfl⟩ := exists_ix2 (a := 1) (b := n) z
  refine (proj_cut o hW x w 511 j).trans (congrArg (fun e => proj x w (ix2 511 e)) (Fin.ext ?_))
  show o + j.val = o + 1 * j.val
  omega
end Cut

/-! ## The cases -/

/-- A load of a whole buffer holding given contents. -/
theorem load_eq {s : Shape} {e : EltTy} (b : Memref sig .tc .vmem s e) (h : b.IsWhole) (d : Vec Ideal s e) (r : Rect s) :
    b.view.readAt (Elt Ideal) r.toLoadRect (h.unread d) = View.ld (Val := Elt Ideal) (e' := e) d r := by
  rw [View.readAt_eq_ld, Memref.IsWhole.read_unread]

variable (c : Dev nD) (t : Fin cfg0.N) (x0 : FVec Ideal S512x1024 .f32) (x1 : FVec Ideal S1024x1920 .bf16) (x2 : FVec Ideal S1024x1536 .bf16) (x3 : FVec Ideal S1024x128 .bf16)
  (x4 : FVec Ideal S1x1920 .f32) (x5 : FVec Ideal S1x128 .f32) (x6 : FVec Ideal S512x512 .bf16) (xs0 : FVec Ideal S1x1920 .f32) (xs1 : FVec Ideal S1x128 .f32)

theorem load0 (h : scM0_0.IsWhole) (d : Vec Ideal S1x1920 .f32) (r : Rect S1x1920) :
    (View.whole cc0_scratch0).readAt (Elt Ideal) r.toLoadRect (h.unread d) = View.ld (Val := Elt Ideal) (e' := .f32) d r := load_eq scM0_0 h d r
theorem load1 (h : scM0_1.IsWhole) (d : Vec Ideal S1x128 .f32) (r : Rect S1x128) :
    (View.whole cc0_scratch1).readAt (Elt Ideal) r.toLoadRect (h.unread d) = View.ld (Val := Elt Ideal) (e' := .f32) d r := load_eq scM0_1 h d r

/-- A tile's logarithms of gates. -/
def gates (x : FVec Ideal S512x1024 .f32) (w : FVec Ideal S1024x128 .bf16) (b : FVec Ideal S1x128 .f32) : FVec Ideal S512x128 .f32 :=
  fun i => logSig (proj x w i + b (ix2 0 (i 1)))

theorem outB7 (hc : ¬cond0_0 (grid0.coords t)) : out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 = mixed (proj x0 x1) xs0 x4 := by
  unfold out0_B_7
  rw [View.read_writes_junk_eq_canon]
  funext y
  refine View.canon_apply_of_pieces _ _ ?_ y (cover0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 y)
  dsimp only [kernelRun0_B]
  intro p hp
  simp only [List.mem_cons, List.not_mem_nil, or_false] at hp
  rcases hp with rfl | rfl | rfl | rfl
  · intro z
    dsimp only [kernelRun0_B.sl.r, kernelRun0_B.sl.v84]
    simp only [load_eq, load0, load1]
    repeat rw [View.ld_unit_zero zeros]
    refine (congrFun (pay22_eq _ _ _ _) z).trans ?_
    exact mixed_cut 1536 _ _ _ x0 x1 xs0 x4 z
  · intro z
    dsimp only [kernelRun0_B.sl.r, kernelRun0_B.sl.r_4, kernelRun0_B.sl.r_5, kernelRun0_B.sl.v63]
    simp only [load_eq, load0, load1]
    repeat rw [View.ld_unit_zero zeros]
    refine (congrFun (pay19_eq _ _ _ _) z).trans ?_
    exact mixed_cut 1024 _ _ _ x0 x1 xs0 x4 z
  · intro z
    dsimp only [kernelRun0_B.sl.r, kernelRun0_B.sl.v42]
    simp only [load_eq, load0, load1]
    repeat rw [View.ld_unit_zero zeros]
    refine (congrFun (pay14_eq _ _ _ _) z).trans ?_
    exact mixed_cut 512 _ _ _ x0 x1 xs0 x4 z
  · intro z
    dsimp only [kernelRun0_B.sl.r_1, kernelRun0_B.sl.r_2, kernelRun0_B.sl.r_3]
    simp only [load_eq, load0, load1]
    repeat rw [View.ld_unit_zero zeros]
    refine (congrFun (pay11_eq _ _ _ _) z).trans ?_
    exact mixed_cut 0 _ _ _ x0 x1 xs0 x4 z

theorem zeros4 : (![0, 0, 0, 0] : Fin 4 → ℕ) = fun _ => 0 := by
  funext a; fin_cases a <;> rfl

theorem gates_ne_top (x : FVec Ideal S512x1024 .f32) (w : FVec Ideal S1024x128 .bf16) (b : FVec Ideal S1x128 .f32) (i : S512x128.Idx) : (gates x w b i : EReal) ≠ ⊤ := logSig_ne_top _

theorem gates_eq (x : FVec Ideal S512x1024 .f32) (w : FVec Ideal S1024x128 .bf16) (b : FVec Ideal S1x128 .f32) : k0_pay26 (k0_pay5 x) w b = gates x w b := by
  funext i
  obtain ⟨q, j, rfl⟩ := exists_ix2 i
  exact pay26_apply x w b q j

/-- The first 1024 columns of a product. -/
def pairs (x : FVec Ideal S512x1024 .f32) (w : FVec Ideal S1024x1536 .bf16) : FVec Ideal S512x1024 .bf16 :=
  fun i => (proj x w (ix2 (i 0) ⟨(i 1).val, by have := (i 1).isLt; have h : (i 1).val < 1024 := this; omega⟩) : EReal)

section Gates
variable (x : FVec Ideal S512x1024 .f32) (w : FVec Ideal S1024x128 .bf16) (b : FVec Ideal S1x128 .f32)
theorem pay28_eq : k0_pay28 (k0_pay5 x) w b = truncf .bf16 (gates x w b) bitsLt_bf16_f32 := by
  unfold k0_pay28
  rw [gates_eq]
theorem pay29_eq : k0_pay29 (k0_pay5 x) w b = subf (gates x w b) (gates x w b) := by
  unfold k0_pay29
  rw [pay28_eq, gates_eq]
  rfl
theorem pay30_eq : k0_pay30 (k0_pay5 x) w b = truncf .bf16 (subf (gates x w b) (gates x w b)) bitsLt_bf16_f32 := by
  unfold k0_pay30
  rw [pay29_eq]
theorem pay31_eq : k0_pay31 (k0_pay5 x) w b = subf (gates x w b) (gates x w b) := by
  unfold k0_pay31
  rw [pay30_eq]
  rfl
theorem pay27_eq (tri : FVec Ideal S512x512 .bf16) : k0_pay27 tri = tri := by
  unfold k0_pay27
  exact shapeCast_self tri _
end Gates

theorem pay2_eq (tri : FVec Ideal S512x512 .bf16) (htri : Below tri) (v : FVec Ideal S512x128 .f32) (hv : ∀ i, (v i : EReal) ≠ ⊤) (carry : FVec Ideal S1x128 .f32) :
    k0_pay2 (F := Ideal) tri (truncf .bf16 v bitsLt_bf16_f32) (subf v v) (truncf .bf16 (subf v v) bitsLt_bf16_f32) (subf v v) carry = lastRow (sums v carry) := by
  unfold k0_pay2
  rw [pay1_eq tri htri v hv carry]
  refine (shapeCast_self (extractStridedSlice S1x128 ![511, 0] (sums v carry) slices_S512x128_o511_0_S1x128) shapeCasts_S1x128_S1x128).trans ?_
  funext i
  obtain ⟨q, j, rfl⟩ := exists_ix2 i
  exact (slice2_axis0_apply 511 (sums v carry) _ q j 511 (by have := q.isLt; show 511 = 511 + q.val; omega)).trans rfl

/-! ## The first point of a sequence -/

theorem zero3 : k0_pay3 (F := Ideal) = fun _ => Ideal.ofBits .f32 0 := by
  unfold k0_pay3
  exact (shapeCast_self (broadcast S1x1920 (Ideal.ofBits .f32 0)) shapeCasts_S1x1920_S1x1920).trans rfl
theorem zero4 : k0_pay4 (F := Ideal) = fun _ => Ideal.ofBits .f32 0 := by
  unfold k0_pay4
  exact (shapeCast_self (broadcast S1x128 (Ideal.ofBits .f32 0)) shapeCasts_S1x128_S1x128).trans rfl

/-- Columns to the right of the last store are as before it. -/
theorem off_store (o n : ℕ) (inb) (w) (L : List (View.Piece (Elt Ideal) S1x1920 .f32)) (y : S1x1920.Idx) (h : o + n ≤ (y 1).val) :
    View.canon (Val := Elt Ideal) (⟨Rect.unit (s := S1x1920) ![0, o] ![1, n] inb, w⟩ :: L) y = View.canon L y :=
  View.canon_cons_of_not_mem _ _ fun hm => by
    have h1 := ((Rect.mem_set_unit (s := S1x1920) (off := ![0, o]) (size := ![1, n]) (inb := inb)).mp hm 1).2
    have h2 : (y 1).val < o + n := h1
    omega

theorem zero_sums : (View.whole cc0_scratch1).readCov (kernelRun0_A.sl.HS1_1 (F := Ideal)) (Rect.unit (s := S1x128) ![0, 0] ![1, 128] inb_S1x128_S1x128_0_0).toLoadRect = fun _ => Ideal.ofBits .f32 0 := by
  rw [View.readCov_eq_canon']
  funext j
  exact (congrFun (View.canon_unit_zero (S := S1x128) zeros _ _) _).trans (congrFun zero4 _)

/-- A first store under every later one counts nowhere that those reach. -/
theorem canon_drop {S : Shape} (L : List (View.Piece (Elt Ideal) S .f32)) (p : View.Piece (Elt Ideal) S .f32) (y : S.Idx) (h : ∃ q ∈ L, y ∈ q.1.set) :
    View.canon (L ++ [p]) y = View.canon L y := by
  induction L with
  | nil => exact absurd h (by rintro ⟨q, hq, _⟩; exact absurd hq List.not_mem_nil)
  | cons q L ih =>
    by_cases hy : y ∈ q.1.set
    · obtain ⟨x, rfl⟩ := (show ∃ x, q.1.emb x = y from q.1.exists_idx_of_mem hy)
      exact (View.canon_cons_emb q.1 q.2 (L ++ [p]) x).trans (View.canon_cons_emb q.1 q.2 L x).symm
    · have h' : ∃ q ∈ L, y ∈ q.1.set := by
        obtain ⟨r, hr, hm⟩ := h
        rcases List.mem_cons.mp hr with rfl | hr
        · exact absurd hm hy
        · exact ⟨r, hr, hm⟩
      exact (View.canon_cons_of_not_mem q (L ++ [p]) hy).trans ((ih h').trans (View.canon_cons_of_not_mem q L hy).symm)

/-- The four stores reach every column. -/
theorem cover_row (i1 i2 i3 i4) (w1 w2 w3 w4) (y : S1x1920.Idx) :
    ∃ p ∈ ([⟨Rect.unit (s := S1x1920) ![0, 1536] ![1, 384] i1, w1⟩, ⟨Rect.unit (s := S1x1920) ![0, 1024] ![1, 512] i2, w2⟩, ⟨Rect.unit (s := S1x1920) ![0, 512] ![1, 512] i3, w3⟩,
      ⟨Rect.unit (s := S1x1920) ![0, 0] ![1, 512] i4, w4⟩] : List (View.Piece (Elt Ideal) S1x1920 .f32)), y ∈ p.1.set := by
  have h0 : (y 0).val < 1 := (y 0).isLt
  have h1 : (y 1).val < 1920 := (y 1).isLt
  have key : ∀ (o n : ℕ) (inb), o ≤ (y 1).val → (y 1).val < o + n → y ∈ (Rect.unit (s := S1x1920) ![0, o] ![1, n] inb).set := fun o n inb ha hb =>
    Rect.mem_set_unit.mpr fun a => by
      match a with
      | ⟨0, _⟩ => exact ⟨Nat.zero_le _, by show (y 0).val < 0 + 1; omega⟩
      | ⟨1, _⟩ => exact ⟨ha, hb⟩
  rcases Nat.lt_or_ge (y 1).val 512 with h | h
  · exact ⟨_, List.mem_cons_of_mem _ (List.mem_cons_of_mem _ (List.mem_cons_of_mem _ List.mem_cons_self)), key 0 512 i4 (Nat.zero_le _) (by omega)⟩
  rcases Nat.lt_or_ge (y 1).val 1024 with h' | h'
  · exact ⟨_, List.mem_cons_of_mem _ (List.mem_cons_of_mem _ List.mem_cons_self), key 512 512 i3 h (by omega)⟩
  rcases Nat.lt_or_ge (y 1).val 1536 with h'' | h''
  · exact ⟨_, List.mem_cons_of_mem _ List.mem_cons_self, key 1024 512 i2 h' (by omega)⟩
  exact ⟨_, List.mem_cons_self, key 1536 384 i1 h'' (by omega)⟩

theorem mixed_cut0 {n N : ℕ} (o : ℕ) (hO) (hW) (hL) (x : FVec Ideal S512x1024 .f32) (w : FVec Ideal ⟨2, ![1024, N]⟩ .bf16) (l : FVec Ideal ⟨2, ![1, n]⟩ .f32) (mu : FVec Ideal ⟨2, ![1, N]⟩ .f32)
    (hl : l = fun _ => Ideal.ofBits .f32 0) (z : (Rect.unit (s := ⟨2, ![512, N]⟩) ![0, o] ![512, n] hO).shape.Idx) :
    mixed (proj x (cutW o hW w)) l (cutL o hL mu) z = mixed (proj x w) (fun _ => Ideal.ofBits .f32 0) mu ((Rect.unit (s := ⟨2, ![512, N]⟩) ![0, o] ![512, n] hO).emb z) := by
  subst hl
  exact mixed_cut o hO hW hL x w (fun _ => Ideal.ofBits .f32 0) mu z

theorem outA7 (hc : cond0_0 (grid0.coords t)) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 = mixed (proj x0 x1) (fun _ => Ideal.ofBits .f32 0) x4 := by
  unfold out0_A_7
  rw [View.read_writes_junk_eq_canon]
  funext y
  refine View.canon_apply_of_pieces _ _ ?_ y (cover0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 y)
  dsimp only [kernelRun0_A]
  intro p hp
  simp only [List.mem_cons, List.not_mem_nil, or_false] at hp
  rcases hp with rfl | rfl | rfl | rfl
  · intro z
    dsimp only [kernelRun0_A.sl.r, kernelRun0_A.sl.v84]
    simp only [load_eq, load0, load1]
    repeat rw [View.ld_unit_zero zeros]
    refine (congrFun (pay22_eq _ _ _ _) z).trans ?_
    refine mixed_cut0 1536 _ _ _ x0 x1 _ x4 ?_ z
    rw [View.readCov_eq_canon']
    funext j
    dsimp only [kernelRun0_A.sl.HS0_4]
    refine (off_store 1024 512 _ _ _ _ (by show 1024 + 512 ≤ 1536 + 1 * (j 1).val; omega)).trans ?_
    dsimp only [kernelRun0_A.sl.HS0_3]
    refine (off_store 512 512 _ _ _ _ (by show 512 + 512 ≤ 1536 + 1 * (j 1).val; omega)).trans ?_
    dsimp only [kernelRun0_A.sl.HS0_2]
    refine (off_store 0 512 _ _ _ _ (by show 0 + 512 ≤ 1536 + 1 * (j 1).val; omega)).trans ?_
    exact (congrFun (View.canon_unit_zero (S := S1x1920) zeros _ _) _).trans (congrFun zero3 _)
  · intro z
    dsimp only [kernelRun0_A.sl.r, kernelRun0_A.sl.r_4, kernelRun0_A.sl.r_5, kernelRun0_A.sl.v63]
    simp only [load_eq, load0, load1]
    repeat rw [View.ld_unit_zero zeros]
    refine (congrFun (pay19_eq _ _ _ _) z).trans ?_
    refine mixed_cut0 1024 _ _ _ x0 x1 _ x4 ?_ z
    rw [View.readCov_eq_canon']
    funext j
    dsimp only [kernelRun0_A.sl.HS0_3]
    refine (off_store 512 512 _ _ _ _ (by show 512 + 512 ≤ 1024 + 1 * (j 1).val; omega)).trans ?_
    dsimp only [kernelRun0_A.sl.HS0_2]
    refine (off_store 0 512 _ _ _ _ (by show 0 + 512 ≤ 1024 + 1 * (j 1).val; omega)).trans ?_
    exact (congrFun (View.canon_unit_zero (S := S1x1920) zeros _ _) _).trans (congrFun zero3 _)
  · intro z
    dsimp only [kernelRun0_A.sl.r, kernelRun0_A.sl.v42]
    simp only [load_eq, load0, load1]
    repeat rw [View.ld_unit_zero zeros]
    refine (congrFun (pay14_eq _ _ _ _) z).trans ?_
    refine mixed_cut0 512 _ _ _ x0 x1 _ x4 ?_ z
    rw [View.readCov_eq_canon']
    funext j
    dsimp only [kernelRun0_A.sl.HS0_2]
    refine (off_store 0 512 _ _ _ _ (by show 0 + 512 ≤ 512 + 1 * (j 1).val; omega)).trans ?_
    exact (congrFun (View.canon_unit_zero (S := S1x1920) zeros _ _) _).trans (congrFun zero3 _)
  · intro z
    dsimp only [kernelRun0_A.sl.r_1, kernelRun0_A.sl.r_2, kernelRun0_A.sl.r_3, kernelRun0_A.sl.v21]
    simp only [load_eq, load0, load1]
    repeat rw [View.ld_unit_zero zeros]
    refine (congrFun (pay11_eq _ _ _ _) z).trans ?_
    refine mixed_cut0 0 _ _ _ x0 x1 _ x4 ?_ z
    rw [View.readCov_eq_canon']
    funext j
    exact (congrFun (View.canon_unit_zero (S := S1x1920) zeros _ _) _).trans (congrFun zero3 _)

/-! ## The other results and the kept rows, which no case of the body changes -/

theorem keptA (hc : cond0_0 (grid0.coords t)) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 = lastRow (proj x0 x1) := by
  unfold sout0_A_0
  rw [View.read_writes_junk_eq_canon]
  funext y
  refine (canon_drop [_, _, _, _] _ y (cover_row _ _ _ _ _ _ _ _ y)).trans ?_
  refine View.canon_apply_of_pieces _ _ ?_ y (cover_row _ _ _ _ _ _ _ _ y)
  skip
  intro p hp
  simp only [List.mem_cons, List.not_mem_nil, or_false] at hp
  rcases hp with rfl | rfl | rfl | rfl
  · intro z
    dsimp only [kernelRun0_A.sl.r]
    simp only [load_eq, load0, load1]
    repeat rw [View.ld_unit_zero zeros]
    refine (congrFun (pay21_eq _ _) z).trans ?_
    exact last_cut 1536 _ _ x0 x1 z
  · intro z
    dsimp only [kernelRun0_A.sl.r, kernelRun0_A.sl.r_6]
    simp only [load_eq, load0, load1]
    repeat rw [View.ld_unit_zero zeros]
    refine (congrFun (pay18_eq _ _) z).trans ?_
    exact last_cut 1024 _ _ x0 x1 z
  · intro z
    dsimp only [kernelRun0_A.sl.r]
    simp only [load_eq, load0, load1]
    repeat rw [View.ld_unit_zero zeros]
    refine (congrFun (pay13_eq _ _) z).trans ?_
    exact last_cut 512 _ _ x0 x1 z
  · intro z
    dsimp only [kernelRun0_A.sl.r_1]
    simp only [load_eq, load0, load1]
    repeat rw [View.ld_unit_zero zeros]
    refine (congrFun (pay8_eq _ _) z).trans ?_
    exact last_cut 0 _ _ x0 x1 z

theorem outs8A (hc : cond0_0 (grid0.coords t)) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 = pairs x0 x2 := by
  unfold out0_A_8
  rw [View.read_writes_junk_eq_canon]
  funext y
  refine View.canon_apply_of_pieces _ _ ?_ y (cover0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 y)
  dsimp only [kernelRun0_A]
  intro p hp
  simp only [List.mem_cons, List.not_mem_nil, or_false] at hp
  rcases hp with rfl | rfl
  · intro z
    dsimp only [kernelRun0_A.sl.r]
    simp only [load_eq, load0, load1]
    repeat rw [View.ld_unit_zero zeros]
    refine (pay24_apply _ _ z).trans ?_
    obtain ⟨q, j, rfl⟩ := exists_ix2 (a := 512) (b := 512) z
    refine (proj_cut 512 _ x0 x2 q j).trans ?_
    refine congrArg₂ (fun a b => proj x0 x2 (ix2 a b)) (Fin.ext ?_) (Fin.ext ?_)
    · show q.val = 0 + 1 * q.val; omega
    · show 512 + j.val = 512 + 1 * j.val; omega
  · intro z
    dsimp only [kernelRun0_A.sl.r, kernelRun0_A.sl.r_7]
    simp only [load_eq, load0, load1]
    repeat rw [View.ld_unit_zero zeros]
    refine (pay23_apply _ _ z).trans ?_
    obtain ⟨q, j, rfl⟩ := exists_ix2 (a := 512) (b := 512) z
    refine (proj_cut 0 _ x0 x2 q j).trans ?_
    refine congrArg₂ (fun a b => proj x0 x2 (ix2 a b)) (Fin.ext ?_) (Fin.ext ?_)
    · show q.val = 0 + 1 * q.val; omega
    · show 0 + j.val = 0 + 1 * j.val; omega

theorem outs9A (hc : cond0_0 (grid0.coords t)) (a b : Fin 512) : (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 (ix4 0 0 a b) : EReal) = (proj x0 x2 (ix2 b ⟨1024 + a.val, by omega⟩) : EReal) := by
  unfold out0_A_9
  rw [View.read_writes_junk_eq_canon]
  dsimp only [kernelRun0_A]
  rw [View.canon_unit_zero zeros4]
  dsimp only [kernelRun0_A.sl.r]
  simp only [load_eq, load0, load1]
  repeat rw [View.ld_unit_zero zeros]
  exact (pay25_apply _ _ a b).trans (proj_cut 1024 _ x0 x2 b a)

theorem outs10A (hc : cond0_0 (grid0.coords t)) (htri : Below x6) : out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 = sums (gates x0 x3 x5) (fun _ => Ideal.ofBits .f32 0) := by
  unfold out0_A_10
  rw [View.read_writes_junk_eq_canon]
  dsimp only [kernelRun0_A]
  rw [View.canon_unit_zero zeros]
  dsimp only [kernelRun0_A.sl.r, kernelRun0_A.sl.r_8, kernelRun0_A.sl.r_9, kernelRun0_A.sl.r_10, kernelRun0_A.sl.r_11, kernelRun0_A.sl.r_12]
  simp only [load_eq, load0, load1]
  repeat rw [View.ld_unit_zero zeros]
  rw [pay27_eq, pay28_eq, pay29_eq, pay30_eq, pay31_eq, kernelRun0_A.sl.v151, zero_sums]
  exact pay1_eq x6 htri _ (gates_ne_top x0 x3 x5) _

theorem totalA (hc : cond0_0 (grid0.coords t)) (htri : Below x6) : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 = lastRow (sums (gates x0 x3 x5) (fun _ => Ideal.ofBits .f32 0)) := by
  unfold sout0_A_1
  rw [View.read_writes_junk_eq_canon]
  dsimp only [kernelRun0_A]
  rw [View.canon_cons_unit_zero zeros]
  dsimp only [kernelRun0_A.sl.r, kernelRun0_A.sl.r_8, kernelRun0_A.sl.r_9, kernelRun0_A.sl.r_10, kernelRun0_A.sl.r_11, kernelRun0_A.sl.r_12]
  simp only [load_eq, load0, load1]
  repeat rw [View.ld_unit_zero zeros]
  rw [pay27_eq, pay28_eq, pay29_eq, pay30_eq, pay31_eq, kernelRun0_A.sl.v151, zero_sums]
  exact pay2_eq x6 htri _ (gates_ne_top x0 x3 x5) _

theorem keptB (hc : ¬cond0_0 (grid0.coords t)) : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 = lastRow (proj x0 x1) := by
  unfold sout0_B_0
  rw [View.read_writes_junk_eq_canon]
  funext y
  skip
  refine View.canon_apply_of_pieces _ _ ?_ y (scover0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 y)
  dsimp only [kernelRun0_B]
  intro p hp
  simp only [List.mem_cons, List.not_mem_nil, or_false] at hp
  rcases hp with rfl | rfl | rfl | rfl
  · intro z
    dsimp only [kernelRun0_B.sl.r]
    simp only [load_eq, load0, load1]
    repeat rw [View.ld_unit_zero zeros]
    refine (congrFun (pay21_eq _ _) z).trans ?_
    exact last_cut 1536 _ _ x0 x1 z
  · intro z
    dsimp only [kernelRun0_B.sl.r, kernelRun0_B.sl.r_6]
    simp only [load_eq, load0, load1]
    repeat rw [View.ld_unit_zero zeros]
    refine (congrFun (pay18_eq _ _) z).trans ?_
    exact last_cut 1024 _ _ x0 x1 z
  · intro z
    dsimp only [kernelRun0_B.sl.r]
    simp only [load_eq, load0, load1]
    repeat rw [View.ld_unit_zero zeros]
    refine (congrFun (pay13_eq _ _) z).trans ?_
    exact last_cut 512 _ _ x0 x1 z
  · intro z
    dsimp only [kernelRun0_B.sl.r_1]
    simp only [load_eq, load0, load1]
    repeat rw [View.ld_unit_zero zeros]
    refine (congrFun (pay8_eq _ _) z).trans ?_
    exact last_cut 0 _ _ x0 x1 z

theorem outs8B (hc : ¬cond0_0 (grid0.coords t)) : out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 = pairs x0 x2 := by
  unfold out0_B_8
  rw [View.read_writes_junk_eq_canon]
  funext y
  refine View.canon_apply_of_pieces _ _ ?_ y (cover0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 y)
  dsimp only [kernelRun0_B]
  intro p hp
  simp only [List.mem_cons, List.not_mem_nil, or_false] at hp
  rcases hp with rfl | rfl
  · intro z
    dsimp only [kernelRun0_B.sl.r]
    simp only [load_eq, load0, load1]
    repeat rw [View.ld_unit_zero zeros]
    refine (pay24_apply _ _ z).trans ?_
    obtain ⟨q, j, rfl⟩ := exists_ix2 (a := 512) (b := 512) z
    refine (proj_cut 512 _ x0 x2 q j).trans ?_
    refine congrArg₂ (fun a b => proj x0 x2 (ix2 a b)) (Fin.ext ?_) (Fin.ext ?_)
    · show q.val = 0 + 1 * q.val; omega
    · show 512 + j.val = 512 + 1 * j.val; omega
  · intro z
    dsimp only [kernelRun0_B.sl.r, kernelRun0_B.sl.r_7]
    simp only [load_eq, load0, load1]
    repeat rw [View.ld_unit_zero zeros]
    refine (pay23_apply _ _ z).trans ?_
    obtain ⟨q, j, rfl⟩ := exists_ix2 (a := 512) (b := 512) z
    refine (proj_cut 0 _ x0 x2 q j).trans ?_
    refine congrArg₂ (fun a b => proj x0 x2 (ix2 a b)) (Fin.ext ?_) (Fin.ext ?_)
    · show q.val = 0 + 1 * q.val; omega
    · show 0 + j.val = 0 + 1 * j.val; omega

theorem outs9B (hc : ¬cond0_0 (grid0.coords t)) (a b : Fin 512) : (out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 (ix4 0 0 a b) : EReal) = (proj x0 x2 (ix2 b ⟨1024 + a.val, by omega⟩) : EReal) := by
  unfold out0_B_9
  rw [View.read_writes_junk_eq_canon]
  dsimp only [kernelRun0_B]
  rw [View.canon_unit_zero zeros4]
  dsimp only [kernelRun0_B.sl.r]
  simp only [load_eq, load0, load1]
  repeat rw [View.ld_unit_zero zeros]
  exact (pay25_apply _ _ a b).trans (proj_cut 1024 _ x0 x2 b a)

theorem outs10B (hc : ¬cond0_0 (grid0.coords t)) (htri : Below x6) : out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 = sums (gates x0 x3 x5) xs1 := by
  unfold out0_B_10
  rw [View.read_writes_junk_eq_canon]
  dsimp only [kernelRun0_B]
  rw [View.canon_unit_zero zeros]
  dsimp only [kernelRun0_B.sl.r, kernelRun0_B.sl.r_8, kernelRun0_B.sl.r_9, kernelRun0_B.sl.r_10, kernelRun0_B.sl.r_11, kernelRun0_B.sl.r_12]
  simp only [load_eq, load0, load1]
  repeat rw [View.ld_unit_zero zeros]
  rw [pay27_eq, pay28_eq, pay29_eq, pay30_eq, pay31_eq]
  exact pay1_eq x6 htri _ (gates_ne_top x0 x3 x5) _

theorem totalB (hc : ¬cond0_0 (grid0.coords t)) (htri : Below x6) : sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) hc x0 x1 x2 x3 x4 x5 x6 xs0 xs1 = lastRow (sums (gates x0 x3 x5) xs1) := by
  unfold sout0_B_1
  rw [View.read_writes_junk_eq_canon]
  dsimp only [kernelRun0_B]
  rw [View.canon_unit_zero zeros]
  dsimp only [kernelRun0_B.sl.r, kernelRun0_B.sl.r_8, kernelRun0_B.sl.r_9, kernelRun0_B.sl.r_10, kernelRun0_B.sl.r_11, kernelRun0_B.sl.r_12]
  simp only [load_eq, load0, load1]
  repeat rw [View.ld_unit_zero zeros]
  rw [pay27_eq, pay28_eq, pay29_eq, pay30_eq, pay31_eq]
  exact pay2_eq x6 htri _ (gates_ne_top x0 x3 x5) _

end Cert.Proof.Inproj

end
-- ==== Proof.Inproj.Spread.lean ====
/- The input projection as the reference states it: the product of every row, its mix with the row before, the low-rank
   columns spread with zeros between, and the sums of the gates' logarithms. -/
module

public import proofs.«01_k».proof.Proof.Inproj.Sums

@[expose] public section

set_option maxRecDepth 16384

noncomputable section

namespace Cert.Proof.Inproj

open Idealize.ShloMosaic hiding ix1 ix2 ix3 ix4
open Idealize.ShloMosaic.TcCoe Idealize.SL.Sem Idealize.ShloMosaic.ValueIdx Cert.Proof.Rows

/-! ## Columns spread out -/

/-- 1696 columns over 1920: after the first 1536, the low-rank groups of 32, 32 and 96 each begin 128 columns, zeros between. -/
def spreadOf (f : Fin 1696 → Ideal .f32) (e : Fin 1920) : Ideal .f32 :=
  if h : e.val < 1568 then f ⟨e.val, by omega⟩
  else if e.val < 1664 then (0 : EReal)
  else if h : e.val < 1696 then f ⟨e.val - 96, by omega⟩
  else if e.val < 1792 then (0 : EReal)
  else if h : e.val < 1888 then f ⟨e.val - 192, by omega⟩
  else (0 : EReal)

/-- Either a column of the 1696, the same for every row, or zero for every row. -/
theorem spread_cases (e : Fin 1920) : (∃ j, ∀ f, spreadOf f e = f j) ∨ ∀ f, spreadOf f e = (0 : EReal) := by
  by_cases h1 : e.val < 1568
  · exact Or.inl ⟨⟨e.val, by omega⟩, fun f => dif_pos h1⟩
  by_cases h2 : e.val < 1664
  · exact Or.inr fun f => (dif_neg h1).trans (if_pos h2)
  by_cases h3 : e.val < 1696
  · exact Or.inl ⟨⟨e.val - 96, by omega⟩, fun f => (dif_neg h1).trans ((if_neg h2).trans (dif_pos h3))⟩
  by_cases h4 : e.val < 1792
  · exact Or.inr fun f => (dif_neg h1).trans ((if_neg h2).trans ((dif_neg h3).trans (if_pos h4)))
  by_cases h5 : e.val < 1888
  · exact Or.inl ⟨⟨e.val - 192, by omega⟩, fun f => (dif_neg h1).trans ((if_neg h2).trans ((dif_neg h3).trans ((if_neg h4).trans (dif_pos h5))))⟩
  · exact Or.inr fun f => (dif_neg h1).trans ((if_neg h2).trans ((dif_neg h3).trans ((if_neg h4).trans (dif_neg h5))))

section Spread
variable {n w : ℕ} (A : FVec Ideal ⟨2, ![n, w]⟩ .f32) {u : Shape} (z : FVec Ideal u .f32) (hu : 0 < u.numel) (hz : ∀ i, (z i : EReal) = 0)

include hz in
/-- A run of `m` columns with zeros to the right of it. -/
theorem pad_cols {m g : ℕ} (o : ℕ) (hs : (⟨2, ![n, w]⟩ : Shape).Slices ![0, o] ⟨2, ![n, m]⟩) (hp : (⟨2, ![n, m]⟩ : Shape).Pads (![0, 0] : Fin 2 → ℕ) ![0, g] ![0, 0] ⟨2, ![n, 128]⟩)
    (r : Fin n) (e : Fin 128) (how : o + m ≤ w) :
    pad ⟨2, ![n, 128]⟩ (![0, 0] : Fin 2 → ℕ) ![0, g] ![0, 0] (extractStridedSlice ⟨2, ![n, m]⟩ ![0, o] A hs) z hp hu (ix2 r e)
      = if h : e.val < m then A (ix2 r ⟨o + e.val, by omega⟩) else (0 : EReal) := by
  by_cases h : e.val < m
  · rw [dif_pos h]
    refine (pad_apply_of_inside _ _ _ _ _ _ _ _ (ix2 r ⟨e.val, h⟩) (fun a => ?_)).trans (slice2_axis1_apply o A _ r ⟨e.val, h⟩ ⟨o + e.val, by omega⟩ rfl)
    match a with
    | ⟨0, _⟩ => show r.val = 0 + r.val * (0 + 1); omega
    | ⟨1, _⟩ => show e.val = 0 + e.val * (0 + 1); omega
  · rw [dif_neg h]
    refine (pad_apply_of_not_inside _ _ _ _ _ _ _ _ (1 : Fin 2) (fun hin => h ?_)).trans (hz _)
    have h3 := hin.2.2
    have h4 : (e.val - 0) / (0 + 1) < m := h3
    omega

/-- The pieces side by side. -/
abbrev spreadPieces (h1 : (⟨2, ![n, w]⟩ : Shape).Slices ![0, 0] ⟨2, ![n, 1536]⟩) (h2 : (⟨2, ![n, w]⟩ : Shape).Slices ![0, 1536] ⟨2, ![n, 32]⟩)
    (h3 : (⟨2, ![n, w]⟩ : Shape).Slices ![0, 1568] ⟨2, ![n, 32]⟩) (h4 : (⟨2, ![n, w]⟩ : Shape).Slices ![0, 1600] ⟨2, ![n, 96]⟩)
    (p1 : (⟨2, ![n, 32]⟩ : Shape).Pads (![0, 0] : Fin 2 → ℕ) ![0, 96] ![0, 0] ⟨2, ![n, 128]⟩) (p2 : (⟨2, ![n, 96]⟩ : Shape).Pads (![0, 0] : Fin 2 → ℕ) ![0, 32] ![0, 0] ⟨2, ![n, 128]⟩) :
    List ((s : Shape) × (s.Idx → Ideal .f32)) :=
  [⟨⟨2, ![n, 1536]⟩, extractStridedSlice ⟨2, ![n, 1536]⟩ ![0, 0] A h1⟩,
    ⟨⟨2, ![n, 128]⟩, pad ⟨2, ![n, 128]⟩ (![0, 0] : Fin 2 → ℕ) ![0, 96] ![0, 0] (extractStridedSlice ⟨2, ![n, 32]⟩ ![0, 1536] A h2) z p1 hu⟩,
    ⟨⟨2, ![n, 128]⟩, pad ⟨2, ![n, 128]⟩ (![0, 0] : Fin 2 → ℕ) ![0, 96] ![0, 0] (extractStridedSlice ⟨2, ![n, 32]⟩ ![0, 1568] A h3) z p1 hu⟩,
    ⟨⟨2, ![n, 128]⟩, pad ⟨2, ![n, 128]⟩ (![0, 0] : Fin 2 → ℕ) ![0, 32] ![0, 0] (extractStridedSlice ⟨2, ![n, 96]⟩ ![0, 1600] A h4) z p2 hu⟩]

include hz in
theorem spread_apply (hw : 1696 ≤ w) (h1) (h2) (h3) (h4) (p1) (p2) (hc) (r : Fin n) (e : Fin 1920) :
    concatenate ⟨2, ![n, 1920]⟩ (1 : Fin 2) (spreadPieces A z hu h1 h2 h3 h4 p1 p2) hc (ix2 r e) = spreadOf (fun j => A (ix2 r ⟨j.val, by omega⟩)) e := by
  have off : ∀ (m : ℕ) (i : Fin m) (b : Fin 2), b ≠ 1 → ((ix2 r i : (⟨2, ![n, m]⟩ : Shape).Idx) b).val = ((ix2 r e : (⟨2, ![n, 1920]⟩ : Shape).Idx) b).val := fun m i b hb => by
    match b, hb with
    | ⟨0, _⟩, _ => rfl
    | ⟨1, _⟩, hb => exact absurd rfl hb
  unfold spreadOf
  by_cases c1 : e.val < 1536
  · rw [dif_pos (by omega : e.val < 1568)]
    refine (concatenate_apply_piece (t := ⟨2, ![n, 1920]⟩) (1 : Fin 2) (spreadPieces A z hu h1 h2 h3 h4 p1 p2) hc (ix2 r e) 0 (show 0 < 4 by decide) ⟨2, ![n, 1536]⟩ _ rfl rfl 0 rfl (ix2 r ⟨e.val, c1⟩) (fun b hb => off _ _ b hb) (Nat.zero_add _)).trans ?_
    exact slice2_axis1_apply 0 A _ r ⟨e.val, c1⟩ _ (Nat.zero_add _).symm
  by_cases c2 : e.val < 1664
  · refine (concatenate_apply_piece (t := ⟨2, ![n, 1920]⟩) (1 : Fin 2) (spreadPieces A z hu h1 h2 h3 h4 p1 p2) hc (ix2 r e) 1 (show 1 < 4 by decide) ⟨2, ![n, 128]⟩ _ rfl rfl 1536 rfl (ix2 r ⟨e.val - 1536, by omega⟩) (fun b hb => off _ _ b hb)
      (by show 1536 + (e.val - 1536) = e.val; omega)).trans ((pad_cols A z hu hz 1536 _ _ r _ (by omega)).trans ?_)
    by_cases c : e.val < 1568
    · rw [dif_pos c, dif_pos (by show e.val - 1536 < 32; omega)]
      exact congrArg (fun j => A (ix2 r j)) (Fin.ext (by show 1536 + (e.val - 1536) = e.val; omega))
    · rw [dif_neg c, if_pos c2, dif_neg (by show ¬e.val - 1536 < 32; omega)]
  by_cases c3 : e.val < 1792
  · refine (concatenate_apply_piece (t := ⟨2, ![n, 1920]⟩) (1 : Fin 2) (spreadPieces A z hu h1 h2 h3 h4 p1 p2) hc (ix2 r e) 2 (show 2 < 4 by decide) ⟨2, ![n, 128]⟩ _ rfl rfl 1664 rfl (ix2 r ⟨e.val - 1664, by omega⟩) (fun b hb => off _ _ b hb)
      (by show 1664 + (e.val - 1664) = e.val; omega)).trans ((pad_cols A z hu hz 1568 _ _ r _ (by omega)).trans ?_)
    rw [dif_neg (by omega : ¬e.val < 1568), if_neg c2]
    by_cases c : e.val < 1696
    · rw [dif_pos c, dif_pos (by show e.val - 1664 < 32; omega)]
      exact congrArg (fun j => A (ix2 r j)) (Fin.ext (by show 1568 + (e.val - 1664) = e.val - 96; omega))
    · rw [dif_neg c, if_pos c3, dif_neg (by show ¬e.val - 1664 < 32; omega)]
  · have := e.isLt
    refine (concatenate_apply_piece (t := ⟨2, ![n, 1920]⟩) (1 : Fin 2) (spreadPieces A z hu h1 h2 h3 h4 p1 p2) hc (ix2 r e) 3 (show 3 < 4 by decide) ⟨2, ![n, 128]⟩ _ rfl rfl 1792 rfl (ix2 r ⟨e.val - 1792, by omega⟩) (fun b hb => off _ _ b hb)
      (by show 1792 + (e.val - 1792) = e.val; omega)).trans ((pad_cols A z hu hz 1600 _ _ r _ (by omega)).trans ?_)
    rw [dif_neg (by omega : ¬e.val < 1568), if_neg c2, dif_neg (by omega : ¬e.val < 1696), if_neg c3]
    by_cases c : e.val < 1888
    · rw [dif_pos c, dif_pos (by show e.val - 1792 < 96; omega)]
      exact congrArg (fun j => A (ix2 r j)) (Fin.ext (by show 1600 + (e.val - 1792) = e.val - 192; omega))
    · rw [dif_neg c, dif_neg (by show ¬e.val - 1792 < 96; omega)]
end Spread

/-! ## The results -/

section Results
variable (X : FVec Ideal ⟨2, ![32768, 1024]⟩ .f32) (W : FVec Ideal ⟨3, ![1, 1024, 3240]⟩ .f32) (Mu : FVec Ideal ⟨2, ![1, 1696]⟩ .f32) (B : FVec Ideal ⟨2, ![1, 8]⟩ .f32)

/-- The product at a row and a column. -/
def full (r : Fin 32768) (j : Fin 3240) : Ideal .f32 := ∑ k : Fin 1024, X (ix2 r k) * W (ix3 0 k j)

/-- The row before, zero before a sequence of 8192 begins. -/
def before (r : Fin 32768) (j : Fin 3240) : Ideal .f32 :=
  if r.val % 8192 = 0 then (0 : EReal) else full X W ⟨r.val - 1, by omega⟩ j

def mixedAt (r : Fin 32768) (j : Fin 1696) : Ideal .f32 :=
  full X W r ⟨j.val, by omega⟩ + Mu (ix2 0 j) * (before X W r ⟨j.val, by omega⟩ - full X W r ⟨j.val, by omega⟩)

/-- The scale of the queries. -/
abbrev scale : Ideal .f32 := Ideal.ofBits .f32 0x3E38AA3B#32

def pairAt (r : Fin 32768) (j : Fin 1024) : Ideal .f32 :=
  if j.val < 512 then full X W r ⟨1696 + j.val, by omega⟩ * scale else full X W r ⟨1696 + j.val, by omega⟩

/-- The gate's logit, zero beyond the eight heads. -/
def logit (r : Fin 32768) (j : Fin 128) : Ideal .f32 :=
  if h : j.val < 8 then full X W r ⟨3232 + j.val, by omega⟩ + B (ix2 0 ⟨j.val, h⟩) else (0 : EReal)

/-- The logarithm of the gate at a row's number. -/
def gateAt (n : ℕ) (j : Fin 128) : Ideal .f32 := if h : n < 32768 then logSig (logit X W B ⟨n, h⟩ j) else (0 : EReal)

/-- The sum of the first `n` of sequence `b`. -/
def firstSum (b n : ℕ) (j : Fin 128) : Ideal .f32 := ∑ s ∈ Finset.range n, (gateAt X W B (8192 * b + s) j : EReal)

def result0 (i : (⟨2, ![32768, 1920]⟩ : Shape).Idx) : Ideal .f32 := spreadOf (mixedAt X W Mu (i 0)) (i 1)
def result1 (i : (⟨2, ![32768, 1024]⟩ : Shape).Idx) : Ideal .bf16 := (pairAt X W (i 0) (i 1) : EReal)
theorem row_lt (b : Fin 4) (p : Fin 16) (q : Fin 512) : 8192 * b.val + 512 * p.val + q.val < 32768 := by omega
def result2 (i : (⟨4, ![4, 16, 512, 512]⟩ : Shape).Idx) : Ideal .bf16 :=
  (full X W ⟨8192 * (i 0).val + 512 * (i 1).val + (i 3).val, row_lt (i 0) (i 1) (i 3)⟩ ⟨2720 + (i 2).val, by have : (i 2).val < 512 := (i 2).isLt; omega⟩ : EReal)
def result3 (i : (⟨2, ![32768, 128]⟩ : Shape).Idx) : Ideal .f32 := firstSum X W B ((i 0).val / 8192) ((i 0).val % 8192 + 1) (i 1)
end Results

end Cert.Proof.Inproj

end
-- ==== Proof.Inproj.Blocks.lean ====
/- What the input projection's call computes at the ideal reading: the blocks that its points read, and from them the four
   results. -/
module

public import proofs.«01_k».proof.Proof.Inproj.Body
public import proofs.«01_k».proof.Proof.Inproj.Spread
public import Idealize.ShloMosaic.Lib.WordCmp

@[expose] public section

set_option maxRecDepth 16384

noncomputable section

namespace Cert.Proof.Inproj

open Cert.Kernel6Ideal Cert.Kernel6Ideal.Gen Cert.Kernel6Ideal.Value
open Idealize.ShloMosaic hiding ix1 ix2 ix3 ix4
open Idealize.ShloMosaic.TcCoe Idealize.SL.Sem Idealize.ShloMosaic.ValueIdx Cert.Proof.Rows

/-- The padding's zero. -/
abbrev padZero : FVec Ideal S_ .f32 := sitofp .f32 (constantI S_ 32 0#32)

theorem padZero_apply (i : S_.Idx) : padZero i = (0 : EReal) := by
  show ((((0#32 : BitVec 32).toInt : ℤ) : ℝ) : EReal) = 0
  simp

variable (m : (ℓ : Loc nD τ sig) → Buf (Elt Ideal) ℓ)

/-- The arguments as launched. -/
abbrev xIn (c : Dev nD) : FVec Ideal S32768x1024 .f32 := m ((c : Thread nD τ).loc main_arg0)
abbrev wIn (c : Dev nD) : FVec Ideal S1x1024x3240 .f32 := m ((c : Thread nD τ).loc main_arg1)
abbrev muIn (c : Dev nD) : FVec Ideal S1x1696 .f32 := m ((c : Thread nD τ).loc main_arg2)
abbrev bIn (c : Dev nD) : FVec Ideal S1x8 .f32 := m ((c : Thread nD τ).loc main_arg3)

/-- The weights as a matrix, and the rows as the host hands them over. -/
abbrev asMatrix (w : FVec Ideal S1x1024x3240 .f32) : FVec Ideal S1024x3240 .f32 := shapeCast S1024x3240 w shapeCasts_S1x1024x3240_S1024x3240
abbrev muRow (a : FVec Ideal S1x1696 .f32) : FVec Ideal S1x1696 .f32 := shapeCast S1x1696 (shapeCast S1696 a shapeCasts_S1x1696_S1696) shapeCasts_S1696_S1x1696
abbrev bRow (a : FVec Ideal S1x8 .f32) : FVec Ideal S1x8 .f32 := shapeCast S1x8 (shapeCast S8 a shapeCasts_S1x8_S8) shapeCasts_S8_S1x8

/-- The weights of the three products, the mix's coefficients and the bias, as the host lays them out. -/
abbrev waOf (w : FVec Ideal S1024x3240 .f32) : FVec Ideal S1024x1920 .f32 :=
  concatenate S1024x1920 1 (spreadPieces (n := 1024) (w := 3240) w padZero h_S_ slices_S1024x3240_S1024x1536_0_0 slices_S1024x3240_S1024x32_0_1536 slices_S1024x3240_S1024x32_0_1568
    slices_S1024x3240_S1024x96_0_1600 pads_S1024x32_S1024x128_000_0960 pads_S1024x96_S1024x128_000_0320) concatenates_S1024x1536_S1024x128_S1024x128_S1024x128_S1024x1920_d1
abbrev muOf (a : FVec Ideal S1x1696 .f32) : FVec Ideal S1x1920 .f32 :=
  concatenate S1x1920 1 (spreadPieces (n := 1) (w := 1696) a padZero h_S_ slices_S1x1696_S1x1536_0_0 slices_S1x1696_S1x32_0_1536 slices_S1x1696_S1x32_0_1568
    slices_S1x1696_S1x96_0_1600 pads_S1x32_S1x128_000_0960 pads_S1x96_S1x128_000_0320) concatenates_S1x1536_S1x128_S1x128_S1x128_S1x1920_d1
abbrev wbOf (w : FVec Ideal S1024x3240 .f32) : FVec Ideal S1024x1536 .f32 :=
  concatenate S1024x1536 1 [⟨S1024x512, mulf (extractStridedSlice S1024x512 ![0, 1696] w slices_S1024x3240_S1024x512_0_1696)
      (broadcastInDim S1024x512 ![] bcast_S_S1024x512 (constant (F := Ideal) S_ .f32 0x3E38AA3B#32))⟩,
    ⟨S1024x1024, extractStridedSlice S1024x1024 ![0, 2208] w slices_S1024x3240_S1024x1024_0_2208⟩] concatenates_S1024x512_S1024x1024_S1024x1536_d1
abbrev wfOf (w : FVec Ideal S1024x3240 .f32) : FVec Ideal S1024x128 .f32 :=
  pad S1024x128 ![0, 0] ![0, 120] ![0, 0] (extractStridedSlice S1024x8 ![0, 3232] w slices_S1024x3240_S1024x8_0_3232) padZero pads_S1024x8_S1024x128_000_01200 h_S_
abbrev bfOf (b : FVec Ideal S1x8 .f32) : FVec Ideal S1x128 .f32 := pad S1x128 ![0, 0] ![0, 120] ![0, 0] b padZero pads_S1x8_S1x128_000_01200 h_S_
abbrev triOf : FVec Ideal S512x512 .bf16 := uitofp .bf16 (cmpi .sle (iotaInDim S512x512 32 1) (iotaInDim S512x512 32 0))

theorem entry1 (c : Dev nD) : V m c main_v10 = (waOf (asMatrix (wIn m c)) : FVec Ideal S1024x1920 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl
theorem entry2 (c : Dev nD) : V m c main_v25 = (wbOf (asMatrix (wIn m c)) : FVec Ideal S1024x1536 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl
theorem entry3 (c : Dev nD) : V m c main_v28 = (wfOf (asMatrix (wIn m c)) : FVec Ideal S1024x128 .bf16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl
theorem entry4 (c : Dev nD) : V m c main_v19 = muOf (muRow (muIn m c)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl
theorem entry5 (c : Dev nD) : V m c main_v31 = bfOf (bRow (bIn m c)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl
theorem entry6 (c : Dev nD) : V m c main_v35 = triOf := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results <;> rfl

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem points : cfg0.N = 64 := (by decide +kernel : grid0.N = 64)

/-- Row `q` of tile `t`. -/
abbrev rowOf (t : Fin cfg0.N) (q : Fin 512) : Fin 32768 := ⟨512 * t.val + q.val, by have := t.isLt; have := points; omega⟩

theorem block0 (c : Dev nD) (t : Fin cfg0.N) (q : Fin 512) (k : Fin 1024) : iblk m c 0 t (ix2 q k) = xIn m c (ix2 (rowOf t q) k) := by
  show V m c main_arg0 (((cfg0.win 0).blk t).view.emb (ix2 q k)) = _
  rw [V_main_arg0]
  obtain ⟨e0, e1⟩ := index0 t
  refine congrArg _ (funext fun (a : Fin 2) => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega
theorem block1 (c : Dev nD) (t : Fin cfg0.N) : iblk m c 1 t = (waOf (asMatrix (wIn m c)) : FVec Ideal S1024x1920 .bf16) := by
  funext i
  show V m c main_v10 (((cfg0.win 1).blk t).view.emb i) = _
  rw [entry1]
  obtain ⟨e0, e1⟩ := index1 t
  refine congrArg _ (funext fun (a : Fin 2) => Fin.ext ?_)
  match a with
  | ⟨0, _⟩ => show win0_1.index t (0 : Fin 2) * 1024 + 1 * (i 0).val = (i 0).val; omega
  | ⟨1, _⟩ => show win0_1.index t (1 : Fin 2) * 1920 + 1 * (i 1).val = (i 1).val; omega
theorem block2 (c : Dev nD) (t : Fin cfg0.N) : iblk m c 2 t = (wbOf (asMatrix (wIn m c)) : FVec Ideal S1024x1536 .bf16) := by
  funext i
  show V m c main_v25 (((cfg0.win 2).blk t).view.emb i) = _
  rw [entry2]
  obtain ⟨e0, e1⟩ := index2 t
  refine congrArg _ (funext fun (a : Fin 2) => Fin.ext ?_)
  match a with
  | ⟨0, _⟩ => show win0_2.index t (0 : Fin 2) * 1024 + 1 * (i 0).val = (i 0).val; omega
  | ⟨1, _⟩ => show win0_2.index t (1 : Fin 2) * 1536 + 1 * (i 1).val = (i 1).val; omega
theorem block3 (c : Dev nD) (t : Fin cfg0.N) : iblk m c 3 t = (wfOf (asMatrix (wIn m c)) : FVec Ideal S1024x128 .bf16) := by
  funext i
  show V m c main_v28 (((cfg0.win 3).blk t).view.emb i) = _
  rw [entry3]
  obtain ⟨e0, e1⟩ := index3 t
  refine congrArg _ (funext fun (a : Fin 2) => Fin.ext ?_)
  match a with
  | ⟨0, _⟩ => show win0_3.index t (0 : Fin 2) * 1024 + 1 * (i 0).val = (i 0).val; omega
  | ⟨1, _⟩ => show win0_3.index t (1 : Fin 2) * 128 + 1 * (i 1).val = (i 1).val; omega
theorem block4 (c : Dev nD) (t : Fin cfg0.N) : iblk m c 4 t = (muOf (muRow (muIn m c)) : FVec Ideal S1x1920 .f32) := by
  funext i
  show V m c main_v19 (((cfg0.win 4).blk t).view.emb i) = _
  rw [entry4]
  obtain ⟨e0, e1⟩ := index4 t
  refine congrArg _ (funext fun (a : Fin 2) => Fin.ext ?_)
  match a with
  | ⟨0, _⟩ => show win0_4.index t (0 : Fin 2) * 1 + 1 * (i 0).val = (i 0).val; omega
  | ⟨1, _⟩ => show win0_4.index t (1 : Fin 2) * 1920 + 1 * (i 1).val = (i 1).val; omega
theorem block5 (c : Dev nD) (t : Fin cfg0.N) : iblk m c 5 t = (bfOf (bRow (bIn m c)) : FVec Ideal S1x128 .f32) := by
  funext i
  show V m c main_v31 (((cfg0.win 5).blk t).view.emb i) = _
  rw [entry5]
  obtain ⟨e0, e1⟩ := index5 t
  refine congrArg _ (funext fun (a : Fin 2) => Fin.ext ?_)
  match a with
  | ⟨0, _⟩ => show win0_5.index t (0 : Fin 2) * 1 + 1 * (i 0).val = (i 0).val; omega
  | ⟨1, _⟩ => show win0_5.index t (1 : Fin 2) * 128 + 1 * (i 1).val = (i 1).val; omega
theorem block6 (c : Dev nD) (t : Fin cfg0.N) : iblk m c 6 t = (triOf : FVec Ideal S512x512 .bf16) := by
  funext i
  show V m c main_v35 (((cfg0.win 6).blk t).view.emb i) = _
  rw [entry6]
  obtain ⟨e0, e1⟩ := index6 t
  refine congrArg _ (funext fun (a : Fin 2) => Fin.ext ?_)
  match a with
  | ⟨0, _⟩ => show win0_6.index t (0 : Fin 2) * 512 + 1 * (i 0).val = (i 0).val; omega
  | ⟨1, _⟩ => show win0_6.index t (1 : Fin 2) * 512 + 1 * (i 1).val = (i 1).val; omega

/-! ## The layouts, entry by entry -/

theorem matrix_apply (w : FVec Ideal S1x1024x3240 .f32) (k : Fin 1024) (j : Fin 3240) : asMatrix w (ix2 k j) = w (ix3 0 k j) := shapeCast_1ab_ab_apply w _ k j
theorem muRow_apply (a : FVec Ideal S1x1696 .f32) (j : Fin 1696) : muRow a (ix2 0 j) = a (ix2 0 j) :=
  (shapeCast_a_1a_apply _ _ 0 j).trans (shapeCast_1a_a_apply a _ j)
theorem bRow_apply (a : FVec Ideal S1x8 .f32) (j : Fin 8) : bRow a (ix2 0 j) = a (ix2 0 j) :=
  (shapeCast_a_1a_apply _ _ 0 j).trans (shapeCast_1a_a_apply a _ j)

theorem waOf_apply (w : FVec Ideal S1x1024x3240 .f32) (k : Fin 1024) (e : Fin 1920) :
    waOf (asMatrix w) (ix2 k e) = spreadOf (fun j => w (ix3 0 k ⟨j.val, by omega⟩)) e :=
  (spread_apply (n := 1024) (w := 3240) _ padZero h_S_ padZero_apply (by omega) _ _ _ _ _ _ _ k e).trans (congrArg (fun f => spreadOf f e) (funext fun j => matrix_apply w k _))
theorem muOf_apply (a : FVec Ideal S1x1696 .f32) (e : Fin 1920) : muOf (muRow a) (ix2 0 e) = spreadOf (fun j => a (ix2 0 j)) e :=
  (spread_apply (n := 1) (w := 1696) _ padZero h_S_ padZero_apply (by omega) _ _ _ _ _ _ _ 0 e).trans (congrArg (fun f => spreadOf f e) (funext fun j => muRow_apply a j))

theorem wbOf_apply (w : FVec Ideal S1x1024x3240 .f32) (k : Fin 1024) (e : Fin 1536) :
    wbOf (asMatrix w) (ix2 k e) = if e.val < 512 then w (ix3 0 k ⟨1696 + e.val, by omega⟩) * scale else w (ix3 0 k ⟨1696 + e.val, by omega⟩) := by
  by_cases h : e.val < 512
  · rw [if_pos h]
    refine (concatenate_pair_apply_left (t := S1024x1536) (1 : Fin 2) _ _ concatenates_S1024x512_S1024x1024_S1024x1536_d1 (ix2 k e) rfl (ix2 k (⟨e.val, h⟩ : Fin 512)) (fun b => ?_)).trans ?_
    · match b with
      | ⟨0, _⟩ => rfl
      | ⟨1, _⟩ => rfl
    · refine congrArg (fun a : Ideal .f32 => a * scale) ?_
      exact (slice2_axis1_apply 1696 (asMatrix w) _ k (⟨e.val, h⟩ : Fin 512) ⟨1696 + e.val, by omega⟩ rfl).trans (matrix_apply w k _)
  · rw [if_neg h]
    refine (concatenate_pair_apply_right (t := S1024x1536) (1 : Fin 2) _ _ concatenates_S1024x512_S1024x1024_S1024x1536_d1 (ix2 k e) rfl rfl (ix2 k (⟨e.val - 512, by omega⟩ : Fin 1024)) (fun b hb => ?_) ?_).trans ?_
    · match b, hb with
      | ⟨0, _⟩, _ => rfl
      | ⟨1, _⟩, hb => exact absurd rfl hb
    · show e.val - 512 + 512 = e.val
      omega
    · exact (slice2_axis1_apply 2208 (asMatrix w) _ k (⟨e.val - 512, by omega⟩ : Fin 1024) ⟨1696 + e.val, by omega⟩ (by show 1696 + e.val = 2208 + (e.val - 512); omega)).trans (matrix_apply w k _)

theorem wfOf_apply (w : FVec Ideal S1x1024x3240 .f32) (k : Fin 1024) (e : Fin 128) :
    wfOf (asMatrix w) (ix2 k e) = if h : e.val < 8 then w (ix3 0 k ⟨3232 + e.val, by omega⟩) else (0 : EReal) := by
  refine (pad_cols (n := 1024) (w := 3240) (m := 8) (g := 120) (asMatrix w) padZero h_S_ padZero_apply 3232 _ _ k e (by omega)).trans ?_
  by_cases h : e.val < 8
  · rw [dif_pos h, dif_pos h, matrix_apply]
  · rw [dif_neg h, dif_neg h]

theorem bfOf_apply (b : FVec Ideal S1x8 .f32) (e : Fin 128) : bfOf (bRow b) (ix2 0 e) = if h : e.val < 8 then b (ix2 0 ⟨e.val, h⟩) else (0 : EReal) := by
  by_cases h : e.val < 8
  · rw [dif_pos h]
    refine (pad_apply_of_inside _ _ _ _ _ _ _ _ (ix2 (0 : Fin 1) (⟨e.val, h⟩ : Fin 8)) (fun a => ?_)).trans (bRow_apply b _)
    match a with
    | ⟨0, _⟩ => rfl
    | ⟨1, _⟩ => show e.val = 0 + e.val * (0 + 1); omega
  · rw [dif_neg h]
    refine (pad_apply_of_not_inside _ _ _ _ _ _ _ _ (1 : Fin 2) (fun hin => h ?_)).trans (padZero_apply _)
    have h3 := hin.2.2
    have h4 : (e.val - 0) / (0 + 1) < 8 := h3
    omega

end Cert.Proof.Inproj

end
-- ==== Proof.Inproj.Value.lean ====
/- What the input projection's call computes at the ideal reading: the reference's four results. -/
module

public import proofs.«01_k».proof.Proof.Inproj.Blocks
public import Idealize.ShloMosaic.Lib.IdealHost

@[expose] public section

set_option maxRecDepth 16384

noncomputable section

namespace Cert.Proof.Inproj

open Cert.Kernel6Ideal Cert.Kernel6Ideal.Gen Cert.Kernel6Ideal.Value
open Idealize.ShloMosaic hiding ix1 ix2 ix3 ix4
open Idealize.ShloMosaic.TcCoe Idealize.SL.Sem Idealize.ShloMosaic.ValueIdx Cert.Proof.Rows

theorem below_tri : Below triOf := fun r s => by
  show (((IntOp.cmpi .sle (BitVec.ofNat 32 s.val) (BitVec.ofNat 32 r.val)).toNat : ℝ) : EReal) = _
  rw [WordCmp.cmpi_sle_ofNat (by omega : s.val < 2 ^ (32 - 1)) (by omega : r.val < 2 ^ (32 - 1))]
  by_cases h : s.val ≤ r.val
  · rw [if_pos h, decide_eq_true h]; simp
  · rw [if_neg h, decide_eq_false h]; simp

/-- The scale is a finite number that is not negative, so that it moves out of a sum. -/
theorem scale_real : ∃ s : ℝ, 0 ≤ s ∧ (scale : EReal) = (s : EReal) := by
  refine ⟨_, ?_, by simp [scale, Ideal.ofBits, Ideal.ieee]; rfl⟩
  positivity

theorem sum_scale {ι : Type} (S : Finset ι) (f : ι → EReal) : ∑ k ∈ S, f k * (scale : EReal) = (∑ k ∈ S, f k) * (scale : EReal) := by
  obtain ⟨s, h0, hs⟩ := scale_real
  rw [hs]
  classical
  induction S using Finset.induction_on with
  | empty => rw [Finset.sum_empty, Finset.sum_empty, zero_mul]
  | insert a S ha ih =>
    rw [Finset.sum_insert ha, Finset.sum_insert ha, ih, EReal.right_distrib_of_nonneg_of_ne_top (by exact_mod_cast h0) (EReal.coe_ne_top s)]

variable (m : (ℓ : Loc nD τ sig) → Buf (Elt Ideal) ℓ) (c : Dev nD) (t : Fin cfg0.N)

abbrev fullIn (r : Fin 32768) (j : Fin 3240) : Ideal .f32 := full (xIn m c) (wIn m c) r j

theorem proj1 (q : Fin 512) (e : Fin 1920) : proj (iblk m c 0 t) (iblk m c 1 t) (ix2 q e) = spreadOf (fun j => fullIn m c (rowOf t q) ⟨j.val, by omega⟩) e := by
  have hs : proj (iblk m c 0 t) (iblk m c 1 t) (ix2 q e) = ∑ k : Fin 1024, (xIn m c (ix2 (rowOf t q) k) * spreadOf (fun j => wIn m c (ix3 0 k ⟨j.val, by omega⟩)) e : Ideal .f32) :=
    Finset.sum_congr rfl fun k _ => congrArg₂ (fun a b : Ideal .f32 => a * b) (block0 m c t q k) ((congrFun (block1 m c t) (ix2 k e)).trans (waOf_apply (wIn m c) k e))
  rw [hs]
  rcases spread_cases e with ⟨j, hj⟩ | h0
  · rw [hj]
    exact Finset.sum_congr rfl fun k _ => congrArg (fun b : Ideal .f32 => xIn m c (ix2 (rowOf t q) k) * b) (hj _)
  · rw [h0]
    exact Finset.sum_eq_zero fun k _ => (congrArg (fun b : Ideal .f32 => xIn m c (ix2 (rowOf t q) k) * b) (h0 _)).trans (mul_zero (M₀ := EReal) _)

theorem proj2 (q : Fin 512) (e : Fin 1536) : proj (iblk m c 0 t) (iblk m c 2 t) (ix2 q e)
    = if e.val < 512 then fullIn m c (rowOf t q) ⟨1696 + e.val, by omega⟩ * scale else fullIn m c (rowOf t q) ⟨1696 + e.val, by omega⟩ := by
  have hs : proj (iblk m c 0 t) (iblk m c 2 t) (ix2 q e) = ∑ k : Fin 1024, (xIn m c (ix2 (rowOf t q) k) *
      (if e.val < 512 then wIn m c (ix3 0 k ⟨1696 + e.val, by omega⟩) * scale else wIn m c (ix3 0 k ⟨1696 + e.val, by omega⟩)) : Ideal .f32) :=
    Finset.sum_congr rfl fun k _ => congrArg₂ (fun a b : Ideal .f32 => a * b) (block0 m c t q k) ((congrFun (block2 m c t) (ix2 k e)).trans (wbOf_apply (wIn m c) k e))
  rw [hs]
  by_cases h : e.val < 512
  · simp only [if_pos h]
    refine Eq.trans (Finset.sum_congr rfl fun k _ => ?_) (sum_scale Finset.univ fun k : Fin 1024 => (xIn m c (ix2 (rowOf t q) k) * wIn m c (ix3 0 k ⟨1696 + e.val, by omega⟩) : EReal))
    exact (mul_assoc (G := EReal) _ _ _).symm
  · simp only [if_neg h]
    rfl

theorem logit_eq (q : Fin 512) (e : Fin 128) : (proj (iblk m c 0 t) (iblk m c 3 t) (ix2 q e) + iblk m c 5 t (ix2 0 e) : Ideal .f32) = logit (xIn m c) (wIn m c) (bIn m c) (rowOf t q) e := by
  have hs : proj (iblk m c 0 t) (iblk m c 3 t) (ix2 q e) = ∑ k : Fin 1024, (xIn m c (ix2 (rowOf t q) k) *
      (if h : e.val < 8 then wIn m c (ix3 0 k ⟨3232 + e.val, by omega⟩) else (0 : EReal)) : Ideal .f32) :=
    Finset.sum_congr rfl fun k _ => congrArg₂ (fun a b : Ideal .f32 => a * b) (block0 m c t q k) ((congrFun (block3 m c t) (ix2 k e)).trans (wfOf_apply (wIn m c) k e))
  rw [hs, congrFun (block5 m c t) (ix2 0 e), bfOf_apply]
  unfold logit
  by_cases h : e.val < 8
  · simp only [dif_pos h]
    rfl
  · simp only [dif_neg h]
    exact (congrArg (fun a : EReal => a + 0) (Finset.sum_eq_zero fun k _ => mul_zero (M₀ := EReal) _)).trans (add_zero (0 : EReal))

theorem gates_at (q : Fin 512) (e : Fin 128) : gates (iblk m c 0 t) (iblk m c 3 t) (iblk m c 5 t) (ix2 q e) = gateAt (xIn m c) (wIn m c) (bIn m c) (512 * t.val + q.val) e := by
  unfold gateAt
  rw [dif_pos (by have := t.isLt; have := points; omega)]
  exact congrArg logSig (logit_eq m c t q e)

/-! ## What a point leaves -/

theorem kept (n : ℕ) (hn : n < cfg0.N) : (outsAt0 m c n hn).2.2.2.2.1 = lastRow (proj (iblk m c 0 ⟨n, hn⟩) (iblk m c 1 ⟨n, hn⟩)) := by
  by_cases h0 : n % 16 = 0
  · rw [outsAt0_A m c ⟨n, hn⟩ h0]
    dsimp only
    exact keptA c ⟨n, hn⟩ (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) ((hcond0_0 ⟨n, hn⟩).mpr h0)
  · rw [outsAt0_B m c ⟨n, hn⟩ h0]
    dsimp only
    exact keptB c ⟨n, hn⟩ (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) (Nat.lt_of_le_of_lt (Nat.sub_le _ _) (⟨n, hn⟩ : Fin cfg0.N).isLt)).2.2.2.2.1 (outsAt0 m c (n - 1) (Nat.lt_of_le_of_lt (Nat.sub_le _ _) (⟨n, hn⟩ : Fin cfg0.N).isLt)).2.2.2.2.2 (fun h => h0 ((hcond0_0 ⟨n, hn⟩).mp h))

/-- The mix of a tile, once the rows above are the rows before. -/
theorem mixed_at (l : FVec Ideal S1x1920 .f32) (q : Fin 512) (e : Fin 1920)
    (hl : above l (proj (iblk m c 0 t) (iblk m c 1 t)) q e = spreadOf (fun j => before (xIn m c) (wIn m c) (rowOf t q) ⟨j.val, by omega⟩) e) :
    mixed (proj (iblk m c 0 t) (iblk m c 1 t)) l (iblk m c 4 t) (ix2 q e) = spreadOf (mixedAt (xIn m c) (wIn m c) (muIn m c) (rowOf t q)) e := by
  have h4 : ∀ mu : FVec Ideal S1x1920 .f32, mu = muOf (muRow (muIn m c)) → mu (ix2 0 e) = spreadOf (fun j => muIn m c (ix2 0 ⟨j.val, by omega⟩)) e := fun mu h => h ▸ muOf_apply _ e
  have hp : ∀ mu : FVec Ideal S1x1920 .f32, mixed (proj (iblk m c 0 t) (iblk m c 1 t)) l mu (ix2 q e)
      = proj (iblk m c 0 t) (iblk m c 1 t) (ix2 q e) + mu (ix2 0 e) * (above l (proj (iblk m c 0 t) (iblk m c 1 t)) q e - proj (iblk m c 0 t) (iblk m c 1 t) (ix2 q e)) := fun _ => rfl
  refine (hp _).trans ?_
  rw [h4 _ (block4 m c t), hl, proj1]
  rcases spread_cases e with ⟨j, hj⟩ | h0
  · rw [hj, hj, hj, hj]
    rfl
  · rw [h0, h0, h0, h0]
    show (0 + 0 * (0 - 0) : EReal) = 0
    rw [zero_mul, add_zero]

theorem above_inside (l : FVec Ideal S1x1920 .f32) (q : Fin 512) (e : Fin 1920) (hq : q.val ≠ 0) :
    above l (proj (iblk m c 0 t) (iblk m c 1 t)) q e = spreadOf (fun j => before (xIn m c) (wIn m c) (rowOf t q) ⟨j.val, by omega⟩) e := by
  unfold above
  rw [if_neg hq, proj1]
  refine congrArg (fun f => spreadOf f e) (funext fun j => ?_)
  unfold before
  rw [if_neg (by show ¬(512 * t.val + q.val) % 8192 = 0; omega)]
  exact congrArg (fun r => fullIn m c r _) (Fin.ext (by show 512 * t.val + (q.val - 1) = 512 * t.val + q.val - 1; omega))

theorem point0 (q : Fin 512) (e : Fin 1920) : (outsAt0 m c t.val t.isLt).1 (ix2 q e) = spreadOf (mixedAt (xIn m c) (wIn m c) (muIn m c) (rowOf t q)) e := by
  by_cases h0 : t.val % 16 = 0
  · rw [outsAt0_A m c t h0]
    dsimp only
    refine (congrFun (outA7 c t (iblk m c 0 t) (iblk m c 1 t) (iblk m c 2 t) (iblk m c 3 t) (iblk m c 4 t) (iblk m c 5 t) (iblk m c 6 t) ((hcond0_0 t).mpr h0)) (ix2 q e)).trans (mixed_at m c t _ q e ?_)
    by_cases hq : q.val = 0
    · unfold above
      rw [if_pos hq]
      have hb : ∀ j, before (xIn m c) (wIn m c) (rowOf t q) j = (0 : EReal) := fun j => by
        unfold before
        rw [if_pos (by show (512 * t.val + q.val) % 8192 = 0; omega)]
      rcases spread_cases e with ⟨j, hj⟩ | hz
      · rw [hj, hb]
        exact Ideal.ofBits_zero_f32
      · rw [hz]
        exact Ideal.ofBits_zero_f32
    · exact above_inside m c t _ q e hq
  · rw [outsAt0_B m c t h0]
    dsimp only
    refine (congrFun (outB7 c t (iblk m c 0 t) (iblk m c 1 t) (iblk m c 2 t) (iblk m c 3 t) (iblk m c 4 t) (iblk m c 5 t) (iblk m c 6 t) (outsAt0 m c (t.val - 1) (Nat.lt_of_le_of_lt (Nat.sub_le _ _) (t : Fin cfg0.N).isLt)).2.2.2.2.1 (outsAt0 m c (t.val - 1) (Nat.lt_of_le_of_lt (Nat.sub_le _ _) (t : Fin cfg0.N).isLt)).2.2.2.2.2 (fun h => h0 ((hcond0_0 t).mp h))) (ix2 q e)).trans (mixed_at m c t _ q e ?_)
    by_cases hq : q.val = 0
    · unfold above
      rw [if_pos hq, kept]
      refine (proj1 m c ⟨t.val - 1, _⟩ 511 e).trans (congrArg (fun f => spreadOf f e) (funext fun j => ?_))
      unfold before
      rw [if_neg (by show ¬(512 * t.val + q.val) % 8192 = 0; omega)]
      exact congrArg (fun r => fullIn m c r _) (Fin.ext (by show 512 * (t.val - 1) + 511 = 512 * t.val + q.val - 1; omega))
    · exact above_inside m c t _ q e hq

theorem point1 (q : Fin 512) (e : Fin 1024) : ((outsAt0 m c t.val t.isLt).2.1 (ix2 q e) : EReal) = (pairAt (xIn m c) (wIn m c) (rowOf t q) e : EReal) := by
  have h : ((outsAt0 m c t.val t.isLt).2.1 (ix2 q e) : EReal) = (pairs (iblk m c 0 t) (iblk m c 2 t) (ix2 q e) : EReal) := by
    by_cases h0 : t.val % 16 = 0
    · rw [outsAt0_A m c t h0]
      dsimp only
      exact congrFun (outs8A c t (iblk m c 0 t) (iblk m c 1 t) (iblk m c 2 t) (iblk m c 3 t) (iblk m c 4 t) (iblk m c 5 t) (iblk m c 6 t) ((hcond0_0 t).mpr h0)) (ix2 q e)
    · rw [outsAt0_B m c t h0]
      dsimp only
      exact congrFun (outs8B c t (iblk m c 0 t) (iblk m c 1 t) (iblk m c 2 t) (iblk m c 3 t) (iblk m c 4 t) (iblk m c 5 t) (iblk m c 6 t) (outsAt0 m c (t.val - 1) (Nat.lt_of_le_of_lt (Nat.sub_le _ _) (t : Fin cfg0.N).isLt)).2.2.2.2.1 (outsAt0 m c (t.val - 1) (Nat.lt_of_le_of_lt (Nat.sub_le _ _) (t : Fin cfg0.N).isLt)).2.2.2.2.2 (fun h => h0 ((hcond0_0 t).mp h))) (ix2 q e)
  exact h.trans (proj2 m c t q ⟨e.val, by omega⟩)

theorem point2 (a b : Fin 512) : ((outsAt0 m c t.val t.isLt).2.2.1 (ix4 0 0 a b) : EReal) = (fullIn m c (rowOf t b) ⟨2720 + a.val, by omega⟩ : EReal) := by
  have h : ((outsAt0 m c t.val t.isLt).2.2.1 (ix4 0 0 a b) : EReal) = (proj (iblk m c 0 t) (iblk m c 2 t) (ix2 b ⟨1024 + a.val, by omega⟩) : EReal) := by
    by_cases h0 : t.val % 16 = 0
    · rw [outsAt0_A m c t h0]
      dsimp only
      exact outs9A c t (iblk m c 0 t) (iblk m c 1 t) (iblk m c 2 t) (iblk m c 3 t) (iblk m c 4 t) (iblk m c 5 t) (iblk m c 6 t) ((hcond0_0 t).mpr h0) a b
    · rw [outsAt0_B m c t h0]
      dsimp only
      exact outs9B c t (iblk m c 0 t) (iblk m c 1 t) (iblk m c 2 t) (iblk m c 3 t) (iblk m c 4 t) (iblk m c 5 t) (iblk m c 6 t) (outsAt0 m c (t.val - 1) (Nat.lt_of_le_of_lt (Nat.sub_le _ _) (t : Fin cfg0.N).isLt)).2.2.2.2.1 (outsAt0 m c (t.val - 1) (Nat.lt_of_le_of_lt (Nat.sub_le _ _) (t : Fin cfg0.N).isLt)).2.2.2.2.2 (fun h => h0 ((hcond0_0 t).mp h)) a b
  refine h.trans ((proj2 m c t b ⟨1024 + a.val, by omega⟩).trans ?_)
  rw [if_neg (by show ¬1024 + a.val < 512; omega)]
  exact congrArg (fun j => fullIn m c (rowOf t b) j) (Fin.ext (by show 1696 + (1024 + a.val) = 2720 + a.val; omega))

/-- A tile's running sums, once what came before is the sum of the sequence's earlier tiles. -/
theorem sums_at (carry : FVec Ideal S1x128 .f32) (e : Fin 128) (q : Fin 512)
    (hc : carry (ix2 0 e) = firstSum (xIn m c) (wIn m c) (bIn m c) (t.val / 16) (512 * (t.val % 16)) e) :
    sums (gates (iblk m c 0 t) (iblk m c 3 t) (iblk m c 5 t)) carry (ix2 q e)
      = firstSum (xIn m c) (wIn m c) (bIn m c) (t.val / 16) (512 * (t.val % 16) + (q.val + 1)) e := by
  let g : ℕ → EReal := fun s => gateAt (xIn m c) (wIn m c) (bIn m c) (8192 * (t.val / 16) + (512 * (t.val % 16) + s)) e
  have h : (∑ s : Fin 512, if s.val ≤ q.val then gates (iblk m c 0 t) (iblk m c 3 t) (iblk m c 5 t) (ix2 s e) else (0 : EReal)) = ∑ s ∈ Finset.range (q.val + 1), g s := by
    have h1 : (∑ s : Fin 512, if s.val ≤ q.val then gates (iblk m c 0 t) (iblk m c 3 t) (iblk m c 5 t) (ix2 s e) else (0 : EReal))
        = ∑ s : Fin 512, (fun n : ℕ => if n ≤ q.val then g n else 0) s.val := Finset.sum_congr rfl fun s _ => by
      by_cases hs : s.val ≤ q.val
      · simp only [if_pos hs]
        rw [gates_at]
        exact congrArg (fun n => (gateAt (xIn m c) (wIn m c) (bIn m c) n e : EReal)) (by omega)
      · simp only [if_neg hs]
    rw [h1, Fin.sum_univ_eq_sum_range (fun n : ℕ => if n ≤ q.val then g n else 0) 512, ← Finset.sum_filter]
    refine Finset.sum_congr (Finset.ext fun n => ?_) fun _ _ => rfl
    rw [Finset.mem_filter, Finset.mem_range, Finset.mem_range]
    have := q.isLt
    omega
  show ((∑ s : Fin 512, if s.val ≤ q.val then gates (iblk m c 0 t) (iblk m c 3 t) (iblk m c 5 t) (ix2 s e) else (0 : EReal)) + carry (ix2 0 e) : EReal) = _
  rw [h, hc]
  unfold firstSum
  rw [Finset.sum_range_add _ (512 * (t.val % 16)) (q.val + 1)]
  exact add_comm (G := EReal) _ _

theorem total (n : ℕ) : ∀ (hn : n < cfg0.N) (e : Fin 128), (outsAt0 m c n hn).2.2.2.2.2 (ix2 0 e)
    = firstSum (xIn m c) (wIn m c) (bIn m c) (n / 16) (512 * (n % 16) + 512) e := by
  induction n with
  | zero =>
    intro hn e
    rw [outsAt0_A m c ⟨0, hn⟩ rfl]
    dsimp only
    refine (congrFun (totalA c ⟨0, hn⟩ (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) ((hcond0_0 ⟨0, hn⟩).mpr rfl) ((block6 m c ⟨0, hn⟩).symm ▸ below_tri)) (ix2 0 e)).trans ?_
    exact sums_at m c ⟨0, hn⟩ _ e 511 Ideal.ofBits_zero_f32
  | succ n ih =>
    intro hn e
    by_cases h0 : (n + 1) % 16 = 0
    · rw [outsAt0_A m c ⟨n + 1, hn⟩ h0]
      dsimp only
      refine (congrFun (totalA c ⟨n + 1, hn⟩ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) ((hcond0_0 ⟨n + 1, hn⟩).mpr h0) ((block6 m c ⟨n + 1, hn⟩).symm ▸ below_tri)) (ix2 0 e)).trans ?_
      refine sums_at m c ⟨n + 1, hn⟩ _ e 511 (Ideal.ofBits_zero_f32.trans ?_)
      unfold firstSum
      rw [show (512 * ((⟨n + 1, hn⟩ : Fin cfg0.N).val % 16)) = 0 from by show 512 * ((n + 1) % 16) = 0; omega]
      rfl
    · rw [outsAt0_B m c ⟨n + 1, hn⟩ h0]
      dsimp only
      refine (congrFun (totalB c ⟨n + 1, hn⟩ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c (n + 1 - 1) (Nat.lt_of_le_of_lt (Nat.sub_le _ _) (⟨n + 1, hn⟩ : Fin cfg0.N).isLt)).2.2.2.2.1 (outsAt0 m c (n + 1 - 1) (Nat.lt_of_le_of_lt (Nat.sub_le _ _) (⟨n + 1, hn⟩ : Fin cfg0.N).isLt)).2.2.2.2.2 (fun h => h0 ((hcond0_0 ⟨n + 1, hn⟩).mp h)) ((block6 m c ⟨n + 1, hn⟩).symm ▸ below_tri)) (ix2 0 e)).trans ?_
      refine sums_at m c ⟨n + 1, hn⟩ _ e 511 ((ih (Nat.lt_of_succ_lt hn) e).trans ?_)
      refine congrArg₂ (fun a b => firstSum (xIn m c) (wIn m c) (bIn m c) a b e) ?_ ?_
      · show n / 16 = (n + 1) / 16; omega
      · show 512 * (n % 16) + 512 = 512 * ((n + 1) % 16); omega

theorem point3 (q : Fin 512) (e : Fin 128) : (outsAt0 m c t.val t.isLt).2.2.2.1 (ix2 q e)
    = firstSum (xIn m c) (wIn m c) (bIn m c) (t.val / 16) (512 * (t.val % 16) + (q.val + 1)) e := by
  by_cases h0 : t.val % 16 = 0
  · rw [outsAt0_A m c t h0]
    dsimp only
    refine (congrFun (outs10A c t (iblk m c 0 t) (iblk m c 1 t) (iblk m c 2 t) (iblk m c 3 t) (iblk m c 4 t) (iblk m c 5 t) (iblk m c 6 t) ((hcond0_0 t).mpr h0) ((block6 m c t).symm ▸ below_tri)) (ix2 q e)).trans (sums_at m c t _ e q (Ideal.ofBits_zero_f32.trans ?_))
    unfold firstSum
    rw [h0]
    rfl
  · rw [outsAt0_B m c t h0]
    dsimp only
    refine (congrFun (outs10B c t (iblk m c 0 t) (iblk m c 1 t) (iblk m c 2 t) (iblk m c 3 t) (iblk m c 4 t) (iblk m c 5 t) (iblk m c 6 t) (outsAt0 m c (t.val - 1) (Nat.lt_of_le_of_lt (Nat.sub_le _ _) (t : Fin cfg0.N).isLt)).2.2.2.2.1 (outsAt0 m c (t.val - 1) (Nat.lt_of_le_of_lt (Nat.sub_le _ _) (t : Fin cfg0.N).isLt)).2.2.2.2.2 (fun h => h0 ((hcond0_0 t).mp h)) ((block6 m c t).symm ▸ below_tri)) (ix2 q e)).trans (sums_at m c t _ e q ((total m c (t.val - 1) _ e).trans ?_))
    refine congrArg₂ (fun a b => firstSum (xIn m c) (wIn m c) (bIn m c) a b e) ?_ ?_
    · omega
    · omega

/-! ## The four results -/

theorem at0 (t : Fin cfg0.N) (i : S32768x1920.Idx) (y : S512x1920.Idx) (h0 : (i 0).val = 512 * t.val + (y 0).val) (h1 : (i 1).val = (y 1).val) :
    (outsAt0 m c t.val t.isLt).1 y = result0 (xIn m c) (wIn m c) (muIn m c) i := by
  obtain ⟨q, e, rfl⟩ := exists_ix2 y
  refine (point0 m c t q e).trans (congrArg₂ (fun r e => spreadOf (mixedAt (xIn m c) (wIn m c) (muIn m c) r) e) (Fin.ext h0.symm) (Fin.ext h1.symm))

theorem at1 (t : Fin cfg0.N) (i : S32768x1024.Idx) (y : S512x1024.Idx) (h0 : (i 0).val = 512 * t.val + (y 0).val) (h1 : (i 1).val = (y 1).val) :
    ((outsAt0 m c t.val t.isLt).2.1 y : EReal) = (result1 (xIn m c) (wIn m c) i : EReal) := by
  obtain ⟨q, e, rfl⟩ := exists_ix2 y
  exact (point1 m c t q e).trans (congrArg₂ (fun r e => (pairAt (xIn m c) (wIn m c) r e : EReal)) (Fin.ext h0.symm) (Fin.ext h1.symm))

theorem at2 (t : Fin cfg0.N) (i : S4x16x512x512.Idx) (a b : Fin 512) (h0 : 16 * (i 0).val + (i 1).val = t.val) (h2 : (i 2).val = a.val) (h3 : (i 3).val = b.val) :
    ((outsAt0 m c t.val t.isLt).2.2.1 (ix4 0 0 a b) : EReal) = (result2 (xIn m c) (wIn m c) i : EReal) :=
  (point2 m c t a b).trans (congrArg₂ (fun r e => (fullIn m c r e : EReal))
    (Fin.ext (by show 512 * t.val + b.val = 8192 * (i 0).val + 512 * (i 1).val + (i 3).val; omega))
    (Fin.ext (by show 2720 + a.val = 2720 + (i 2).val; omega)))

theorem at3 (t : Fin cfg0.N) (i : S32768x128.Idx) (y : S512x128.Idx) (h0 : (i 0).val = 512 * t.val + (y 0).val) (h1 : (i 1).val = (y 1).val) :
    (outsAt0 m c t.val t.isLt).2.2.2.1 y = result3 (xIn m c) (wIn m c) (bIn m c) i := by
  obtain ⟨q, e, rfl⟩ := exists_ix2 y
  have hq : (i 0).val = 512 * t.val + q.val := h0
  have he : i 1 = e := Fin.ext h1
  refine (point3 m c t q e).trans ?_
  unfold result3
  rw [he]
  refine congrArg₂ (fun a b => firstSum (xIn m c) (wIn m c) (bIn m c) a b e) ?_ ?_
  · rw [hq]; omega
  · rw [hq]; omega

theorem G7_eq : G7 m c = result0 (xIn m c) (wIn m c) (muIn m c) := by
  funext i
  have hi0 : (i 0).val < 32768 := (i 0).isLt
  have hi1 : (i 1).val < 1920 := (i 1).isLt
  have hlt : pt7Of i < cfg0.N := by rw [points]; show 1 * ((i 0).val / 512 - 0) + 1 * ((i 1).val / 1920 - 0) < 64; omega
  unfold G7
  rw [dif_pos hlt, ← outsAt0_sweep m c (pt7Of i) hlt]
  refine at0 m c ⟨pt7Of i, hlt⟩ i (loc7Of i) ?_ ?_
  · show (i 0).val = 512 * (1 * ((i 0).val / 512 - 0) + 1 * ((i 1).val / 1920 - 0)) + (i 0).val % 512; omega
  · show (i 1).val = (i 1).val % 1920; omega

theorem G8_eq : G8 m c = result1 (xIn m c) (wIn m c) := by
  funext i
  have hi0 : (i 0).val < 32768 := (i 0).isLt
  have hi1 : (i 1).val < 1024 := (i 1).isLt
  have hlt : pt8Of i < cfg0.N := by rw [points]; show 1 * ((i 0).val / 512 - 0) + 1 * ((i 1).val / 1024 - 0) < 64; omega
  unfold G8
  rw [dif_pos hlt, ← outsAt0_sweep m c (pt8Of i) hlt]
  refine at1 m c ⟨pt8Of i, hlt⟩ i (loc8Of i) ?_ ?_
  · show (i 0).val = 512 * (1 * ((i 0).val / 512 - 0) + 1 * ((i 1).val / 1024 - 0)) + (i 0).val % 512; omega
  · show (i 1).val = (i 1).val % 1024; omega

theorem G9_eq : G9 m c = result2 (xIn m c) (wIn m c) := by
  funext i
  have hi0 : (i 0).val < 4 := (i 0).isLt
  have hi1 : (i 1).val < 16 := (i 1).isLt
  have hi2 : (i 2).val < 512 := (i 2).isLt
  have hi3 : (i 3).val < 512 := (i 3).isLt
  have hlt : pt9Of i < cfg0.N := by
    rw [points]; show 16 * ((i 0).val / 1 - 0) + 1 * ((i 1).val / 1 - 0) + 1 * ((i 2).val / 512 - 0) + 1 * ((i 3).val / 512 - 0) < 64; omega
  unfold G9
  rw [dif_pos hlt, ← outsAt0_sweep m c (pt9Of i) hlt]
  have hl : loc9Of i = ix4 0 0 ⟨(i 2).val, hi2⟩ ⟨(i 3).val, hi3⟩ := by
    funext a; apply Fin.ext
    match a with
    | ⟨0, _⟩ => show (i 0).val % 1 = 0; omega
    | ⟨1, _⟩ => show (i 1).val % 1 = 0; omega
    | ⟨2, _⟩ => show (i 2).val % 512 = (i 2).val; omega
    | ⟨3, _⟩ => show (i 3).val % 512 = (i 3).val; omega
  rw [hl]
  refine at2 m c ⟨pt9Of i, hlt⟩ i ⟨(i 2).val, hi2⟩ ⟨(i 3).val, hi3⟩ ?_ rfl rfl
  show 16 * (i 0).val + (i 1).val = 16 * ((i 0).val / 1 - 0) + 1 * ((i 1).val / 1 - 0) + 1 * ((i 2).val / 512 - 0) + 1 * ((i 3).val / 512 - 0)
  omega

theorem G10_eq : G10 m c = result3 (xIn m c) (wIn m c) (bIn m c) := by
  funext i
  have hi0 : (i 0).val < 32768 := (i 0).isLt
  have hi1 : (i 1).val < 128 := (i 1).isLt
  have hlt : pt10Of i < cfg0.N := by rw [points]; show 1 * ((i 0).val / 512 - 0) + 1 * ((i 1).val / 128 - 0) < 64; omega
  unfold G10
  rw [dif_pos hlt, ← outsAt0_sweep m c (pt10Of i) hlt]
  refine at3 m c ⟨pt10Of i, hlt⟩ i (loc10Of i) ?_ ?_
  · show (i 0).val = 512 * (1 * ((i 0).val / 512 - 0) + 1 * ((i 1).val / 128 - 0)) + (i 0).val % 512; omega
  · show (i 1).val = (i 1).val % 128; omega

end Cert.Proof.Inproj

end
-- ==== Proof.Inproj.Reference.lean ====
/- The reference's input projection at an entry: its four results are the same functions of the arguments as the call's. -/
module

public import proofs.«01_k».proof.Proof.Gen.Reference6Ideal.Run
public import proofs.«01_k».proof.Proof.Inproj.Spread

@[expose] public section

set_option maxRecDepth 16384

noncomputable section

namespace Cert.Proof.InprojReference

open Cert.Reference6Ideal Cert.Reference6Ideal.Gen
open Idealize.ShloMosaic hiding ix1 ix2 ix3 ix4
open Idealize.ShloMosaic.TcCoe Idealize.SL.Sem Idealize.ShloMosaic.ValueIdx Cert.Proof.Rows Cert.Proof.Inproj

/-! ## The sum of all entries so far -/

theorem foldl_sum {ι : Type} (F : ι → EReal) (l : List ι) : ∀ v : EReal, l.foldl (fun r n => r + F n) v = v + (l.map F).sum := by
  induction l with
  | nil => intro v; exact (add_zero v).symm
  | cons a l ih =>
    intro v
    rw [List.foldl_cons, ih, List.map_cons, List.sum_cons, add_assoc]

theorem foldl_eq {ι : Type} {F G : EReal → ι → EReal} (l : List ι) (h : ∀ r n, F r n = G r n) {v w : EReal} (hv : v = w) : l.foldl F v = l.foldl G w := by
  rw [hv, show F = G from funext fun r => funext fun n => h r n]

/-- A window as long as the sequence, padded in front by one less: entry `s` sums the entries up to `s`. -/
theorem cumsum_apply {A N C M : ℕ} (hN : M + 1 = N) (x : FVec Ideal ⟨3, ![A, N, C]⟩ .f32) {u : Shape} (z : FVec Ideal u .f32) (hz : ∀ i, (z i : EReal) = 0)
    (h : (⟨3, ![A, N, C]⟩ : Shape).ReduceWindows (![1, N, 1] : Fin 3 → ℕ) ![1, 1, 1] ![0, M, 0] ![0, 0, 0] ⟨3, ![A, N, C]⟩) (hu : 0 < u.numel)
    (b : Fin A) (s : Fin N) (j : Fin C) (g : ℕ → EReal) (hg : ∀ n : Fin N, (x (ix3 b n j) : EReal) = g n.val) :
    (Host.reduceWindowAdd ![1, N, 1] ![1, 1, 1] ![0, M, 0] ![0, 0, 0] x z h hu (ix3 b s j) : EReal) = ∑ n ∈ Finset.range (s.val + 1), g n := by
  have hb := b.isLt
  have hs := s.isLt
  have hj := j.isLt
  have key : ∀ (k : (⟨3, ![1, N, 1]⟩ : Shape).Idx) (dec : Decidable (∀ a : Fin 3, (![0, M, 0] : Fin 3 → ℕ) a ≤ ((ix3 b s j : (⟨3, ![A, N, C]⟩ : Shape).Idx) (Fin.cast h.1.symm a)).val * (![1, 1, 1] : Fin 3 → ℕ) a + (k a).val
          ∧ ((ix3 b s j : (⟨3, ![A, N, C]⟩ : Shape).Idx) (Fin.cast h.1.symm a)).val * (![1, 1, 1] : Fin 3 → ℕ) a + (k a).val - (![0, M, 0] : Fin 3 → ℕ) a < (![A, N, C] : Fin 3 → ℕ) a)),
      (if hin : ∀ a : Fin 3, (![0, M, 0] : Fin 3 → ℕ) a ≤ ((ix3 b s j : (⟨3, ![A, N, C]⟩ : Shape).Idx) (Fin.cast h.1.symm a)).val * (![1, 1, 1] : Fin 3 → ℕ) a + (k a).val
          ∧ ((ix3 b s j : (⟨3, ![A, N, C]⟩ : Shape).Idx) (Fin.cast h.1.symm a)).val * (![1, 1, 1] : Fin 3 → ℕ) a + (k a).val - (![0, M, 0] : Fin 3 → ℕ) a < (![A, N, C] : Fin 3 → ℕ) a
        then (x (fun a => ⟨((ix3 b s j : (⟨3, ![A, N, C]⟩ : Shape).Idx) (Fin.cast h.1.symm a)).val * (![1, 1, 1] : Fin 3 → ℕ) a + (k a).val - (![0, M, 0] : Fin 3 → ℕ) a, (hin a).2⟩) : EReal)
        else (z (Shape.Idx.first hu) : EReal)) = if M ≤ s.val + (k 1).val then g (s.val + (k 1).val - M) else 0 := by
    intro k dec
    have hk0 : (k 0).val < 1 := (k 0).isLt
    have hk1 : (k 1).val < N := (k 1).isLt
    have hk2 : (k 2).val < 1 := (k 2).isLt
    by_cases hle : M ≤ s.val + (k 1).val
    · rw [if_pos hle, dif_pos (fun a => by
        match a with
        | ⟨0, _⟩ => show 0 ≤ b.val * 1 + (k 0).val ∧ b.val * 1 + (k 0).val - 0 < A; omega
        | ⟨1, _⟩ => show M ≤ s.val * 1 + (k 1).val ∧ s.val * 1 + (k 1).val - M < N; omega
        | ⟨2, _⟩ => show 0 ≤ j.val * 1 + (k 2).val ∧ j.val * 1 + (k 2).val - 0 < C; omega)]
      refine Eq.trans (congrArg x (funext fun a => Fin.ext ?_)) (hg ⟨s.val + (k 1).val - M, by omega⟩)
      match a with
      | ⟨0, _⟩ => show b.val * 1 + (k 0).val - 0 = b.val; omega
      | ⟨1, _⟩ => show s.val * 1 + (k 1).val - M = s.val + (k 1).val - M; omega
      | ⟨2, _⟩ => show j.val * 1 + (k 2).val - 0 = j.val; omega
    · rw [if_neg hle, dif_neg (fun hin => hle (by
        have h1 := (hin 1).1
        change M ≤ s.val * 1 + (k 1).val at h1
        omega))]
      exact hz _
  have hK : (Host.reduceWindowAdd ![1, N, 1] ![1, 1, 1] ![0, M, 0] ![0, 0, 0] x z h hu (ix3 b s j) : EReal)
      = (List.finRange (⟨3, ![1, N, 1]⟩ : Shape).numel).foldl (fun r n => r + (fun n : ℕ => if M ≤ s.val + n then g (s.val + n - M) else 0) ((⟨3, ![1, N, 1]⟩ : Shape).rowMajor.symm n 1).val) (0 : EReal) := by
    unfold Host.reduceWindowAdd
    rw [Ideal.hostReduceWindowAdd_def]
    unfold Ideal.hostReduceWindowAdd Host.reduceWindow
    exact foldl_eq (List.finRange (⟨3, ![1, N, 1]⟩ : Shape).numel)
      (fun r n => congrArg (fun y : EReal => r + y) (key ((⟨3, ![1, N, 1]⟩ : Shape).rowMajor.symm n) _)) (hz (Shape.Idx.first hu))
  rw [hK]
  generalize hKK : (fun n : ℕ => if M ≤ s.val + n then g (s.val + n - M) else 0) = K
  rw [foldl_sum, zero_add, ← Fin.sum_univ_def, Equiv.sum_comp (⟨3, ![1, N, 1]⟩ : Shape).rowMajor.symm (fun k : (⟨3, ![1, N, 1]⟩ : Shape).Idx => K (k 1).val)]
  have he : ∑ k : (⟨3, ![1, N, 1]⟩ : Shape).Idx, K (k 1).val = ∑ n : Fin N, K n.val := by
    refine Fintype.sum_bijective (fun k : (⟨3, ![1, N, 1]⟩ : Shape).Idx => (⟨(k 1).val, (k 1).isLt⟩ : Fin N)) ⟨fun k k' hkk => ?_, fun n => ⟨ix3 0 n 0, rfl⟩⟩ _ _ fun _ => rfl
    funext a
    apply Fin.ext
    match a with
    | ⟨0, _⟩ =>
      have h0 : (k 0).val < 1 := (k 0).isLt
      have h1 : (k' 0).val < 1 := (k' 0).isLt
      show (k 0).val = (k' 0).val
      omega
    | ⟨1, _⟩ => exact congrArg Fin.val hkk
    | ⟨2, _⟩ =>
      have h0 : (k 2).val < 1 := (k 2).isLt
      have h1 : (k' 2).val < 1 := (k' 2).isLt
      show (k 2).val = (k' 2).val
      omega
  have hsplit : Finset.range N = Finset.range ((M - s.val) + (s.val + 1)) := congrArg Finset.range (by omega)
  rw [he, Fin.sum_univ_eq_sum_range K N, hsplit, Finset.sum_range_add K (M - s.val) (s.val + 1)]
  subst hKK
  rw [Finset.sum_eq_zero fun n hn => if_neg (by have := Finset.mem_range.1 hn; omega), zero_add]
  refine Finset.sum_congr rfl fun n hn => ?_
  have hn' := Finset.mem_range.1 hn
  exact (if_pos (by omega)).trans (congrArg g (by omega))

/-! ## The logarithm of the sigmoid -/

theorem neg_max_zero (f : EReal) : -max (-f) 0 = min f 0 := by
  rcases le_total f 0 with h | h
  · rw [max_eq_left (show (0 : EReal) ≤ -f from EReal.le_neg_of_le_neg (by rwa [neg_zero])), min_eq_left h, neg_neg]
  · rw [max_eq_right (show -f ≤ (0 : EReal) from EReal.neg_le_of_neg_le (by rwa [neg_zero])), min_eq_right h, neg_zero]

theorem softplus_neg (f : EReal) : -(max (-f) 0 + Ideal.log (1 + Ideal.exp (-max (-f - 0) (-(-f - 0))))) = (logSig f : EReal) := by
  rw [logSig_eq, sub_zero, neg_neg, zero_sub, max_comm (-f) f, EReal.neg_add (Or.inl ?_) (Or.inr (log_one_exp_ne_bot _)), neg_max_zero]
  intro h
  have h0 : (0 : EReal) ≤ max (-f) 0 := le_max_right _ _
  rw [h] at h0
  exact absurd h0 (by simp)

/-! ## The reference's terms -/

variable (X : FVec Ideal S32768x1024 .f32) (W : FVec Ideal S1x1024x3240 .f32) (Mu : FVec Ideal S1x1696 .f32) (B : FVec Ideal S1x8 .f32)

abbrev padZero : FVec Ideal S_ .f32 := sitofp .f32 (constantI S_ 32 0#32)

theorem padZero_apply (i : S_.Idx) : padZero i = (0 : EReal) := by
  show ((((0#32 : BitVec 32).toInt : ℤ) : ℝ) : EReal) = 0
  simp

/-- A row's number, by sequence and place. -/
abbrev rowAt (b : Fin 4) (s : Fin 8192) : Fin 32768 := ⟨8192 * b.val + s.val, by omega⟩

abbrev product : FVec Ideal S4x8192x3240 .f32 :=
  shapeCast _ (Host.dotGeneral dot_S32768x1024_S1024x3240_S32768x3240_1_0_0_1_n_n none X (shapeCast _ W shapeCasts_S1x1024x3240_S1024x3240)) shapeCasts_S32768x3240_S4x8192x3240

theorem product_at (b : Fin 4) (s : Fin 8192) (j : Fin 3240) : product X W (ix3 b s j) = full X W (rowAt b s) j := by
  refine (shapeCast_apply _ _ _ (ix2 (rowAt b s) j) (by
    rw [Shape.rowMajor_val_two, Shape.rowMajor_val_three]
    show (8192 * b.val + s.val) * 3240 + j.val = (b.val * 8192 + s.val) * 3240 + j.val
    omega)).trans ?_
  refine (StackMember.dotGeneral_plain_apply (m := 32768) (k := 1024) (n := 3240) none X _ (rowAt b s) j).trans ?_
  refine Finset.sum_congr rfl fun k _ => congrArg (fun y : Ideal .f32 => X (ix2 (rowAt b s) k) * y) ?_
  exact shapeCast_apply W _ _ (ix3 0 k j) (by
    rw [Shape.rowMajor_val_two, Shape.rowMajor_val_three]
    show (0 * 1024 + k.val) * 3240 + j.val = k.val * 3240 + j.val
    omega)

/-- A slice of the last axis. -/
theorem slice_last {n N : ℕ} (o : ℕ) (A : FVec Ideal ⟨3, ![4, 8192, N]⟩ .f32) (h : (⟨3, ![4, 8192, N]⟩ : Shape).Slices ![0, 0, o] ⟨3, ![4, 8192, n]⟩)
    (b : Fin 4) (s : Fin 8192) (j : Fin n) (k : Fin N) (hk : k.val = o + j.val) :
    extractStridedSlice ⟨3, ![4, 8192, n]⟩ ![0, 0, o] A h (ix3 b s j) = A (ix3 b s k) :=
  extractStridedSlice_apply _ _ _ _ _ (fun ax => by
    match ax with
    | ⟨0, _⟩ => exact (Nat.zero_add _).symm
    | ⟨1, _⟩ => exact (Nat.zero_add _).symm
    | ⟨2, _⟩ => exact hk)

abbrev first : FVec Ideal S4x8192x1696 .f32 := extractStridedSlice S4x8192x1696 ![0, 0, 0] (product X W) slices_S4x8192x3240_S4x8192x1696_0_0_0

theorem first_at (b : Fin 4) (s : Fin 8192) (j : Fin 1696) : first X W (ix3 b s j) = full X W (rowAt b s) ⟨j.val, by omega⟩ :=
  (slice_last 0 (product X W) _ b s j ⟨j.val, by omega⟩ (Nat.zero_add _).symm).trans (product_at X W b s _)

abbrev shifted : FVec Ideal S4x8192x1696 .f32 :=
  extractStridedSlice S4x8192x1696 ![0, 0, 0] (pad S4x8193x1696 ![0, 1, 0] ![0, 0, 0] ![0, 0, 0] (first X W) padZero pads_S4x8192x1696_S4x8193x1696_000_100_000 h_S_) slices_S4x8193x1696_S4x8192x1696_0_0_0

theorem shifted_at (b : Fin 4) (s : Fin 8192) (j : Fin 1696) : shifted X W (ix3 b s j) = before X W (rowAt b s) ⟨j.val, by omega⟩ := by
  have hs := s.isLt
  refine (extractStridedSlice_apply _ _ _ _ (ix3 b ⟨s.val, by omega⟩ j) (fun ax => by
    match ax with
    | ⟨0, _⟩ => exact (Nat.zero_add _).symm
    | ⟨1, _⟩ => exact (Nat.zero_add _).symm
    | ⟨2, _⟩ => exact (Nat.zero_add _).symm)).trans ?_
  unfold before
  by_cases h0 : s.val = 0
  · rw [if_pos (by show (8192 * b.val + s.val) % 8192 = 0; omega)]
    refine (pad_apply_of_not_inside _ _ _ _ _ _ _ _ (1 : Fin 3) (fun hin => ?_)).trans (padZero_apply _)
    have h1 : 1 ≤ s.val := hin.1
    omega
  · rw [if_neg (by show ¬(8192 * b.val + s.val) % 8192 = 0; omega)]
    refine (pad_apply_of_inside _ _ _ _ _ _ _ _ (ix3 b ⟨s.val - 1, by omega⟩ j) (fun a => ?_)).trans ((first_at X W b _ j).trans ?_)
    · match a with
      | ⟨0, _⟩ => show b.val = 0 + b.val * (0 + 1); omega
      | ⟨1, _⟩ => show s.val = 1 + (s.val - 1) * (0 + 1); omega
      | ⟨2, _⟩ => show j.val = 0 + j.val * (0 + 1); omega
    · exact congrArg (fun r => full X W r _) (Fin.ext (by show 8192 * b.val + (s.val - 1) = 8192 * b.val + s.val - 1; omega))

abbrev muAll : FVec Ideal S4x8192x1696 .f32 :=
  broadcastInDim S4x8192x1696 ![0, 1, 2] bcast_S1x1x1696_S4x8192x1696_0_1_2 (broadcastInDim S1x1x1696 ![2] bcast_S1696_S1x1x1696_2 (shapeCast _ Mu shapeCasts_S1x1696_S1696))

theorem muAll_at (b : Fin 4) (s : Fin 8192) (j : Fin 1696) : muAll Mu (ix3 b s j) = Mu (ix2 0 j) := by
  refine (broadcastInDim_apply _ _ _ _ (ix3 0 0 j) fun a => by fin_cases a <;> rfl).trans ?_
  refine (broadcastInDim_apply _ _ _ _ (ix1 j) fun a => by fin_cases a; rfl).trans ?_
  exact shapeCast_1a_a_apply _ _ j

abbrev mixedRows : FVec Ideal S32768x1696 .f32 :=
  shapeCast _ (addf (first X W) (mulf (muAll Mu) (subf (shifted X W) (first X W)))) shapeCasts_S4x8192x1696_S32768x1696

theorem mixedRows_at (r : Fin 32768) (j : Fin 1696) : mixedRows X W Mu (ix2 r j) = mixedAt X W Mu r j := by
  refine (shapeCast_apply _ _ _ (ix3 (⟨r.val / 8192, by omega⟩ : Fin 4) (⟨r.val % 8192, by omega⟩ : Fin 8192) j) (by
    rw [Shape.rowMajor_val_two, Shape.rowMajor_val_three]
    show (r.val / 8192 * 8192 + r.val % 8192) * 1696 + j.val = r.val * 1696 + j.val
    omega)).trans ?_
  have hr : rowAt (⟨r.val / 8192, by omega⟩ : Fin 4) (⟨r.val % 8192, by omega⟩ : Fin 8192) = r := Fin.ext (by show 8192 * (r.val / 8192) + r.val % 8192 = r.val; omega)
  show first X W (ix3 _ _ j) + muAll Mu (ix3 _ _ j) * (shifted X W (ix3 _ _ j) - first X W (ix3 _ _ j)) = _
  rw [first_at, muAll_at, shifted_at, hr]
  rfl

abbrev res0 : FVec Ideal S32768x1920 .f32 :=
  concatenate S32768x1920 1 (spreadPieces (n := 32768) (w := 1696) (mixedRows X W Mu) padZero h_S_ slices_S32768x1696_S32768x1536_0_0 slices_S32768x1696_S32768x32_0_1536
    slices_S32768x1696_S32768x32_0_1568 slices_S32768x1696_S32768x96_0_1600 pads_S32768x32_S32768x128_000_0960 pads_S32768x96_S32768x128_000_0320)
    concatenates_S32768x1536_S32768x128_S32768x128_S32768x128_S32768x1920_d1

theorem res0_eq : res0 X W Mu = result0 X W Mu := by
  funext i
  obtain ⟨r, e, rfl⟩ := exists_ix2 i
  refine (spread_apply (n := 32768) (w := 1696) _ padZero h_S_ padZero_apply (by omega) _ _ _ _ _ _ _ r e).trans ?_
  exact congrArg (fun f => spreadOf f e) (funext fun j => mixedRows_at X W Mu r j)

abbrev rest : FVec Ideal S4x8192x1544 .f32 := extractStridedSlice S4x8192x1544 ![0, 0, 1696] (product X W) slices_S4x8192x3240_S4x8192x1544_0_0_1696

theorem rest_at (b : Fin 4) (s : Fin 8192) (j : Fin 1544) : rest X W (ix3 b s j) = full X W (rowAt b s) ⟨1696 + j.val, by omega⟩ :=
  (slice_last 1696 (product X W) _ b s j ⟨1696 + j.val, by omega⟩ rfl).trans (product_at X W b s _)

abbrev queries : FVec Ideal S4x8192x512 .f32 :=
  mulf (extractStridedSlice S4x8192x512 ![0, 0, 0] (rest X W) slices_S4x8192x1544_S4x8192x512_0_0_0) (broadcastInDim S4x8192x512 ![] bcast_S_S4x8192x512 (constant (F := Ideal) S_ .f32 0x3E38AA3B#32))
abbrev keys : FVec Ideal S4x8192x512 .f32 := extractStridedSlice S4x8192x512 ![0, 0, 512] (rest X W) slices_S4x8192x1544_S4x8192x512_0_0_512
abbrev values : FVec Ideal S4x8192x512 .f32 := extractStridedSlice S4x8192x512 ![0, 0, 1024] (rest X W) slices_S4x8192x1544_S4x8192x512_0_0_1024

abbrev res1 : FVec Ideal S32768x1024 .bf16 :=
  truncf .bf16 (shapeCast S32768x1024 (concatenate S4x8192x1024 2 [⟨S4x8192x512, queries X W⟩, ⟨S4x8192x512, keys X W⟩] concatenates_S4x8192x512_S4x8192x512_S4x8192x1024_d2) shapeCasts_S4x8192x1024_S32768x1024) bitsLt_bf16_f32

theorem both_at (b : Fin 4) (s : Fin 8192) (j : Fin 1024) :
    concatenate S4x8192x1024 2 [⟨S4x8192x512, queries X W⟩, ⟨S4x8192x512, keys X W⟩] concatenates_S4x8192x512_S4x8192x512_S4x8192x1024_d2 (ix3 b s j) = pairAt X W (rowAt b s) j := by
  unfold pairAt
  by_cases hj : j.val < 512
  · rw [if_pos hj]
    refine (concatenate_pair_apply_left (t := S4x8192x1024) (s₁ := S4x8192x512) (s₂ := S4x8192x512) (2 : Fin 3) _ _ _ (ix3 b s j) rfl (ix3 b s (⟨j.val, hj⟩ : Fin 512)) (fun a => by
      match a with
      | ⟨0, _⟩ => rfl
      | ⟨1, _⟩ => rfl
      | ⟨2, _⟩ => rfl)).trans ?_
    refine congrArg₂ (fun a b : Ideal .f32 => a * b) ?_ ?_
    · exact (slice_last 0 (rest X W) _ b s (⟨j.val, hj⟩ : Fin 512) ⟨j.val, by omega⟩ (Nat.zero_add _).symm).trans (rest_at X W b s _)
    · exact (broadcastInDim_apply _ _ _ _ ValueIdx.ix0 fun a => a.elim0)
  · rw [if_neg hj]
    refine (concatenate_pair_apply_right (t := S4x8192x1024) (s₁ := S4x8192x512) (s₂ := S4x8192x512) (2 : Fin 3) _ _ _ (ix3 b s j) rfl rfl (ix3 b s (⟨j.val - 512, by omega⟩ : Fin 512)) (fun a ha => by
      match a, ha with
      | ⟨0, _⟩, _ => rfl
      | ⟨1, _⟩, _ => rfl
      | ⟨2, _⟩, ha => exact absurd rfl ha) (by show j.val - 512 + 512 = j.val; omega)).trans ?_
    refine (slice_last 512 (rest X W) _ b s (⟨j.val - 512, by omega⟩ : Fin 512) ⟨j.val, by omega⟩ (by show j.val = 512 + (j.val - 512); omega)).trans (rest_at X W b s _)

theorem res1_eq : res1 X W = result1 X W := by
  funext i
  obtain ⟨r, j, rfl⟩ := exists_ix2 i
  have hr : rowAt (⟨r.val / 8192, by omega⟩ : Fin 4) (⟨r.val % 8192, by omega⟩ : Fin 8192) = r := Fin.ext (by show 8192 * (r.val / 8192) + r.val % 8192 = r.val; omega)
  refine (shapeCast_apply (s := S4x8192x1024) (t := S32768x1024) (concatenate S4x8192x1024 2 [⟨S4x8192x512, queries X W⟩, ⟨S4x8192x512, keys X W⟩] concatenates_S4x8192x512_S4x8192x512_S4x8192x1024_d2)
    _ (ix2 r j) (ix3 (⟨r.val / 8192, by omega⟩ : Fin 4) (⟨r.val % 8192, by omega⟩ : Fin 8192) j) (by
    rw [Shape.rowMajor_val_two, Shape.rowMajor_val_three]
    show (r.val / 8192 * 8192 + r.val % 8192) * 1024 + j.val = r.val * 1024 + j.val
    omega)).trans ?_
  exact (both_at X W _ _ j).trans (congrArg (fun r => pairAt X W r j) hr)

abbrev res2 : FVec Ideal S4x16x512x512 .bf16 :=
  truncf .bf16 (transpose S4x16x512x512 [0, 1, 3, 2] (shapeCast S4x16x512x512 (values X W) shapeCasts_S4x8192x512_S4x16x512x512) transposes_S4x16x512x512_S4x16x512x512_0_1_3_2) bitsLt_bf16_f32

theorem res2_at (b : Fin 4) (p : Fin 16) (a q : Fin 512) : (res2 X W (ix4 b p a q) : EReal) = (result2 X W (ix4 b p a q) : EReal) := by
  refine (transpose_apply (s := S4x16x512x512) (t := S4x16x512x512) [0, 1, 3, 2] (shapeCast S4x16x512x512 (values X W) shapeCasts_S4x8192x512_S4x16x512x512) transposes_S4x16x512x512_S4x16x512x512_0_1_3_2
    (ix4 b p a q) (ix4 b p q a) fun ax => by fin_cases ax <;> rfl).trans ?_
  refine (shapeCast_apply (s := S4x8192x512) (values X W) _ _ (ix3 b (⟨512 * p.val + q.val, by omega⟩ : Fin 8192) a) (by
    rw [Shape.rowMajor_val_three, Shape.rowMajor_val_four]
    show (b.val * 8192 + (512 * p.val + q.val)) * 512 + a.val = ((b.val * 16 + p.val) * 512 + q.val) * 512 + a.val
    omega)).trans ?_
  refine (slice_last 1024 (rest X W) _ b _ a ⟨1024 + a.val, by omega⟩ rfl).trans ((rest_at X W b _ _).trans ?_)
  exact congrArg₂ (fun r e => full X W r e) (Fin.ext (by show 8192 * b.val + (512 * p.val + q.val) = 8192 * b.val + 512 * p.val + q.val; omega))
    (Fin.ext (by show 1696 + (1024 + a.val) = 2720 + a.val; omega))

theorem res2_eq : res2 X W = result2 X W := by
  funext i
  have hi : i = ix4 (i 0) (i 1) (i 2) (i 3) := funext fun a => by fin_cases a <;> rfl
  rw [hi]
  exact res2_at X W (i 0) (i 1) (i 2) (i 3)

abbrev biasAll : FVec Ideal S4x8192x8 .f32 :=
  broadcastInDim S4x8192x8 ![0, 1, 2] bcast_S1x1x8_S4x8192x8_0_1_2 (broadcastInDim S1x1x8 ![2] bcast_S8_S1x1x8_2 (shapeCast _ B shapeCasts_S1x8_S8))

theorem biasAll_at (b : Fin 4) (s : Fin 8192) (j : Fin 8) : biasAll B (ix3 b s j) = B (ix2 0 j) := by
  refine (broadcastInDim_apply _ _ _ _ (ix3 0 0 j) fun a => by fin_cases a <;> rfl).trans ?_
  refine (broadcastInDim_apply _ _ _ _ (ix1 j) fun a => by fin_cases a; rfl).trans ?_
  exact shapeCast_1a_a_apply _ _ j

abbrev logits : FVec Ideal S4x8192x128 .f32 :=
  pad S4x8192x128 ![0, 0, 0] ![0, 0, 120] ![0, 0, 0] (addf (extractStridedSlice S4x8192x8 ![0, 0, 1536] (rest X W) slices_S4x8192x1544_S4x8192x8_0_0_1536) (biasAll B)) padZero
    pads_S4x8192x8_S4x8192x128_000_000_01200 h_S_

theorem logits_at (b : Fin 4) (s : Fin 8192) (j : Fin 128) : logits X W B (ix3 b s j) = logit X W B (rowAt b s) j := by
  unfold logit
  by_cases hj : j.val < 8
  · rw [dif_pos hj]
    refine (pad_apply_of_inside _ _ _ _ _ _ _ _ (ix3 b s (⟨j.val, hj⟩ : Fin 8)) (fun a => ?_)).trans ?_
    · match a with
      | ⟨0, _⟩ => show b.val = 0 + b.val * (0 + 1); omega
      | ⟨1, _⟩ => show s.val = 0 + s.val * (0 + 1); omega
      | ⟨2, _⟩ => show j.val = 0 + j.val * (0 + 1); omega
    · refine congrArg₂ (fun a b : Ideal .f32 => a + b) ?_ (biasAll_at B b s _)
      refine (slice_last 1536 (rest X W) _ b s (⟨j.val, hj⟩ : Fin 8) ⟨1536 + j.val, by omega⟩ rfl).trans ((rest_at X W b s _).trans ?_)
      exact congrArg (fun e => full X W (rowAt b s) e) (Fin.ext (by show 1696 + (1536 + j.val) = 3232 + j.val; omega))
  · rw [dif_neg hj]
    refine (pad_apply_of_not_inside _ _ _ _ _ _ _ _ (2 : Fin 3) (fun hin => hj ?_)).trans (padZero_apply _)
    have h2 : (j.val - 0) / (0 + 1) < 8 := hin.2.2
    omega

abbrev zeroAll : FVec Ideal S4x8192x128 .f32 := broadcastInDim S4x8192x128 ![] bcast_S_S4x8192x128 (constant (F := Ideal) S_ .f32 0x00000000#32)

theorem zeroAll_at (i : S4x8192x128.Idx) : zeroAll i = (0 : EReal) := Ideal.ofBits_zero_f32

/-- The logarithm of the sigmoid, as the reference's library writes it. -/
abbrev logSigmoid (v : FVec Ideal S4x8192x128 .f32) : FVec Ideal S4x8192x128 .f32 :=
  Host.negf (select (cmpf .une (subf (Host.negf v) zeroAll) (subf (Host.negf v) zeroAll)) (addf (Host.negf v) zeroAll)
    (addf (maximumf (Host.negf v) zeroAll) (Host.log1p (Host.exp (Host.negf (Host.absf (subf (Host.negf v) zeroAll)))))))

theorem logSigmoid_at (v : FVec Ideal S4x8192x128 .f32) (i : S4x8192x128.Idx) : (logSigmoid v i : EReal) = (logSig (v i) : EReal) := by
  have hz := zeroAll_at i
  generalize hZ : zeroAll = Z at hz
  unfold logSigmoid
  rw [hZ]
  have hs : select (cmpf .une (subf (Host.negf v) Z) (subf (Host.negf v) Z)) (addf (Host.negf v) Z)
      (addf (maximumf (Host.negf v) Z) (Host.log1p (Host.exp (Host.negf (Host.absf (subf (Host.negf v) Z)))))) i
      = (addf (maximumf (Host.negf v) Z) (Host.log1p (Host.exp (Host.negf (Host.absf (subf (Host.negf v) Z)))))) i := by
    have hc : cmpf .une (subf (Host.negf v) Z) (subf (Host.negf v) Z) i = 0#1 := by
      show BitVec.ofBool (decide ((subf (Host.negf v) Z i : EReal) ≠ (subf (Host.negf v) Z i : EReal))) = 0#1
      simp
    show (if cmpf .une (subf (Host.negf v) Z) (subf (Host.negf v) Z) i = 1#1 then _ else _) = _
    rw [hc]
    rfl
  refine (congrArg (fun y : EReal => -y) hs).trans ?_
  show -(max (-(v i : EReal)) (Z i : EReal) + Ideal.log (1 + Ideal.exp (-max (-(v i : EReal) - Z i) (-(-(v i : EReal) - Z i))))) = _
  rw [hz]
  exact softplus_neg (v i)

abbrev res3 : FVec Ideal S32768x128 .f32 :=
  shapeCast _ (Host.reduceWindowAdd ![1, 8192, 1] ![1, 1, 1] ![0, 8191, 0] ![0, 0, 0] (logSigmoid (logits X W B)) (broadcastInDim S_ ![] bcast_S_S_ (constant (F := Ideal) S_ .f32 0x00000000#32))
    reduceWindows_S4x8192x128_S4x8192x128_w1s1p0_0_w8192s1p8191_0_w1s1p0_0 h_S_) shapeCasts_S4x8192x128_S32768x128

theorem res3_eq : res3 X W B = result3 X W B := by
  funext i
  obtain ⟨r, j, rfl⟩ := exists_ix2 i
  refine (shapeCast_apply _ _ _ (ix3 (⟨r.val / 8192, by omega⟩ : Fin 4) (⟨r.val % 8192, by omega⟩ : Fin 8192) j) (by
    rw [Shape.rowMajor_val_two, Shape.rowMajor_val_three]
    show (r.val / 8192 * 8192 + r.val % 8192) * 128 + j.val = r.val * 128 + j.val
    omega)).trans ?_
  refine (cumsum_apply (M := 8191) rfl _ _ (fun _ => Ideal.ofBits_zero_f32) _ _ _ _ j (fun n => gateAt X W B (8192 * (r.val / 8192) + n) j) fun n => ?_)
  refine (logSigmoid_at _ _).trans ?_
  rw [logits_at]
  unfold gateAt
  rw [dif_pos (by omega)]

/-! ## As the reference's run states them -/

section Run
variable (m : (ℓ : Loc nD τ sig) → Buf (Elt Ideal) ℓ) (c : Dev nD)

theorem value0 : Cert.Reference6Ideal.Value.res_main_v20 m c
    = result0 (m ((c.tc : Thread nD τ).loc main_arg0)) (m ((c.tc : Thread nD τ).loc main_arg1)) (m ((c.tc : Thread nD τ).loc main_arg2)) := by
  unfold Cert.Reference6Ideal.Value.res_main_v20
  exact res0_eq (m ((c.tc : Thread nD τ).loc main_arg0)) (m ((c.tc : Thread nD τ).loc main_arg1)) (m ((c.tc : Thread nD τ).loc main_arg2))

theorem value3 : Cert.Reference6Ideal.Value.res_main_v39 m c
    = result3 (m ((c.tc : Thread nD τ).loc main_arg0)) (m ((c.tc : Thread nD τ).loc main_arg1)) (m ((c.tc : Thread nD τ).loc main_arg3)) := by
  unfold Cert.Reference6Ideal.Value.res_main_v39
  exact res3_eq (m ((c.tc : Thread nD τ).loc main_arg0)) (m ((c.tc : Thread nD τ).loc main_arg1)) (m ((c.tc : Thread nD τ).loc main_arg3))
end Run

end Cert.Proof.InprojReference

end
-- ==== Proof.Glu.Value.lean ====
/- What the gated linear unit before the convolution computes at the ideal reading: for each row, the first half of its
   projection times the logistic function of the second half. -/
module

public import proofs.«01_k».proof.Proof.Rows.Norm
public import proofs.«01_k».proof.Proof.Gen.Kernel4Ideal.Value
public import proofs.«01_k».proof.Proof.Gen.Reference4Ideal.Run

@[expose] public section

set_option maxRecDepth 16384

noncomputable section

namespace Cert.Proof.Glu

open Cert.Kernel4Ideal Cert.Kernel4Ideal.Gen Cert.Kernel4Ideal.Value
open Idealize.ShloMosaic hiding ix1 ix2 ix3
open Idealize.ShloMosaic.TcCoe Idealize.SL.Sem Idealize.ShloMosaic.ValueIdx Cert.Proof.Rows

/-- A feature of the first and of the second half. -/
abbrev lo (j : Fin 1024) : Fin 2048 := ⟨j.val, by omega⟩
abbrev hi (j : Fin 1024) : Fin 2048 := ⟨1024 + j.val, by omega⟩

/-- The projection of row `r` at feature `f`. -/
def proj (x : FVec Ideal S32768x1024 .f32) (w : FVec Ideal S1x1024x2048 .f32) (b : FVec Ideal S1x2048 .f32) (r : Fin 32768) (f : Fin 2048) :
    Ideal .f32 := (∑ k : Fin 1024, x (ix2 r k) * w (ix3 0 k f)) + b (ix2 0 f)

/-- The call's result. -/
def out (x : FVec Ideal S32768x1024 .f32) (w : FVec Ideal S1x1024x2048 .f32) (b : FVec Ideal S1x2048 .f32) : FVec Ideal S32768x1024 .f32 :=
  fun i => proj x w b (i 0) (lo (i 1)) * sigmoid (proj x w b (i 0) (hi (i 1)))

/-- The body's arithmetic at an entry. -/
theorem pay1_apply (x : FVec Ideal S512x1024 .f32) (v g : FVec Ideal S1024x1024 .bf16) (bv bg : FVec Ideal S1x1024 .f32) (q : Fin 512) (j : Fin 1024) :
    k0_pay1 x v bv g bg (ix2 q j) = ((∑ k : Fin 1024, x (ix2 q k) * v (ix2 k j)) + bv (ix2 0 j))
      * sigmoid ((∑ k : Fin 1024, x (ix2 q k) * g (ix2 k j)) + bg (ix2 0 j)) := by
  have h : ∀ (w : FVec Ideal S1024x1024 .bf16) (b : FVec Ideal S1x1024 .f32),
      addf (matmul dot_S512x1024_S1024x1024_S512x1024_1_0_0_1_n_n none (truncf .bf16 x bitsLt_bf16_f32 : FVec Ideal S512x1024 .bf16)
        (shapeCast S1024x1024 w shapeCasts_S1024x1024_S1024x1024) (constant S512x1024 .f32 0x00000000#32))
        (broadcastTo S512x1024 (shapeCast S1x1024 b shapeCasts_S1x1024_S1x1024) broadcasts_S1x1024_S512x1024) (ix2 q j)
      = (∑ k : Fin 1024, x (ix2 q k) * w (ix2 k j)) + b (ix2 0 j) := fun w b => by
    rw [shapeCast_self, shapeCast_self]
    exact congrArg₂ (fun a b : Ideal .f32 => a + b) (product_apply (M := 512) (K := 1024) (N := 1024) _ _ q j)
      (broadcastTo_1b_ab_apply (a := 512) (b := 1024) b _ q j)
  rw [← h v bv, ← h g bg]
  unfold k0_pay1 sigmoid
  rw [subf_zero_eq_hostNegf]
  rfl

variable (m : (ℓ : Loc nD τ sig) → Buf (Elt Ideal) ℓ)

/-- The arguments as launched. -/
abbrev xIn (c : Dev nD) : FVec Ideal S32768x1024 .f32 := m ((c : Thread nD τ).loc main_arg0)
abbrev wIn (c : Dev nD) : FVec Ideal S1x1024x2048 .f32 := m ((c : Thread nD τ).loc main_arg1)
abbrev bIn (c : Dev nD) : FVec Ideal S1x2048 .f32 := m ((c : Thread nD τ).loc main_arg2)

theorem entry_w (c : Dev nD) : V m c main_v1 = (shapeCast S1024x2048 (wIn m c) shapeCasts_S1x1024x2048_S1024x2048 : FVec Ideal S1024x2048 .bf16) := by
  show StableHlo.after hostOps0 _ _ = _
  after_results <;> rfl

theorem entry_b (c : Dev nD) : V m c main_v3 = (shapeCast S1x2048 (shapeCast S2048 (bIn m c) shapeCasts_S1x2048_S2048) shapeCasts_S2048_S1x2048 : FVec Ideal S1x2048 .f32) := by
  show StableHlo.after hostOps0 _ _ = _
  after_results <;> rfl

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem points : cfg0.N = 64 := (by decide +kernel : grid0.N = 64)

/-- Row `q` of tile `t`. -/
abbrev rowOf (t : Fin cfg0.N) (q : Fin 512) : Fin 32768 := ⟨512 * t.val + q.val, by have := t.isLt; have := points; omega⟩

theorem block0 (c : Dev nD) (t : Fin cfg0.N) (q : Fin 512) (k : Fin 1024) : iblk m c 0 t (ix2 q k) = xIn m c (ix2 (rowOf t q) k) := by
  show V m c main_arg0 (((cfg0.win 0).blk t).view.emb (ix2 q k)) = _
  rw [V_main_arg0]
  obtain ⟨e0, e1⟩ := index0 t
  refine congrArg _ (funext fun (a : Fin 2) => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega

theorem block1 (c : Dev nD) (t : Fin cfg0.N) (k : Fin 1024) (f : Fin 2048) : iblk m c 1 t (ix2 k f) = wIn m c (ix3 0 k f) := by
  show V m c main_v1 (((cfg0.win 1).blk t).view.emb (ix2 k f)) = _
  have e : ((cfg0.win 1).blk t).view.emb (ix2 k f) = ix2 k f := by
    obtain ⟨e0, e1⟩ := index1 t
    refine funext fun (a : Fin 2) => Fin.ext ?_
    match a with
    | ⟨0, _⟩ => show win0_1.index t (0 : Fin 2) * 1024 + 1 * k.val = k.val; omega
    | ⟨1, _⟩ => show win0_1.index t (1 : Fin 2) * 2048 + 1 * f.val = f.val; omega
  rw [e, entry_w]
  exact shapeCast_1ab_ab_apply (wIn m c) _ k f

theorem block2 (c : Dev nD) (t : Fin cfg0.N) (f : Fin 2048) : iblk m c 2 t (ix2 0 f) = bIn m c (ix2 0 f) := by
  show V m c main_v3 (((cfg0.win 2).blk t).view.emb (ix2 0 f)) = _
  have e : ((cfg0.win 2).blk t).view.emb (ix2 0 f) = ix2 0 f := by
    obtain ⟨e0, e1⟩ := index2 t
    refine funext fun (a : Fin 2) => Fin.ext ?_
    match a with
    | ⟨0, _⟩ => show win0_2.index t (0 : Fin 2) * 1 + 1 * 0 = 0; omega
    | ⟨1, _⟩ => show win0_2.index t (1 : Fin 2) * 2048 + 1 * f.val = f.val; omega
  rw [e, entry_b]
  exact (shapeCast_a_1a_apply _ _ 0 f).trans (shapeCast_1a_a_apply (bIn m c) _ f)

/-- What point `t` leaves in the result's block. -/
theorem out_apply (c : Dev nD) (t : Fin cfg0.N) (q : Fin 512) (j : Fin 1024) :
    out0_3 (iblk m c 0 t) (iblk m c 1 t) (iblk m c 2 t) (ix2 q j) = out (xIn m c) (wIn m c) (bIn m c) (ix2 (rowOf t q) j) := by
  unfold out0_3
  rw [View.canon_unit_zero zeros, View.ld_unit_zero zeros, View.ld_unit, View.ld_unit, View.ld_unit, View.ld_unit]
  refine (pay1_apply _ _ _ _ _ q j).trans ?_
  unfold out proj
  have e1 : ∀ (b : FVec Ideal S1024x2048 .bf16) (k : Fin 1024),
      extractStridedSlice S1024x1024 ![0, 0] b ⟨rfl, inb_S1024x2048_S1024x1024_0_0⟩ (ix2 k j) = b (ix2 k (lo j)) := fun b k =>
    slice2_axis1_apply 0 b _ k j (lo j) (by simp)
  have e2 : ∀ (b : FVec Ideal S1024x2048 .bf16) (k : Fin 1024),
      extractStridedSlice S1024x1024 ![0, 1024] b ⟨rfl, inb_S1024x2048_S1024x1024_0_1024⟩ (ix2 k j) = b (ix2 k (hi j)) := fun b k =>
    slice2_axis1_apply 1024 b _ k j (hi j) rfl
  have e3 : ∀ b : FVec Ideal S1x2048 .f32,
      extractStridedSlice S1x1024 ![0, 0] b ⟨rfl, inb_S1x2048_S1x1024_0_0⟩ (ix2 0 j) = b (ix2 0 (lo j)) := fun b =>
    slice2_axis1_apply 0 b _ 0 j (lo j) (by simp)
  have e4 : ∀ b : FVec Ideal S1x2048 .f32,
      extractStridedSlice S1x1024 ![0, 1024] b ⟨rfl, inb_S1x2048_S1x1024_0_1024⟩ (ix2 0 j) = b (ix2 0 (hi j)) := fun b =>
    slice2_axis1_apply 1024 b _ 0 j (hi j) rfl
  refine congrArg₂ (fun a b : Ideal .f32 => a * sigmoid b)
    (congrArg₂ (fun a b : Ideal .f32 => a + b) (Finset.sum_congr rfl fun k _ => ?_) ((e3 _).trans (block2 m c t _)))
    (congrArg₂ (fun a b : Ideal .f32 => a + b) (Finset.sum_congr rfl fun k _ => ?_) ((e4 _).trans (block2 m c t _)))
  · exact congrArg₂ (fun a b : Ideal .f32 => a * b) (block0 m c t q k) ((e1 _ k).trans (block1 m c t k _))
  · exact congrArg₂ (fun a b : Ideal .f32 => a * b) (block0 m c t q k) ((e2 _ k).trans (block1 m c t k _))

/-- The result's array after the run. -/
theorem final (c : Dev nD) : (dats m 0 c).arrAt 3 cfg0.N = out (xIn m c) (wIn m c) (bIn m c) := by
  refine Pipeline.Dat.arrAt_eq_of_emb (dats m 0 c) 3 _ (fun t hf y => ?_) fun i => ?_
  · obtain ⟨q, j, rfl⟩ := exists_ix2 (a := 512) (b := 1024) y
    show (dats m 0 c).after 3 t (ix2 q j) = _
    rw [after0_3, out_apply]
    refine congrArg (out (xIn m c) (wIn m c) (bIn m c)) (funext fun (a : Fin 2) => Fin.ext ?_)
    obtain ⟨e0, e1⟩ := index3 t
    match a with
    | ⟨0, _⟩ => show 512 * t.val + q.val = win0_3.index t (0 : Fin 2) * 512 + 1 * q.val; omega
    | ⟨1, _⟩ => show j.val = win0_3.index t (1 : Fin 2) * 1024 + 1 * j.val; omega
  · obtain ⟨r, j, rfl⟩ := exists_ix2 (a := 32768) (b := 1024) i
    have hr := r.isLt
    have hj := j.isLt
    have ht : r.val / 512 < cfg0.N := Nat.lt_of_lt_of_eq (by omega : _ < 64) points.symm
    refine ⟨⟨r.val / 512, ht⟩, flush0_3 _, ?_⟩
    obtain ⟨e0, e1⟩ := index3 ⟨r.val / 512, ht⟩
    refine ((cfg0.win 3).emb_mem_blk_iff ⟨r.val / 512, ht⟩ (ix2 r j)).mpr fun (a : Fin 2) => ?_
    match a with
    | ⟨0, _⟩ =>
      show win0_3.index ⟨r.val / 512, ht⟩ (0 : Fin 2) * 512 ≤ r.val ∧ r.val < win0_3.index ⟨r.val / 512, ht⟩ (0 : Fin 2) * 512 + 512
      rw [e0]
      show r.val / 512 * 512 ≤ r.val ∧ r.val < r.val / 512 * 512 + 512
      omega
    | ⟨1, _⟩ =>
      show win0_3.index ⟨r.val / 512, ht⟩ (1 : Fin 2) * 1024 ≤ j.val ∧ j.val < win0_3.index ⟨r.val / 512, ht⟩ (1 : Fin 2) * 1024 + 1024
      rw [e1]
      omega

end Cert.Proof.Glu

end
-- ==== Proof.Glu.Reference.lean ====
/- The reference's gated linear unit at an entry: the same function of the arguments as the call's. -/
module

public import proofs.«01_k».proof.Proof.Glu.Value

@[expose] public section

set_option maxRecDepth 16384

noncomputable section

namespace Cert.Proof.GluReference

open Cert.Reference4Ideal Cert.Reference4Ideal.Gen
open Idealize.ShloMosaic hiding ix1 ix2 ix3
open Idealize.ShloMosaic.TcCoe Idealize.ShloMosaic.ValueIdx Cert.Proof.Rows

variable (x : FVec Ideal S32768x1024 .f32) (w : FVec Ideal S1x1024x2048 .f32) (b : FVec Ideal S1x2048 .f32)

/-- The projection with its offset. -/
abbrev projection : FVec Ideal S32768x2048 .f32 :=
  addf (Host.dotGeneral dot_S32768x1024_S1024x2048_S32768x2048_1_0_0_1_n_n none x (shapeCast S1024x2048 w shapeCasts_S1x1024x2048_S1024x2048))
    (broadcastInDim S32768x2048 ![0, 1] bcast_S1x2048_S32768x2048_0_1 (broadcastInDim S1x2048 ![1] bcast_S2048_S1x2048_1
      (shapeCast S2048 b shapeCasts_S1x2048_S2048)))

theorem projection_apply (r : Fin 32768) (f : Fin 2048) : projection x w b (ix2 r f) = Glu.proj x w b r f := by
  unfold Glu.proj
  refine congrArg₂ (fun a b : Ideal .f32 => a + b) ?_ ?_
  · refine (StackMember.dotGeneral_plain_apply (m := 32768) (k := 1024) (n := 2048) none _ _ r f).trans (Finset.sum_congr rfl fun k _ => ?_)
    exact congrArg (fun a : Ideal .f32 => x (ix2 r k) * a) (shapeCast_1ab_ab_apply w _ k f)
  · exact (Routing.bcCols (n := 32768) (m := 2048) bcast_S2048_S1x2048_1 bcast_S1x2048_S32768x2048_0_1 _ r f).trans (shapeCast_1a_a_apply b _ f)

theorem result : mulf (extractStridedSlice S32768x1024 ![0, 0] (projection x w b) slices_S32768x2048_S32768x1024_0_0)
    (Host.divf (broadcastInDim S32768x1024 ![] bcast_S_S32768x1024 (constant S_ .f32 0x3F800000#32))
      (addf (broadcastInDim S32768x1024 ![] bcast_S_S32768x1024 (constant S_ .f32 0x3F800000#32))
        (Host.exp (Host.negf (extractStridedSlice S32768x1024 ![0, 1024] (projection x w b) slices_S32768x2048_S32768x1024_0_1024)))))
    = Glu.out x w b := by
  funext i
  obtain ⟨r, j, rfl⟩ := exists_ix2 (a := 32768) (b := 1024) i
  have h1 : extractStridedSlice S32768x1024 ![0, 0] (projection x w b) slices_S32768x2048_S32768x1024_0_0 (ix2 r j) = Glu.proj x w b r (Glu.lo j) :=
    (slice2_axis1_apply 0 (projection x w b) _ r j (Glu.lo j) (by simp)).trans (projection_apply x w b r _)
  have h2 : extractStridedSlice S32768x1024 ![0, 1024] (projection x w b) slices_S32768x2048_S32768x1024_0_1024 (ix2 r j) = Glu.proj x w b r (Glu.hi j) :=
    (slice2_axis1_apply 1024 (projection x w b) _ r j (Glu.hi j) rfl).trans (projection_apply x w b r _)
  have h3 : broadcastInDim S32768x1024 ![] bcast_S_S32768x1024 (constant (F := Ideal) S_ .f32 0x3F800000#32) (ix2 r j) = oneI := Routing.bc0 _ _ _
  exact congrArg₂ (fun a b : Ideal .f32 => a * b) h1 (congrArg₂ (fun o a : Ideal .f32 => Ideal.div o (o + FloatOps.hostUnary .exp (FloatOps.hostNegf a))) h3 h2)

end Cert.Proof.GluReference

end
-- ==== Proof.Mix.Rows.lean ====
/- A row of the mixing step: group norm of the scan's result within each head, the bonus, the gate, the output
   projection and the layer norm. And the sums that the body spells differently from the reference. -/
module

public import proofs.«01_k».proof.Proof.Rows.Norm

@[expose] public section

set_option maxRecDepth 16384

noncomputable section

namespace Cert.Proof.Mix

open Idealize.ShloMosaic hiding ix1 ix2 ix3
open Idealize.ShloMosaic.ValueIdx Cert.Proof.Rows

/-- A head's width and the small number under the root of the group norm, as the reference spells them; and the
    reciprocal of the width, as the body spells it. -/
abbrev widthI : Ideal .f32 := FloatOps.ofBits .f32 0x42800000#32
abbrev groupEpsI : Ideal .f32 := FloatOps.ofBits .f32 0x3A27C5AC#32
abbrev perWidthI : Ideal .f32 := FloatOps.ofBits .f32 0x3C800000#32

/-- Lane `e` of head `h`, and a feature's head and lane. -/
abbrev feat (h : Fin 8) (e : Fin 64) : Fin 512 := ⟨64 * h.val + e.val, by omega⟩
abbrev headOf (c : Fin 512) : Fin 8 := ⟨c.val / 64, by omega⟩
abbrev laneOf (c : Fin 512) : Fin 64 := ⟨c.val % 64, by omega⟩

theorem headOf_feat (h : Fin 8) (e : Fin 64) : headOf (feat h e) = h := Fin.ext (by show (64 * h.val + e.val) / 64 = h.val; omega)
theorem laneOf_feat (h : Fin 8) (e : Fin 64) : laneOf (feat h e) = e := Fin.ext (by show (64 * h.val + e.val) % 64 = e.val; omega)
theorem feat_head_lane (c : Fin 512) : feat (headOf c) (laneOf c) = c := Fin.ext (Nat.div_add_mod c.val 64)

/-- What the step reads of one row: the residual, the receptance, key and value, the low-rank rate and gate, the
    scan's result and the attention's. -/
@[ext] structure Row where
  x : Fin 1024 → Ideal .f32
  r : Fin 512 → Ideal .f32
  k : Fin 512 → Ideal .f32
  v : Fin 512 → Ideal .f32
  ad : Fin 32 → Ideal .f32
  gd : Fin 96 → Ideal .f32
  y : Fin 512 → Ideal .f32
  f : Fin 512 → Ideal .f32

/-- The step's parameters. -/
@[ext] structure Params where
  a0 : Fin 512 → Ideal .f32
  aUp : Fin 32 → Fin 512 → Ideal .f32
  gUp : Fin 96 → Fin 512 → Ideal .f32
  kA : Fin 512 → Ideal .f32
  rK : Fin 512 → Ideal .f32
  gnG : Fin 512 → Ideal .f32
  gnB : Fin 512 → Ideal .f32
  wR : Fin 512 → Fin 1024 → Ideal .f32
  wF : Fin 512 → Fin 1024 → Ideal .f32
  lnG : Fin 1024 → Ideal .f32
  lnB : Fin 1024 → Ideal .f32

/-- The mean over feature `c`'s head. -/
def groupMean (y : Fin 512 → Ideal .f32) (c : Fin 512) : Ideal .f32 := Ideal.div (∑ e : Fin 64, y (feat (headOf c) e)) widthI

/-- Group norm at feature `c`, with that feature's gain and offset. -/
def groupNorm (y : Fin 512 → Ideal .f32) (g b : Ideal .f32) (c : Fin 512) : Ideal .f32 :=
  (y c - groupMean y c) * FloatOps.hostUnary .rsqrt (groupMean (fun k => (y k - groupMean y k) * (y k - groupMean y k)) c + groupEpsI) * g + b

/-- The key, moved by the rate. -/
def key (R : Row) (P : Params) (c : Fin 512) : Ideal .f32 :=
  R.k c * (oneI + (sigmoid (P.a0 c + ∑ e : Fin 32, R.ad e * P.aUp e c) - oneI) * P.kA c)

/-- The gate. -/
def gate (R : Row) (P : Params) (c : Fin 512) : Ideal .f32 := ∑ e : Fin 96, sigmoid (R.gd e) * P.gUp e c

/-- The bonus of feature `c`'s head. -/
def bonus (R : Row) (P : Params) (c : Fin 512) : Ideal .f32 :=
  ∑ e : Fin 64, R.r (feat (headOf c) e) * key R P (feat (headOf c) e) * P.rK (feat (headOf c) e)

/-- The gated result of the scan. -/
def gated (R : Row) (P : Params) (c : Fin 512) : Ideal .f32 :=
  (groupNorm R.y (P.gnG c) (P.gnB c) c + bonus R P c * R.v c) * gate R P c

/-- The scaled residual and the projection. -/
def joined (R : Row) (P : Params) (j : Fin 1024) : Ideal .f32 :=
  alphaI * R.x j + (∑ c : Fin 512, gated R P c * P.wR c j + ∑ c : Fin 512, R.f c * P.wF c j)

/-- The row's result. -/
def result (R : Row) (P : Params) (j : Fin 1024) : Ideal .f32 := norm (joined R P) (P.lnG j) (P.lnB j) j

/-- The row `r` of the arguments, and the parameters. -/
def rowAt (x : FVec Ideal ⟨2, ![32768, 1024]⟩ .f32) (p : FVec Ideal ⟨2, ![32768, 1696]⟩ .f32) (y f : FVec Ideal ⟨2, ![32768, 512]⟩ .f32)
    (r : Fin 32768) : Row where
  x j := x (ix2 r j)
  r c := p (ix2 r ⟨c.val, by omega⟩)
  k c := p (ix2 r ⟨512 + c.val, by omega⟩)
  v c := p (ix2 r ⟨1024 + c.val, by omega⟩)
  ad e := p (ix2 r ⟨1568 + e.val, by omega⟩)
  gd e := p (ix2 r ⟨1600 + e.val, by omega⟩)
  y c := y (ix2 r c)
  f c := f (ix2 r c)
def paramsOf (a0 : FVec Ideal ⟨2, ![1, 512]⟩ .f32) (aUp : FVec Ideal ⟨3, ![1, 32, 512]⟩ .f32) (gUp : FVec Ideal ⟨3, ![1, 96, 512]⟩ .f32)
    (kA rK gnG gnB : FVec Ideal ⟨3, ![1, 8, 64]⟩ .f32) (w : FVec Ideal ⟨3, ![1, 1024, 1024]⟩ .f32) (lnG lnB : FVec Ideal ⟨2, ![1, 1024]⟩ .f32) : Params where
  a0 c := a0 (ix2 0 c)
  aUp e c := aUp (ix3 0 e c)
  gUp e c := gUp (ix3 0 e c)
  kA c := kA (ix3 0 (headOf c) (laneOf c))
  rK c := rK (ix3 0 (headOf c) (laneOf c))
  gnG c := gnG (ix3 0 (headOf c) (laneOf c))
  gnB c := gnB (ix3 0 (headOf c) (laneOf c))
  wR c j := w (ix3 0 ⟨c.val, by omega⟩ j)
  wF c j := w (ix3 0 ⟨512 + c.val, by omega⟩ j)
  lnG j := lnG (ix2 0 j)
  lnB j := lnB (ix2 0 j)

/-- The call's result. -/
def out (x : FVec Ideal ⟨2, ![32768, 1024]⟩ .f32) (p : FVec Ideal ⟨2, ![32768, 1696]⟩ .f32) (y f : FVec Ideal ⟨2, ![32768, 512]⟩ .f32)
    (a0 : FVec Ideal ⟨2, ![1, 512]⟩ .f32) (aUp : FVec Ideal ⟨3, ![1, 32, 512]⟩ .f32) (gUp : FVec Ideal ⟨3, ![1, 96, 512]⟩ .f32)
    (kA rK gnG gnB : FVec Ideal ⟨3, ![1, 8, 64]⟩ .f32) (w : FVec Ideal ⟨3, ![1, 1024, 1024]⟩ .f32) (lnG lnB : FVec Ideal ⟨2, ![1, 1024]⟩ .f32) :
    FVec Ideal ⟨2, ![32768, 1024]⟩ .f32 :=
  fun i => result (rowAt x p y f (i 0)) (paramsOf a0 aUp gUp kA rK gnG gnB w lnG lnB) (i 1)

/-! ## Sums -/

/-- A sum against the indicator of feature `c`'s head is the sum over that head. -/
theorem sum_group (t g : Fin 512 → EReal) (c : Fin 512) (h : ∀ j, g j = if j.val / 64 = c.val / 64 then 1 else 0) :
    ∑ j : Fin 512, t j * g j = ∑ e : Fin 64, t (feat (headOf c) e) := by
  simp_rw [h, mul_ite, mul_one, mul_zero]
  rw [← Finset.sum_filter]
  refine Finset.sum_nbij' laneOf (feat (headOf c)) (fun _ _ => Finset.mem_univ _) (fun e _ => ?_) (fun j hj => ?_) (fun e _ => ?_) fun j hj => ?_
  · refine Finset.mem_filter.mpr ⟨Finset.mem_univ _, ?_⟩
    show (64 * (c.val / 64) + e.val) / 64 = c.val / 64
    omega
  · have := (Finset.mem_filter.mp hj).2
    refine Fin.ext ?_
    show 64 * (c.val / 64) + j.val % 64 = j.val
    omega
  · refine Fin.ext ?_
    show (64 * (c.val / 64) + e.val) % 64 = e.val
    omega
  · have := (Finset.mem_filter.mp hj).2
    refine congrArg t (Fin.ext ?_)
    show j.val = 64 * (c.val / 64) + j.val % 64
    omega

/-- A sum whose terms from the thirty-second on are zero; and one whose terms from the ninety-sixth on are. -/
theorem sum_first32 (f : Fin 128 → EReal) (h : ∀ e : Fin 128, 32 ≤ e.val → f e = 0) :
    ∑ e : Fin 128, f e = ∑ e : Fin 32, f ⟨e.val, by omega⟩ := by
  refine (Fin.sum_univ_add (a := 32) (b := 96) f).trans ?_
  rw [Finset.sum_eq_zero (s := (Finset.univ : Finset (Fin 96))) fun e _ => h _ (Nat.le_add_right 32 e.val), add_zero]
  rfl
theorem sum_first96 (f : Fin 128 → EReal) (h : ∀ e : Fin 128, 96 ≤ e.val → f e = 0) :
    ∑ e : Fin 128, f e = ∑ e : Fin 96, f ⟨e.val, by omega⟩ := by
  refine (Fin.sum_univ_add (a := 96) (b := 32) f).trans ?_
  rw [Finset.sum_eq_zero (s := (Finset.univ : Finset (Fin 32))) fun e _ => h _ (Nat.le_add_right 96 e.val), add_zero]
  rfl

theorem width_eq : widthI = ((64 : ℝ) : EReal) := by
  show Ideal.ofBits .f32 0x42800000#32 = _
  simp [Ideal.ofBits, Ideal.ieee, -EReal.coe_mul]; norm_num
theorem perWidth_eq : perWidthI = ((64⁻¹ : ℝ) : EReal) := by
  show Ideal.ofBits .f32 0x3C800000#32 = _
  simp [Ideal.ofBits, Ideal.ieee, -EReal.coe_mul]; norm_num

/-- The reciprocal's product is the quotient. -/
theorem times_perWidth (s : Ideal .f32) : s * perWidthI = Ideal.div s widthI := by
  rw [width_eq, perWidth_eq]
  unfold Ideal.div
  rw [if_neg (by exact_mod_cast (by norm_num : (64 : ℝ) ≠ 0)), EReal.coe_inv]

/-! ## Infinite entries -/

/-- A number that is not a real. -/
abbrev Infin (a : EReal) : Prop := a = ⊤ ∨ a = ⊥

theorem infin_add {a b : EReal} (h : Infin a) : Infin (a + b) := by
  rcases h with rfl | rfl
  · induction b using EReal.rec with
    | bot => exact .inr (EReal.add_bot _)
    | coe r => exact .inl (EReal.top_add_coe r)
    | top => exact .inl EReal.top_add_top
  · exact .inr (EReal.bot_add b)
theorem infin_sub {a m : EReal} (h : Infin m) : Infin (a - m) := by
  rw [sub_eq_add_neg, add_comm]
  refine infin_add ?_
  rcases h with rfl | rfl
  · exact .inr EReal.neg_top
  · exact .inl EReal.neg_bot
theorem infin_square {a : EReal} (h : Infin a) : a * a = ⊤ := by
  rcases h with rfl | rfl
  · exact EReal.top_mul_top
  · exact EReal.bot_mul_bot
theorem infin_sum (f : Fin 64 → EReal) (e : Fin 64) (h : Infin (f e)) : Infin (∑ e : Fin 64, f e) := by
  rw [← Finset.add_sum_erase Finset.univ f (Finset.mem_univ e)]
  exact infin_add h
theorem infin_perWidth {a : EReal} (h : Infin a) : Infin (a * perWidthI) := by
  rw [perWidth_eq]
  rcases h with rfl | rfl
  · exact .inl (EReal.top_mul_coe_of_pos (by norm_num))
  · exact .inr (EReal.bot_mul_coe_of_pos (by norm_num))

theorem groupEps_ne_bot : groupEpsI ≠ (⊥ : EReal) := by
  show Ideal.ofBits .f32 0x3A27C5AC#32 ≠ ⊥
  simp [Ideal.ofBits, Ideal.ieee, -EReal.coe_mul]

/-- Where a head's features less their mean are infinite, the group norm multiplies them by zero. -/
theorem infin_norm (d : Fin 512 → Ideal .f32) (c : Fin 512) (h : ∀ e : Fin 64, Infin (d (feat (headOf c) e))) :
    d c * FloatOps.hostUnary .rsqrt (groupMean (fun k => d k * d k) c + groupEpsI) = (0 : EReal) := by
  have hs : ∑ e : Fin 64, d (feat (headOf c) e) * d (feat (headOf c) e) = (⊤ : EReal) :=
    (infin_sum _ 0 (.inl (infin_square (h 0)))).resolve_right fun hb => by
      have hp : (0 : EReal) ≤ ∑ e : Fin 64, d (feat (headOf c) e) * d (feat (headOf c) e) :=
        Finset.sum_nonneg fun e _ => (infin_square (h e)).symm ▸ le_top
      exact absurd (hp.trans_eq hb) (not_le.mpr EReal.bot_lt_zero)
  have hm : groupMean (fun k => d k * d k) c = (⊤ : EReal) := by
    unfold groupMean
    refine (times_perWidth _).symm.trans ((congrArg (fun a : Ideal .f32 => a * perWidthI) hs).trans ?_)
    rw [perWidth_eq]
    exact EReal.top_mul_coe_of_pos (by norm_num)
  have hr : (FloatOps.hostUnary .rsqrt (groupMean (fun k => d k * d k) c + groupEpsI) : Ideal .f32) = (0 : EReal) :=
    (congrArg (fun a : Ideal .f32 => (FloatOps.hostUnary .rsqrt (a + groupEpsI) : Ideal .f32)) hm).trans
      ((congrArg Ideal.rsqrt (EReal.top_add_of_ne_bot groupEps_ne_bot)).trans Ideal.rsqrt_top)
  exact (congrArg (fun a : Ideal .f32 => d c * a) hr).trans (mul_zero (M₀ := EReal) _)

/-- The mean over a head with an infinite feature. -/
theorem infin_groupMean (y : Fin 512 → Ideal .f32) (c : Fin 512) (e : Fin 64) (h : Infin (y (feat (headOf c) e))) : Infin (groupMean y c) := by
  unfold groupMean
  rw [← times_perWidth]
  exact infin_perWidth (infin_sum _ e h)

end Cert.Proof.Mix

end
-- ==== Proof.Mix.Body.lean ====
/- The mixing step's body at an entry of a tile: the row's result, read off the tile's blocks. -/
module

public import proofs.«01_k».proof.Proof.Mix.Rows
public import proofs.«01_k».proof.Proof.Gen.Kernel5Ideal.Value

@[expose] public section

set_option maxRecDepth 16384

noncomputable section

namespace Cert.Proof.Mix

open Cert.Kernel5Ideal Cert.Kernel5Ideal.Gen Cert.Kernel5Ideal.Value
open Idealize.ShloMosaic hiding ix1 ix2 ix3
open Idealize.ShloMosaic.TcCoe Idealize.SL.Sem Idealize.ShloMosaic.ValueIdx Cert.Proof.Rows

/-- One row laid along the tile's rows. -/
theorem row_apply (g : FVec Ideal S1x512 .f32) (q : Fin 512) (c : Fin 512) :
    broadcastTo S512x512 (shapeCast S1x512 g shapeCasts_S1x512_S1x512) broadcasts_S1x512_S512x512 (ix2 q c) = g (ix2 0 c) := by
  rw [shapeCast_self]
  exact broadcastTo_1b_ab_apply g _ q c

/-- The rate, and with it the moved key. -/
theorem pay4_apply (k : FVec Ideal S512x512 .f32) (ad : FVec Ideal S512x128 .f32) (a0 : FVec Ideal S1x512 .f32) (up : FVec Ideal S128x512 .bf16)
    (ka : FVec Ideal S1x512 .f32) (hup : ∀ (e : Fin 128) (c : Fin 512), 32 ≤ e.val → up (ix2 e c) = (0 : EReal)) (q c : Fin 512) :
    k0_pay4 k ad a0 up ka (ix2 q c) = k (ix2 q c) * (oneI + (sigmoid (a0 (ix2 0 c)
      + ∑ e : Fin 32, ad (ix2 q ⟨e.val, by omega⟩) * up (ix2 ⟨e.val, by omega⟩ c)) - oneI) * ka (ix2 0 c)) := by
  have hm : matmul dot_S512x128_S128x512_S512x512_1_0_0_1_n_n none ad up (constant S512x512 .f32 0x00000000#32) (ix2 q c)
      = ∑ e : Fin 32, ad (ix2 q ⟨e.val, by omega⟩) * up (ix2 ⟨e.val, by omega⟩ c) :=
    (product_apply (M := 512) (K := 128) (N := 512) _ _ q c).trans (sum_first32 (fun e => ad (ix2 q e) * up (ix2 e c)) fun e he => by
      rw [hup e c he]
      exact mul_zero _)
  unfold k0_pay4 sigmoid
  rw [← hm, ← row_apply a0 q c, ← row_apply ka q c, shapeCast_self k, shapeCast_self ad, shapeCast_self up, subf_zero_eq_hostNegf]
  rfl

/-- The gate. -/
theorem pay6_apply (gd : FVec Ideal S512x128 .f32) (up : FVec Ideal S128x512 .bf16)
    (hup : ∀ (e : Fin 128) (c : Fin 512), 96 ≤ e.val → up (ix2 e c) = (0 : EReal)) (q c : Fin 512) :
    k0_pay6 (k0_pay5 gd) up (ix2 q c) = ∑ e : Fin 96, sigmoid (gd (ix2 q ⟨e.val, by omega⟩)) * up (ix2 ⟨e.val, by omega⟩ c) := by
  have hn : k0_pay5 gd = Host.negf gd := by
    unfold k0_pay5
    rw [shapeCast_self gd]
    exact subf_zero_eq_hostNegf _
  unfold k0_pay6
  rw [hn, shapeCast_self up]
  refine (product_apply (M := 512) (K := 128) (N := 512) _ _ q c).trans ?_
  exact sum_first96 (fun e => sigmoid (gd (ix2 q e)) * up (ix2 e c)) fun e he => by
    rw [hup e c he]
    exact mul_zero _

/-- The heads' indicator. -/
abbrev Heads (gs : FVec Ideal S512x512 .bf16) : Prop := ∀ j c : Fin 512, gs (ix2 j c) = (if j.val / 64 = c.val / 64 then 1 else 0 : EReal)

/-- A product with the heads' indicator sums over a head. -/
theorem heads_apply {φ : FTy} (t : FVec Ideal S512x512 φ) (gs : FVec Ideal S512x512 .bf16) (hgs : Heads gs) (q c : Fin 512) :
    matmul dot_S512x512_S512x512_S512x512_1_0_0_1_n_n none t gs (constant S512x512 .f32 0x00000000#32) (ix2 q c)
      = ∑ e : Fin 64, t (ix2 q (feat (headOf c) e)) :=
  (product_apply (M := 512) (K := 512) (N := 512) _ _ q c).trans
    (sum_group (fun j => t (ix2 q j)) (fun j => gs (ix2 j c)) c fun j => hgs j c)

/-- The mean over the heads, as the body computes it of a number and its rounding error. -/
abbrev bodyGroupMean (gs : FVec Ideal S512x512 .bf16) (y : FVec Ideal S512x512 .f32) : FVec Ideal S512x512 .f32 :=
  mulf (addf (matmul (φ₁ := .bf16) dot_S512x512_S512x512_S512x512_1_0_0_1_n_n none y gs (constant S512x512 .f32 0x00000000#32))
    (matmul (φ₁ := .bf16) dot_S512x512_S512x512_S512x512_1_0_0_1_n_n none (subf y y) gs (constant S512x512 .f32 0x00000000#32)))
    (broadcast S512x512 (Scalar.ofBits .f32 0x3C800000#32))

/-- The body's mean, as a sum over the head. -/
theorem bodyGroupMean_sums (gs : FVec Ideal S512x512 .bf16) (y : FVec Ideal S512x512 .f32) (hgs : Heads gs) (q c : Fin 512) :
    bodyGroupMean gs y (ix2 q c) = (∑ e : Fin 64, y (ix2 q (feat (headOf c) e))
      + ∑ e : Fin 64, (y (ix2 q (feat (headOf c) e)) - y (ix2 q (feat (headOf c) e)))) * perWidthI :=
  congrArg₂ (fun a b : Ideal .f32 => (a + b) * perWidthI) (heads_apply (φ := .bf16) y gs hgs q c) (heads_apply (φ := .bf16) (subf y y) gs hgs q c)

theorem bodyGroupMean_apply (gs : FVec Ideal S512x512 .bf16) (y : FVec Ideal S512x512 .f32) (hgs : Heads gs) (q c : Fin 512)
    (hy : ∀ e : Fin 64, ¬ Infin (y (ix2 q (feat (headOf c) e)))) :
    bodyGroupMean gs y (ix2 q c) = groupMean (fun k => y (ix2 q k)) c := by
  refine (bodyGroupMean_sums gs y hgs q c).trans ((congrArg (fun b : Ideal .f32 => (_ + b) * perWidthI)
    (Finset.sum_eq_zero fun e _ => EReal.sub_self (fun h => hy e (.inl h)) fun h => hy e (.inr h))).trans ?_)
  refine (congrArg (fun a : Ideal .f32 => a * perWidthI) (add_zero (_ : EReal))).trans ?_
  exact times_perWidth _

theorem bodyGroupMean_infin (gs : FVec Ideal S512x512 .bf16) (y : FVec Ideal S512x512 .f32) (hgs : Heads gs) (q c : Fin 512) (e : Fin 64)
    (h : Infin (y (ix2 q (feat (headOf c) e)))) : Infin (bodyGroupMean gs y (ix2 q c)) := by
  rw [bodyGroupMean_sums gs y hgs q c]
  exact infin_perWidth (infin_add (infin_sum (fun e => y (ix2 q (feat (headOf c) e))) e h))

/-- The features less their head's mean, times the reciprocal root: the same where the head is finite, and zero twice
    where it is not. -/
theorem bodyGroupNorm_apply (gs : FVec Ideal S512x512 .bf16) (y : FVec Ideal S512x512 .f32) (hgs : Heads gs) (q c : Fin 512) :
    (y (ix2 q c) - bodyGroupMean gs y (ix2 q c)) * FloatOps.hostUnary .rsqrt (groupMean (fun k =>
        (y (ix2 q k) - bodyGroupMean gs y (ix2 q k)) * (y (ix2 q k) - bodyGroupMean gs y (ix2 q k))) c + groupEpsI)
      = (y (ix2 q c) - groupMean (fun k => y (ix2 q k)) c) * FloatOps.hostUnary .rsqrt (groupMean (fun k =>
        (y (ix2 q k) - groupMean (fun k => y (ix2 q k)) k) * (y (ix2 q k) - groupMean (fun k => y (ix2 q k)) k)) c + groupEpsI) := by
  by_cases hy : ∃ e : Fin 64, Infin (y (ix2 q (feat (headOf c) e)))
  · obtain ⟨e, he⟩ := hy
    have hh : ∀ d : Fin 64, Infin (y (ix2 q (feat (headOf (feat (headOf c) d)) e))) := fun d => by rwa [headOf_feat]
    exact (infin_norm (fun k => y (ix2 q k) - bodyGroupMean gs y (ix2 q k)) c fun d => infin_sub (bodyGroupMean_infin gs y hgs q _ e (hh d))).trans
      (infin_norm (fun k => y (ix2 q k) - groupMean (fun k => y (ix2 q k)) k) c fun d => infin_sub (infin_groupMean _ _ e (hh d))).symm
  · have hf : ∀ d e : Fin 64, ¬ Infin (y (ix2 q (feat (headOf (feat (headOf c) d)) e))) := fun d e he => hy ⟨e, by rwa [headOf_feat] at he⟩
    have hc : ∀ d : Fin 64, y (ix2 q (feat (headOf c) d)) - bodyGroupMean gs y (ix2 q (feat (headOf c) d))
        = y (ix2 q (feat (headOf c) d)) - groupMean (fun k => y (ix2 q k)) (feat (headOf c) d) := fun d =>
      congrArg (fun a : Ideal .f32 => y (ix2 q (feat (headOf c) d)) - a) (bodyGroupMean_apply gs y hgs q _ (hf d))
    refine congrArg₂ (fun a v : Ideal .f32 => a * FloatOps.hostUnary .rsqrt (Ideal.div v widthI + groupEpsI)) ?_
      (Finset.sum_congr rfl fun d _ => congrArg₂ (fun a b : Ideal .f32 => a * b) (hc d) (hc d))
    exact congrArg (fun a : Ideal .f32 => y (ix2 q c) - a) (bodyGroupMean_apply gs y hgs q c fun e he => hy ⟨e, he⟩)

/-- The group norm. -/
theorem pay8_apply (gs : FVec Ideal S512x512 .bf16) (y : FVec Ideal S512x512 .f32) (g b : FVec Ideal S1x512 .f32) (hgs : Heads gs) (q c : Fin 512) :
    k0_pay8 gs y g b (ix2 q c) = groupNorm (fun k => y (ix2 q k)) (g (ix2 0 c)) (b (ix2 0 c)) c := by
  have hv : mulf (matmul (φ₁ := .bf16) dot_S512x512_S512x512_S512x512_1_0_0_1_n_n none
        (mulf (subf y (bodyGroupMean gs y)) (subf y (bodyGroupMean gs y))) gs (constant S512x512 .f32 0x00000000#32))
      (broadcast S512x512 (Scalar.ofBits .f32 0x3C800000#32)) (ix2 q c)
      = groupMean (fun k => (y (ix2 q k) - bodyGroupMean gs y (ix2 q k)) * (y (ix2 q k) - bodyGroupMean gs y (ix2 q k))) c :=
    (congrArg (fun a : Ideal .f32 => a * perWidthI) (heads_apply (φ := .bf16) _ gs hgs q c)).trans (times_perWidth _)
  unfold k0_pay8 k0_pay7
  rw [shapeCast_self gs]
  refine congrArg₂ (fun a b : Ideal .f32 => a + b) (congrArg₂ (fun a b : Ideal .f32 => a * b) ?_ (row_apply g q c)) (row_apply b q c)
  exact (congrArg (fun v : Ideal .f32 => (y (ix2 q c) - bodyGroupMean gs y (ix2 q c)) * FloatOps.hostUnary .rsqrt (v + groupEpsI)) hv).trans
    (bodyGroupNorm_apply gs y hgs q c)

/-- The rows that the last step norms: the scaled residual and the two products. -/
abbrev bodyJoined (v gt : FVec Ideal S512x512 .f32) (gs : FVec Ideal S512x512 .bf16) (gn rk : FVec Ideal S512x512 .f32) (rK : FVec Ideal S1x512 .f32)
    (wr : FVec Ideal S512x1024 .bf16) (f : FVec Ideal S512x512 .bf16) (wf : FVec Ideal S512x1024 .bf16) (x : FVec Ideal S512x1024 .f32) :
    FVec Ideal S512x1024 .f32 :=
  addf (mulf (broadcast S512x1024 (Scalar.ofBits .f32 0x3FB504F3#32)) x)
    (addf (matmul (φ₁ := .bf16) dot_S512x512_S512x1024_S512x1024_1_0_0_1_n_n none (mulf (addf gn (mulf
        (matmul (φ₁ := .bf16) dot_S512x512_S512x512_S512x512_1_0_0_1_n_n none (mulf rk (broadcastTo S512x512 (shapeCast S1x512 rK shapeCasts_S1x512_S1x512)
          broadcasts_S1x512_S512x512)) gs (constant S512x512 .f32 0x00000000#32)) v)) gt) wr (constant S512x1024 .f32 0x00000000#32))
      (matmul dot_S512x512_S512x1024_S512x1024_1_0_0_1_n_n none f wf (constant S512x1024 .f32 0x00000000#32)))

theorem bodyJoined_apply (v gt : FVec Ideal S512x512 .f32) (gs : FVec Ideal S512x512 .bf16) (gn rk : FVec Ideal S512x512 .f32)
    (rK : FVec Ideal S1x512 .f32) (wr : FVec Ideal S512x1024 .bf16) (f : FVec Ideal S512x512 .bf16) (wf : FVec Ideal S512x1024 .bf16)
    (x : FVec Ideal S512x1024 .f32) (hgs : Heads gs) (q : Fin 512) (j : Fin 1024) :
    bodyJoined v gt gs gn rk rK wr f wf x (ix2 q j) = alphaI * x (ix2 q j)
      + (∑ c : Fin 512, (gn (ix2 q c) + (∑ e : Fin 64, rk (ix2 q (feat (headOf c) e)) * rK (ix2 0 (feat (headOf c) e))) * v (ix2 q c)) * gt (ix2 q c)
          * wr (ix2 c j) + ∑ c : Fin 512, f (ix2 q c) * wf (ix2 c j)) := by
  have hb : ∀ c : Fin 512, matmul (φ₁ := .bf16) dot_S512x512_S512x512_S512x512_1_0_0_1_n_n none
      (mulf rk (broadcastTo S512x512 (shapeCast S1x512 rK shapeCasts_S1x512_S1x512) broadcasts_S1x512_S512x512)) gs
        (constant S512x512 .f32 0x00000000#32) (ix2 q c)
      = ∑ e : Fin 64, rk (ix2 q (feat (headOf c) e)) * rK (ix2 0 (feat (headOf c) e)) := fun c =>
    (heads_apply (φ := .bf16) _ gs hgs q c).trans (Finset.sum_congr rfl fun e _ =>
      congrArg (fun a : Ideal .f32 => rk (ix2 q (feat (headOf c) e)) * a) (row_apply rK q _))
  refine congrArg₂ (fun a b : Ideal .f32 => alphaI * x (ix2 q j) + (a + b)) ?_ ?_
  · refine (product_apply (φ₁ := .bf16) (M := 512) (K := 512) (N := 1024) _ _ q j).trans (Finset.sum_congr rfl fun c _ => ?_)
    exact congrArg (fun a : Ideal .f32 => (gn (ix2 q c) + a * v (ix2 q c)) * gt (ix2 q c) * wr (ix2 c j)) (hb c)
  · exact product_apply (M := 512) (K := 512) (N := 1024) _ _ q j

/-- The last step. -/
theorem last_apply (lg lb : FVec Ideal S1x1024 .f32) (v gt : FVec Ideal S512x512 .f32) (gs : FVec Ideal S512x512 .bf16) (gn rk : FVec Ideal S512x512 .f32)
    (rK : FVec Ideal S1x512 .f32) (wr : FVec Ideal S512x1024 .bf16) (f : FVec Ideal S512x512 .bf16) (wf : FVec Ideal S512x1024 .bf16)
    (x : FVec Ideal S512x1024 .f32) (q : Fin 512) (j : Fin 1024) :
    k0_pay1 (k0_pay10 lg) (k0_pay11 lb) (k0_pay12 v gt gs gn rk rK wr f wf x) (k0_pay13 v gt gs gn rk rK wr f wf x) (Scalar.ofBits .f32 0x3727C5AC#32) (ix2 q j)
      = norm (fun k => bodyJoined v gt gs gn rk rK wr f wf x (ix2 q k)) (lg (ix2 0 j)) (lb (ix2 0 j)) j := by
  unfold k0_pay1 k0_pay13 k0_pay12 k0_pay10 k0_pay11
  rw [shapeCast_self lg, shapeCast_self lb, shapeCast_self wr, shapeCast_self f, shapeCast_self wf]
  exact bodyNorm_apply (M := 512) reduces_S512x1024_S512 shapeCasts_S512_S512x1 broadcasts_S512x1_S512x1024 broadcasts_S1x1024_S512x1024
    (bodyJoined v gt gs gn rk rK wr f wf x) lg lb q j

end Cert.Proof.Mix

end
-- ==== Proof.Mix.Words.lean ====
/- The mixing call's arrays prepared on the host: the projections side by side with padding, the padded low-rank
   matrices, and the indicator of the heads. -/
module

public import proofs.«01_k».proof.Proof.Mix.Rows
public import proofs.«01_k».proof.Proof.Gen.Kernel5Ideal.Value

@[expose] public section

set_option maxRecDepth 16384

noncomputable section

namespace Cert.Proof.Mix

open Cert.Kernel5Ideal Cert.Kernel5Ideal.Gen Cert.Kernel5Ideal.Value
open Idealize.ShloMosaic hiding ix1 ix2 ix3
open Idealize.ShloMosaic.TcCoe Idealize.SL.Sem Idealize.ShloMosaic.ValueIdx Cert.Proof.Rows

/-- The padding's zero. -/
abbrev padZero : FVec Ideal S_ .f32 := sitofp .f32 (constantI S_ 32 0#32)

theorem padZero_apply (i : S_.Idx) : padZero i = (0 : EReal) := by
  show ((((0#32 : BitVec 32).toInt : ℤ) : ℝ) : EReal) = 0
  simp

/-- A row's projections, the low-rank ones padded; and all of them side by side. -/
abbrev pieces (p : FVec Ideal S32768x1696 .f32) : List ((s : Shape) × (s.Idx → Ideal .f32)) :=
  [⟨S32768x1536, extractStridedSlice S32768x1536 ![0, 0] p slices_S32768x1696_S32768x1536_0_0⟩,
    ⟨S32768x128, pad S32768x128 ![0, 0] ![0, 96] ![0, 0] (extractStridedSlice S32768x32 ![0, 1536] p slices_S32768x1696_S32768x32_0_1536) padZero
      pads_S32768x32_S32768x128_000_0960 h_S_⟩,
    ⟨S32768x128, pad S32768x128 ![0, 0] ![0, 96] ![0, 0] (extractStridedSlice S32768x32 ![0, 1568] p slices_S32768x1696_S32768x32_0_1568) padZero
      pads_S32768x32_S32768x128_000_0960 h_S_⟩,
    ⟨S32768x128, pad S32768x128 ![0, 0] ![0, 32] ![0, 0] (extractStridedSlice S32768x96 ![0, 1600] p slices_S32768x1696_S32768x96_0_1600) padZero
      pads_S32768x96_S32768x128_000_0320 h_S_⟩]
abbrev sideBySide (p : FVec Ideal S32768x1696 .f32) : FVec Ideal S32768x1920 .f32 :=
  concatenate S32768x1920 1 (pieces p) concatenates_S32768x1536_S32768x128_S32768x128_S32768x128_S32768x1920_d1

/-- The first 1536 columns are the projections'. -/
theorem side_main (p : FVec Ideal S32768x1696 .f32) (r : Fin 32768) (j : Fin 1536) :
    sideBySide p (ix2 r ⟨j.val, by omega⟩) = p (ix2 r ⟨j.val, by omega⟩) := by
  refine (concatenate_apply_piece (t := S32768x1920) (1 : Fin 2) (pieces p) _ _ 0 (show 0 < 4 by decide) S32768x1536 _ rfl rfl 0 rfl (ix2 r j) (fun b hb => ?_) ?_).trans
    (slice2_axis1_apply 0 p _ r j ⟨j.val, by omega⟩ (Nat.zero_add _).symm)
  · match b, hb with
    | ⟨0, _⟩, _ => rfl
    | ⟨1, _⟩, hb => exact absurd rfl hb
  · exact Nat.zero_add _

/-- The rate's columns. -/
theorem side_rate (p : FVec Ideal S32768x1696 .f32) (r : Fin 32768) (e : Fin 32) :
    sideBySide p (ix2 r ⟨1664 + e.val, by omega⟩) = p (ix2 r ⟨1568 + e.val, by omega⟩) := by
  refine (concatenate_apply_piece (t := S32768x1920) (1 : Fin 2) (pieces p) _ _ 2 (show 2 < 4 by decide) S32768x128 _ rfl rfl 1664 rfl (ix2 r (⟨e.val, by omega⟩ : Fin 128)) (fun b hb => ?_) ?_).trans
    ((pad_apply_of_inside _ _ _ _ _ _ _ _ (ix2 r e) (fun a => ?_)).trans (slice2_axis1_apply 1568 p _ r e ⟨1568 + e.val, by omega⟩ rfl))
  · match b, hb with
    | ⟨0, _⟩, _ => rfl
    | ⟨1, _⟩, hb => exact absurd rfl hb
  · rfl
  · match a with
    | ⟨0, _⟩ => show r.val = 0 + r.val * (0 + 1); omega
    | ⟨1, _⟩ => show e.val = 0 + e.val * (0 + 1); omega

/-- The gate's columns. -/
theorem side_gate (p : FVec Ideal S32768x1696 .f32) (r : Fin 32768) (e : Fin 96) :
    sideBySide p (ix2 r ⟨1792 + e.val, by omega⟩) = p (ix2 r ⟨1600 + e.val, by omega⟩) := by
  refine (concatenate_apply_piece (t := S32768x1920) (1 : Fin 2) (pieces p) _ _ 3 (show 3 < 4 by decide) S32768x128 _ rfl rfl 1792 rfl (ix2 r (⟨e.val, by omega⟩ : Fin 128)) (fun b hb => ?_) ?_).trans
    ((pad_apply_of_inside _ _ _ _ _ _ _ _ (ix2 r e) (fun a => ?_)).trans (slice2_axis1_apply 1600 p _ r e ⟨1600 + e.val, by omega⟩ rfl))
  · match b, hb with
    | ⟨0, _⟩, _ => rfl
    | ⟨1, _⟩, hb => exact absurd rfl hb
  · rfl
  · match a with
    | ⟨0, _⟩ => show r.val = 0 + r.val * (0 + 1); omega
    | ⟨1, _⟩ => show e.val = 0 + e.val * (0 + 1); omega

/-- The rate's matrix with rows of zeros below, and the gate's. -/
abbrev rateUp (a : FVec Ideal S1x32x512 .f32) : FVec Ideal S128x512 .f32 :=
  pad S128x512 ![0, 0] ![96, 0] ![0, 0] (shapeCast S32x512 a shapeCasts_S1x32x512_S32x512) padZero pads_S32x512_S128x512_0960_000 h_S_
abbrev gateUp (a : FVec Ideal S1x96x512 .f32) : FVec Ideal S128x512 .f32 :=
  pad S128x512 ![0, 0] ![32, 0] ![0, 0] (shapeCast S96x512 a shapeCasts_S1x96x512_S96x512) padZero pads_S96x512_S128x512_0320_000 h_S_

theorem rateUp_apply (a : FVec Ideal S1x32x512 .f32) (e : Fin 32) (c : Fin 512) : rateUp a (ix2 ⟨e.val, by omega⟩ c) = a (ix3 0 e c) := by
  refine (pad_apply_of_inside _ _ _ _ _ _ _ _ (ix2 e c) (fun b => ?_)).trans (shapeCast_1ab_ab_apply a _ e c)
  match b with
  | ⟨0, _⟩ => show e.val = 0 + e.val * (0 + 1); omega
  | ⟨1, _⟩ => show c.val = 0 + c.val * (0 + 1); omega
theorem rateUp_zero (a : FVec Ideal S1x32x512 .f32) (e : Fin 128) (c : Fin 512) (he : 32 ≤ e.val) : rateUp a (ix2 e c) = (0 : EReal) := by
  refine (pad_apply_of_not_inside _ _ _ _ _ _ _ _ (0 : Fin 2) fun h => ?_).trans (padZero_apply _)
  have : (e.val - 0) / (0 + 1) < 32 := h.2.2
  omega
theorem gateUp_apply (a : FVec Ideal S1x96x512 .f32) (e : Fin 96) (c : Fin 512) : gateUp a (ix2 ⟨e.val, by omega⟩ c) = a (ix3 0 e c) := by
  refine (pad_apply_of_inside _ _ _ _ _ _ _ _ (ix2 e c) (fun b => ?_)).trans (shapeCast_1ab_ab_apply a _ e c)
  match b with
  | ⟨0, _⟩ => show e.val = 0 + e.val * (0 + 1); omega
  | ⟨1, _⟩ => show c.val = 0 + c.val * (0 + 1); omega
theorem gateUp_zero (a : FVec Ideal S1x96x512 .f32) (e : Fin 128) (c : Fin 512) (he : 96 ≤ e.val) : gateUp a (ix2 e c) = (0 : EReal) := by
  refine (pad_apply_of_not_inside _ _ _ _ _ _ _ _ (0 : Fin 2) fun h => ?_).trans (padZero_apply _)
  have : (e.val - 0) / (0 + 1) < 96 := h.2.2
  omega

/-- A parameter of eight heads by sixty-four lanes as one row of features. -/
theorem heads_row (a : FVec Ideal S1x8x64 .f32) (c : Fin 512) :
    shapeCast S1x512 (shapeCast S8x64 a shapeCasts_S1x8x64_S8x64) shapeCasts_S8x64_S1x512 (ix2 0 c) = a (ix3 0 (headOf c) (laneOf c)) := by
  refine (shapeCast_apply _ _ _ (ix2 (headOf c) (laneOf c)) ?_).trans (shapeCast_1ab_ab_apply a _ _ _)
  rw [Shape.rowMajor_val_two, Shape.rowMajor_val_two]
  show c.val / 64 * 64 + c.val % 64 = 0 * 512 + c.val
  omega

/-! ## The indicator of the heads -/

/-- A feature's number, and sixty-four, at every entry. -/
abbrev rowNumber : IVec S512x512 32 := iotaInDim S512x512 32 0
abbrev sixtyFour : IVec S_ 32 := constantI S_ 32 64#32
abbrev spread (v : IVec S_ 32) : IVec S512x512 32 := broadcastInDim S512x512 ![] bcast_S_S512x512 v
/-- A feature's head, as the host divides. -/
abbrev headWords : IVec S512x512 32 :=
  select (andi (cmpi .ne (signi rowNumber) (spread (signi sixtyFour))) (cmpi .ne (Host.remsi rowNumber (spread sixtyFour)) (spread (constantI S_ 32 0#32))))
    (subi (Host.divsi rowNumber (spread sixtyFour)) (spread (constantI S_ 32 1#32))) (Host.divsi rowNumber (spread sixtyFour))
/-- The indicator. -/
abbrev sameHead : FVec Ideal S512x512 .bf16 := uitofp .bf16 (cmpi .eq headWords (transpose S512x512 [1, 0] headWords transposes_S512x512_S512x512_1_0))

/-- The sign of a word. -/
abbrev signWord (w : BitVec 32) : BitVec 32 := if w = 0 then 0 else if w.msb then -1 else 1

theorem headWords_apply (j c : Fin 512) : headWords (ix2 j c) = BitVec.ofNat 32 (j.val / 64) := by
  have h : ∀ j : Fin 512, Scalar.select (IntOp.andi (IntOp.cmpi .ne (signWord (BitVec.ofNat 32 j.val)) (signWord 64#32))
      (IntOp.cmpi .ne (IntOp.remsi .host (BitVec.ofNat 32 j.val) 64#32) 0#32)) (IntOp.subi (IntOp.divsi .host (BitVec.ofNat 32 j.val) 64#32) 1#32)
      (IntOp.divsi .host (BitVec.ofNat 32 j.val) 64#32) = BitVec.ofNat 32 (j.val / 64) := by decide +kernel
  exact h j

theorem sameHead_apply (j c : Fin 512) : sameHead (ix2 j c) = (if j.val / 64 = c.val / 64 then 1 else 0 : EReal) := by
  have h : ∀ a b : Fin 8, (IntOp.cmpi .eq (BitVec.ofNat 32 a.val) (BitVec.ofNat 32 b.val)).toNat = if a.val = b.val then 1 else 0 := by decide
  have ht : transpose S512x512 [1, 0] headWords transposes_S512x512_S512x512_1_0 (ix2 j c) = BitVec.ofNat 32 (c.val / 64) :=
    (transpose_apply _ _ _ _ (ix2 c j) fun a => by fin_cases a <;> rfl).trans (headWords_apply c j)
  show (((IntOp.cmpi .eq (headWords (ix2 j c)) (transpose S512x512 [1, 0] headWords transposes_S512x512_S512x512_1_0 (ix2 j c))).toNat : ℝ) : EReal) = _
  rw [ht, headWords_apply, h (headOf j) (headOf c)]
  show (((if j.val / 64 = c.val / 64 then 1 else 0 : ℕ) : ℝ) : EReal) = _
  split <;> simp

end Cert.Proof.Mix

end
-- ==== Proof.Mix.Value.lean ====
/- What the mixing call computes at the ideal reading: the mixing step of every row. -/
module

public import proofs.«01_k».proof.Proof.Mix.Body
public import proofs.«01_k».proof.Proof.Mix.Words

@[expose] public section

set_option maxRecDepth 16384

noncomputable section

namespace Cert.Proof.Mix

open Cert.Kernel5Ideal Cert.Kernel5Ideal.Gen Cert.Kernel5Ideal.Value
open Idealize.ShloMosaic hiding ix1 ix2 ix3
open Idealize.ShloMosaic.TcCoe Idealize.SL.Sem Idealize.ShloMosaic.ValueIdx Cert.Proof.Rows

/-! ## The body over its blocks -/

/-- Runs of columns of the projections' block. -/
theorem cols_r (b : FVec Ideal S512x1920 .f32) (q c : Fin 512) : View.ld (Val := Elt Ideal) (e' := .f32) b r0_0 (ix2 q c) = b (ix2 q ⟨c.val, by omega⟩) := by
  rw [View.ld_unit]
  exact slice2_axis1_apply 0 b _ q c ⟨c.val, by omega⟩ (Nat.zero_add _).symm
theorem cols_k (b : FVec Ideal S512x1920 .f32) (q c : Fin 512) : View.ld (Val := Elt Ideal) (e' := .f32) b r0_1 (ix2 q c) = b (ix2 q ⟨512 + c.val, by omega⟩) := by
  rw [View.ld_unit]
  exact slice2_axis1_apply 512 b _ q c ⟨512 + c.val, by omega⟩ rfl
theorem cols_v (b : FVec Ideal S512x1920 .f32) (q c : Fin 512) : View.ld (Val := Elt Ideal) (e' := .f32) b r0_2 (ix2 q c) = b (ix2 q ⟨1024 + c.val, by omega⟩) := by
  rw [View.ld_unit]
  exact slice2_axis1_apply 1024 b _ q c ⟨1024 + c.val, by omega⟩ rfl
theorem cols_ad (b : FVec Ideal S512x1920 .f32) (q : Fin 512) (e : Fin 128) :
    View.ld (Val := Elt Ideal) (e' := .f32) b r0_3 (ix2 q e) = b (ix2 q ⟨1664 + e.val, by omega⟩) := by
  rw [View.ld_unit]
  exact slice2_axis1_apply 1664 b _ q e ⟨1664 + e.val, by omega⟩ rfl
theorem cols_gd (b : FVec Ideal S512x1920 .f32) (q : Fin 512) (e : Fin 128) :
    View.ld (Val := Elt Ideal) (e' := .f32) b r0_4 (ix2 q e) = b (ix2 q ⟨1792 + e.val, by omega⟩) := by
  rw [View.ld_unit]
  exact slice2_axis1_apply 1792 b _ q e ⟨1792 + e.val, by omega⟩ rfl

/-- A tile's row, and the parameters, as the blocks hold them. -/
def blockRow (x0 : FVec Ideal S512x1024 .f32) (x1 : FVec Ideal S512x1920 .f32) (x2 : FVec Ideal S512x512 .f32) (x3 : FVec Ideal S512x512 .bf16)
    (q : Fin 512) : Row where
  x j := x0 (ix2 q j)
  r c := x1 (ix2 q ⟨c.val, by omega⟩)
  k c := x1 (ix2 q ⟨512 + c.val, by omega⟩)
  v c := x1 (ix2 q ⟨1024 + c.val, by omega⟩)
  ad e := x1 (ix2 q ⟨1664 + e.val, by omega⟩)
  gd e := x1 (ix2 q ⟨1792 + e.val, by omega⟩)
  y c := x2 (ix2 q c)
  f c := x3 (ix2 q c)
def blockParams (x4 : FVec Ideal S1x512 .f32) (x5 x6 : FVec Ideal S128x512 .bf16) (x7 x8 x9 x10 : FVec Ideal S1x512 .f32)
    (x12 x13 : FVec Ideal S512x1024 .bf16) (x14 x15 : FVec Ideal S1x1024 .f32) : Params where
  a0 c := x4 (ix2 0 c)
  aUp e c := x5 (ix2 ⟨e.val, by omega⟩ c)
  gUp e c := x6 (ix2 ⟨e.val, by omega⟩ c)
  kA c := x7 (ix2 0 c)
  rK c := x8 (ix2 0 c)
  gnG c := x9 (ix2 0 c)
  gnB c := x10 (ix2 0 c)
  wR c j := x12 (ix2 c j)
  wF c j := x13 (ix2 c j)
  lnG j := x14 (ix2 0 j)
  lnB j := x15 (ix2 0 j)

/-- The block that the body leaves. -/
theorem out_block (x0 : FVec Ideal S512x1024 .f32) (x1 : FVec Ideal S512x1920 .f32) (x2 : FVec Ideal S512x512 .f32) (x3 : FVec Ideal S512x512 .bf16)
    (x4 : FVec Ideal S1x512 .f32) (x5 x6 : FVec Ideal S128x512 .bf16) (x7 x8 x9 x10 : FVec Ideal S1x512 .f32) (x11 : FVec Ideal S512x512 .bf16)
    (x12 x13 : FVec Ideal S512x1024 .bf16) (x14 x15 : FVec Ideal S1x1024 .f32) (q : Fin 512) (j : Fin 1024) (hgs : Heads x11)
    (ha : ∀ (e : Fin 128) (c : Fin 512), 32 ≤ e.val → x5 (ix2 e c) = (0 : EReal))
    (hg : ∀ (e : Fin 128) (c : Fin 512), 96 ≤ e.val → x6 (ix2 e c) = (0 : EReal)) :
    out0_16 (F := Ideal) x0 x1 x2 x3 x4 x5 x6 x7 x8 x9 x10 x11 x12 x13 x14 x15 (ix2 q j)
      = result (blockRow x0 x1 x2 x3 q) (blockParams x4 x5 x6 x7 x8 x9 x10 x12 x13 x14 x15) j := by
  have hk : ∀ c : Fin 512, k0_pay4 (View.ld (Val := Elt Ideal) (e' := .f32) x1 r0_1) (View.ld (Val := Elt Ideal) (e' := .f32) x1 r0_3) x4 x5 x7 (ix2 q c)
      = key (blockRow x0 x1 x2 x3 q) (blockParams x4 x5 x6 x7 x8 x9 x10 x12 x13 x14 x15) c := fun c => by
    refine (pay4_apply _ _ _ _ _ ha q c).trans ?_
    refine congrArg₂ (fun a s : Ideal .f32 => a * (oneI + (sigmoid (x4 (ix2 0 c) + s) - oneI) * x7 (ix2 0 c))) (cols_k x1 q c) ?_
    exact Finset.sum_congr rfl fun e _ => congrArg (fun a : Ideal .f32 => a * _) (cols_ad x1 q _)
  have hg' : ∀ c : Fin 512, k0_pay6 (k0_pay5 (View.ld (Val := Elt Ideal) (e' := .f32) x1 r0_4)) x6 (ix2 q c)
      = gate (blockRow x0 x1 x2 x3 q) (blockParams x4 x5 x6 x7 x8 x9 x10 x12 x13 x14 x15) c := fun c =>
    (pay6_apply _ _ hg q c).trans (Finset.sum_congr rfl fun e _ => congrArg (fun a : Ideal .f32 => sigmoid a * _) (cols_gd x1 q _))
  have hr : ∀ c : Fin 512, k0_pay9 (k0_pay2 (View.ld (Val := Elt Ideal) (e' := .f32) x1 r0_0))
      (k0_pay4 (View.ld (Val := Elt Ideal) (e' := .f32) x1 r0_1) (View.ld (Val := Elt Ideal) (e' := .f32) x1 r0_3) x4 x5 x7) (ix2 q c)
      = (blockRow x0 x1 x2 x3 q).r c * key (blockRow x0 x1 x2 x3 q) (blockParams x4 x5 x6 x7 x8 x9 x10 x12 x13 x14 x15) c := fun c => by
    unfold k0_pay9 k0_pay2
    rw [shapeCast_self]
    exact congrArg₂ (fun a b : Ideal .f32 => a * b) (cols_r x1 q c) (hk c)
  have hv : ∀ c : Fin 512, k0_pay3 (View.ld (Val := Elt Ideal) (e' := .f32) x1 r0_2) (ix2 q c) = (blockRow x0 x1 x2 x3 q).v c := fun c => by
    unfold k0_pay3
    rw [shapeCast_self]
    exact cols_v x1 q c
  have hs : k0_pay7 x11 = x11 := by
    unfold k0_pay7
    exact shapeCast_self x11 _
  unfold out0_16
  rw [View.canon_unit_zero zeros]
  unfold k0_pay14 k0_pay15 k0_pay16 k0_pay17 k0_pay18
  repeat rw [View.ld_unit_zero zeros]
  rw [hs]
  refine (last_apply _ _ _ _ _ _ _ _ _ _ _ _ q j).trans ?_
  unfold result
  refine congrArg (fun y => norm y (x14 (ix2 0 j)) (x15 (ix2 0 j)) j) (funext fun k => ?_)
  refine (bodyJoined_apply _ _ _ _ _ _ _ _ _ _ hgs q k).trans ?_
  unfold joined
  refine congrArg (fun s : Ideal .f32 => alphaI * x0 (ix2 q k) + (s + ∑ c : Fin 512, x3 (ix2 q c) * x13 (ix2 c k))) (Finset.sum_congr rfl fun c _ => ?_)
  refine congrArg (fun s : Ideal .f32 => s * x12 (ix2 c k)) ?_
  refine congr (congrArg (fun a b : Ideal .f32 => a * b) ?_) (hg' c)
  refine congr (congrArg (fun a b : Ideal .f32 => a + b) (pay8_apply _ _ _ _ hgs q c)) ?_
  refine congr (congrArg (fun a b : Ideal .f32 => a * b) (Finset.sum_congr rfl fun e _ => ?_)) (hv c)
  exact congrArg (fun a : Ideal .f32 => a * _) (hr _)

/-! ## The blocks -/

variable (m : (ℓ : Loc nD τ sig) → Buf (Elt Ideal) ℓ)

/-- The arguments as launched. -/
abbrev xIn (c : Dev nD) : FVec Ideal S32768x1024 .f32 := m ((c : Thread nD τ).loc main_arg0)
abbrev pIn (c : Dev nD) : FVec Ideal S32768x1696 .f32 := m ((c : Thread nD τ).loc main_arg1)
abbrev yIn (c : Dev nD) : FVec Ideal S32768x512 .f32 := m ((c : Thread nD τ).loc main_arg2)
abbrev fIn (c : Dev nD) : FVec Ideal S32768x512 .f32 := m ((c : Thread nD τ).loc main_arg3)
abbrev a0In (c : Dev nD) : FVec Ideal S1x512 .f32 := m ((c : Thread nD τ).loc main_arg4)
abbrev aUpIn (c : Dev nD) : FVec Ideal S1x32x512 .f32 := m ((c : Thread nD τ).loc main_arg5)
abbrev gUpIn (c : Dev nD) : FVec Ideal S1x96x512 .f32 := m ((c : Thread nD τ).loc main_arg6)
abbrev kAIn (c : Dev nD) : FVec Ideal S1x8x64 .f32 := m ((c : Thread nD τ).loc main_arg7)
abbrev rKIn (c : Dev nD) : FVec Ideal S1x8x64 .f32 := m ((c : Thread nD τ).loc main_arg8)
abbrev gnGIn (c : Dev nD) : FVec Ideal S1x8x64 .f32 := m ((c : Thread nD τ).loc main_arg9)
abbrev gnBIn (c : Dev nD) : FVec Ideal S1x8x64 .f32 := m ((c : Thread nD τ).loc main_arg10)
abbrev wIn (c : Dev nD) : FVec Ideal S1x1024x1024 .f32 := m ((c : Thread nD τ).loc main_arg11)
abbrev lnGIn (c : Dev nD) : FVec Ideal S1x1024 .f32 := m ((c : Thread nD τ).loc main_arg12)
abbrev lnBIn (c : Dev nD) : FVec Ideal S1x1024 .f32 := m ((c : Thread nD τ).loc main_arg13)

/-- A parameter of heads by lanes, as one row. -/
abbrev flatRow (a : FVec Ideal S1x8x64 .f32) : FVec Ideal S1x512 .f32 := shapeCast S1x512 (shapeCast S8x64 a shapeCasts_S1x8x64_S8x64) shapeCasts_S8x64_S1x512
/-- A row of features as the host hands it over, and the output projection as a matrix. -/
abbrev sameRow (a : FVec Ideal S1x512 .f32) : FVec Ideal S1x512 .f32 := shapeCast S1x512 (shapeCast S512 a shapeCasts_S1x512_S512) shapeCasts_S512_S1x512
abbrev sameLong (a : FVec Ideal S1x1024 .f32) : FVec Ideal S1x1024 .f32 := shapeCast S1x1024 (shapeCast S1024 a shapeCasts_S1x1024_S1024) shapeCasts_S1024_S1x1024
abbrev asMatrix (w : FVec Ideal S1x1024x1024 .f32) : FVec Ideal S1024x1024 .f32 := shapeCast S1024x1024 w shapeCasts_S1x1024x1024_S1024x1024

theorem entry1 (c : Dev nD) : V m c main_v7 = sideBySide (pIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry3 (c : Dev nD) : V m c main_v16 = (fIn m c : FVec Ideal S32768x512 .bf16) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry4 (c : Dev nD) : V m c main_v18 = sameRow (a0In m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry5 (c : Dev nD) : V m c main_v10 = (rateUp (aUpIn m c) : FVec Ideal S128x512 .bf16) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry6 (c : Dev nD) : V m c main_v13 = (gateUp (gUpIn m c) : FVec Ideal S128x512 .bf16) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry7 (c : Dev nD) : V m c main_v20 = flatRow (kAIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry8 (c : Dev nD) : V m c main_v22 = flatRow (rKIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry9 (c : Dev nD) : V m c main_v24 = flatRow (gnGIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry10 (c : Dev nD) : V m c main_v26 = flatRow (gnBIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry11 (c : Dev nD) : V m c main_v37 = sameHead := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry12 (c : Dev nD) : V m c main_v27 = (extractStridedSlice S512x1024 ![0, 0] (asMatrix (wIn m c)) slices_S1024x1024_S512x1024_0_0 : FVec Ideal S512x1024 .bf16) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry13 (c : Dev nD) : V m c main_v28 = (extractStridedSlice S512x1024 ![512, 0] (asMatrix (wIn m c)) slices_S1024x1024_S512x1024_512_0 : FVec Ideal S512x1024 .bf16) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry14 (c : Dev nD) : V m c main_v30 = sameLong (lnGIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl
theorem entry15 (c : Dev nD) : V m c main_v32 = sameLong (lnBIn m c) := by
  simp only [V, hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results <;> rfl

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index11 : ∀ t : Fin cfg0.N, win0_11.index t (0 : Fin 2) = 0 ∧ win0_11.index t (1 : Fin 2) = 0 := (by decide +kernel : ∀ t : Fin grid0.N, _)
theorem index12 : ∀ t : Fin cfg0.N, win0_12.index t (0 : Fin 2) = 0 ∧ win0_12.index t (1 : Fin 2) = 0 := (by decide +kernel : ∀ t : Fin grid0.N, _)
theorem index13 : ∀ t : Fin cfg0.N, win0_13.index t (0 : Fin 2) = 0 ∧ win0_13.index t (1 : Fin 2) = 0 := (by decide +kernel : ∀ t : Fin grid0.N, _)
theorem index14 : ∀ t : Fin cfg0.N, win0_14.index t (0 : Fin 2) = 0 ∧ win0_14.index t (1 : Fin 2) = 0 := (by decide +kernel : ∀ t : Fin grid0.N, _)
theorem index15 : ∀ t : Fin cfg0.N, win0_15.index t (0 : Fin 2) = 0 ∧ win0_15.index t (1 : Fin 2) = 0 := (by decide +kernel : ∀ t : Fin grid0.N, _)
theorem index16 : ∀ t : Fin cfg0.N, win0_16.index t (0 : Fin 2) = t.val ∧ win0_16.index t (1 : Fin 2) = 0 := (by decide +kernel : ∀ t : Fin grid0.N, _)
theorem points : cfg0.N = 64 := (by decide +kernel : grid0.N = 64)

/-- Row `q` of tile `t`. -/
abbrev rowOf (t : Fin cfg0.N) (q : Fin 512) : Fin 32768 := ⟨512 * t.val + q.val, by have := t.isLt; have := points; omega⟩

theorem block0 (c : Dev nD) (t : Fin cfg0.N) (q : Fin 512) (k : Fin 1024) : iblk m c 0 t (ix2 q k) = xIn m c (ix2 (rowOf t q) k) := by
  show V m c main_arg0 (((cfg0.win 0).blk t).view.emb (ix2 q k)) = _
  rw [V_main_arg0]
  obtain ⟨e0, e1⟩ := index0 t
  refine congrArg _ (funext fun (a : Fin 2) => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega

theorem block1 (c : Dev nD) (t : Fin cfg0.N) (q : Fin 512) (k : Fin 1920) : iblk m c 1 t (ix2 q k) = sideBySide (pIn m c) (ix2 (rowOf t q) k) := by
  show V m c main_v7 (((cfg0.win 1).blk t).view.emb (ix2 q k)) = _
  rw [entry1]
  obtain ⟨e0, e1⟩ := index1 t
  refine congrArg _ (funext fun (a : Fin 2) => Fin.ext ?_)
  match a with
  | ⟨0, _⟩ => show win0_1.index t (0 : Fin 2) * 512 + 1 * q.val = 512 * t.val + q.val; omega
  | ⟨1, _⟩ => show win0_1.index t (1 : Fin 2) * 1920 + 1 * k.val = k.val; omega

theorem block2 (c : Dev nD) (t : Fin cfg0.N) (q : Fin 512) (k : Fin 512) : iblk m c 2 t (ix2 q k) = yIn m c (ix2 (rowOf t q) k) := by
  show V m c main_arg2 (((cfg0.win 2).blk t).view.emb (ix2 q k)) = _
  rw [V_main_arg2]
  obtain ⟨e0, e1⟩ := index2 t
  refine congrArg _ (funext fun (a : Fin 2) => Fin.ext ?_)
  match a with
  | ⟨0, _⟩ => show win0_2.index t (0 : Fin 2) * 512 + 1 * q.val = 512 * t.val + q.val; omega
  | ⟨1, _⟩ => show win0_2.index t (1 : Fin 2) * 512 + 1 * k.val = k.val; omega

theorem block3 (c : Dev nD) (t : Fin cfg0.N) (q : Fin 512) (k : Fin 512) : iblk m c 3 t (ix2 q k) = fIn m c (ix2 (rowOf t q) k) := by
  show V m c main_v16 (((cfg0.win 3).blk t).view.emb (ix2 q k)) = _
  rw [entry3]
  obtain ⟨e0, e1⟩ := index3 t
  refine congrArg _ (funext fun (a : Fin 2) => Fin.ext ?_)
  match a with
  | ⟨0, _⟩ => show win0_3.index t (0 : Fin 2) * 512 + 1 * q.val = 512 * t.val + q.val; omega
  | ⟨1, _⟩ => show win0_3.index t (1 : Fin 2) * 512 + 1 * k.val = k.val; omega

theorem block4 (c : Dev nD) (t : Fin cfg0.N) (k : Fin 512) : iblk m c 4 t (ix2 0 k) = a0In m c (ix2 0 k) := by
  show V m c main_v18 (((cfg0.win 4).blk t).view.emb (ix2 0 k)) = _
  have h : ((cfg0.win 4).blk t).view.emb (ix2 0 k) = ix2 0 k := by
    obtain ⟨e0, e1⟩ := index4 t
    refine funext fun (a : Fin 2) => Fin.ext ?_
    match a with
    | ⟨0, _⟩ => show win0_4.index t (0 : Fin 2) * 1 + 1 * 0 = 0; omega
    | ⟨1, _⟩ => show win0_4.index t (1 : Fin 2) * 512 + 1 * k.val = k.val; omega
  rw [h, entry4]
  exact (shapeCast_a_1a_apply _ _ 0 k).trans (shapeCast_1a_a_apply (a0In m c) _ k)

theorem block5 (c : Dev nD) (t : Fin cfg0.N) (e : Fin 128) (k : Fin 512) : iblk m c 5 t (ix2 e k) = rateUp (aUpIn m c) (ix2 e k) := by
  show V m c main_v10 (((cfg0.win 5).blk t).view.emb (ix2 e k)) = _
  have h : ((cfg0.win 5).blk t).view.emb (ix2 e k) = ix2 e k := by
    obtain ⟨e0, e1⟩ := index5 t
    refine funext fun (a : Fin 2) => Fin.ext ?_
    match a with
    | ⟨0, _⟩ => show win0_5.index t (0 : Fin 2) * 128 + 1 * e.val = e.val; omega
    | ⟨1, _⟩ => show win0_5.index t (1 : Fin 2) * 512 + 1 * k.val = k.val; omega
  rw [h, entry5]

theorem block6 (c : Dev nD) (t : Fin cfg0.N) (e : Fin 128) (k : Fin 512) : iblk m c 6 t (ix2 e k) = gateUp (gUpIn m c) (ix2 e k) := by
  show V m c main_v13 (((cfg0.win 6).blk t).view.emb (ix2 e k)) = _
  have h : ((cfg0.win 6).blk t).view.emb (ix2 e k) = ix2 e k := by
    obtain ⟨e0, e1⟩ := index6 t
    refine funext fun (a : Fin 2) => Fin.ext ?_
    match a with
    | ⟨0, _⟩ => show win0_6.index t (0 : Fin 2) * 128 + 1 * e.val = e.val; omega
    | ⟨1, _⟩ => show win0_6.index t (1 : Fin 2) * 512 + 1 * k.val = k.val; omega
  rw [h, entry6]

theorem block7 (c : Dev nD) (t : Fin cfg0.N) (k : Fin 512) : iblk m c 7 t (ix2 0 k) = kAIn m c (ix3 0 (headOf k) (laneOf k)) := by
  show V m c main_v20 (((cfg0.win 7).blk t).view.emb (ix2 0 k)) = _
  have h : ((cfg0.win 7).blk t).view.emb (ix2 0 k) = ix2 0 k := by
    obtain ⟨e0, e1⟩ := index7 t
    refine funext fun (a : Fin 2) => Fin.ext ?_
    match a with
    | ⟨0, _⟩ => show win0_7.index t (0 : Fin 2) * 1 + 1 * 0 = 0; omega
    | ⟨1, _⟩ => show win0_7.index t (1 : Fin 2) * 512 + 1 * k.val = k.val; omega
  rw [h, entry7]
  exact heads_row (kAIn m c) k

theorem block8 (c : Dev nD) (t : Fin cfg0.N) (k : Fin 512) : iblk m c 8 t (ix2 0 k) = rKIn m c (ix3 0 (headOf k) (laneOf k)) := by
  show V m c main_v22 (((cfg0.win 8).blk t).view.emb (ix2 0 k)) = _
  have h : ((cfg0.win 8).blk t).view.emb (ix2 0 k) = ix2 0 k := by
    obtain ⟨e0, e1⟩ := index8 t
    refine funext fun (a : Fin 2) => Fin.ext ?_
    match a with
    | ⟨0, _⟩ => show win0_8.index t (0 : Fin 2) * 1 + 1 * 0 = 0; omega
    | ⟨1, _⟩ => show win0_8.index t (1 : Fin 2) * 512 + 1 * k.val = k.val; omega
  rw [h, entry8]
  exact heads_row (rKIn m c) k

theorem block9 (c : Dev nD) (t : Fin cfg0.N) (k : Fin 512) : iblk m c 9 t (ix2 0 k) = gnGIn m c (ix3 0 (headOf k) (laneOf k)) := by
  show V m c main_v24 (((cfg0.win 9).blk t).view.emb (ix2 0 k)) = _
  have h : ((cfg0.win 9).blk t).view.emb (ix2 0 k) = ix2 0 k := by
    obtain ⟨e0, e1⟩ := index9 t
    refine funext fun (a : Fin 2) => Fin.ext ?_
    match a with
    | ⟨0, _⟩ => show win0_9.index t (0 : Fin 2) * 1 + 1 * 0 = 0; omega
    | ⟨1, _⟩ => show win0_9.index t (1 : Fin 2) * 512 + 1 * k.val = k.val; omega
  rw [h, entry9]
  exact heads_row (gnGIn m c) k

theorem block10 (c : Dev nD) (t : Fin cfg0.N) (k : Fin 512) : iblk m c 10 t (ix2 0 k) = gnBIn m c (ix3 0 (headOf k) (laneOf k)) := by
  show V m c main_v26 (((cfg0.win 10).blk t).view.emb (ix2 0 k)) = _
  have h : ((cfg0.win 10).blk t).view.emb (ix2 0 k) = ix2 0 k := by
    obtain ⟨e0, e1⟩ := index10 t
    refine funext fun (a : Fin 2) => Fin.ext ?_
    match a with
    | ⟨0, _⟩ => show win0_10.index t (0 : Fin 2) * 1 + 1 * 0 = 0; omega
    | ⟨1, _⟩ => show win0_10.index t (1 : Fin 2) * 512 + 1 * k.val = k.val; omega
  rw [h, entry10]
  exact heads_row (gnBIn m c) k

theorem block11 (c : Dev nD) (t : Fin cfg0.N) (e : Fin 512) (k : Fin 512) : iblk m c 11 t (ix2 e k) = (if e.val / 64 = k.val / 64 then 1 else 0 : EReal) := by
  show V m c main_v37 (((cfg0.win 11).blk t).view.emb (ix2 e k)) = _
  have h : ((cfg0.win 11).blk t).view.emb (ix2 e k) = ix2 e k := by
    obtain ⟨e0, e1⟩ := index11 t
    refine funext fun (a : Fin 2) => Fin.ext ?_
    match a with
    | ⟨0, _⟩ => show win0_11.index t (0 : Fin 2) * 512 + 1 * e.val = e.val; omega
    | ⟨1, _⟩ => show win0_11.index t (1 : Fin 2) * 512 + 1 * k.val = k.val; omega
  rw [h, entry11]
  exact sameHead_apply e k

theorem block12 (c : Dev nD) (t : Fin cfg0.N) (e : Fin 512) (k : Fin 1024) : iblk m c 12 t (ix2 e k) = wIn m c (ix3 0 ⟨e.val, by omega⟩ k) := by
  show V m c main_v27 (((cfg0.win 12).blk t).view.emb (ix2 e k)) = _
  have h : ((cfg0.win 12).blk t).view.emb (ix2 e k) = ix2 e k := by
    obtain ⟨e0, e1⟩ := index12 t
    refine funext fun (a : Fin 2) => Fin.ext ?_
    match a with
    | ⟨0, _⟩ => show win0_12.index t (0 : Fin 2) * 512 + 1 * e.val = e.val; omega
    | ⟨1, _⟩ => show win0_12.index t (1 : Fin 2) * 1024 + 1 * k.val = k.val; omega
  rw [h, entry12]
  exact (slice2_axis0_apply 0 (asMatrix (wIn m c)) _ e k ⟨e.val, by omega⟩ (Nat.zero_add _).symm).trans (shapeCast_1ab_ab_apply (wIn m c) _ _ k)

theorem block13 (c : Dev nD) (t : Fin cfg0.N) (e : Fin 512) (k : Fin 1024) : iblk m c 13 t (ix2 e k) = wIn m c (ix3 0 ⟨512 + e.val, by omega⟩ k) := by
  show V m c main_v28 (((cfg0.win 13).blk t).view.emb (ix2 e k)) = _
  have h : ((cfg0.win 13).blk t).view.emb (ix2 e k) = ix2 e k := by
    obtain ⟨e0, e1⟩ := index13 t
    refine funext fun (a : Fin 2) => Fin.ext ?_
    match a with
    | ⟨0, _⟩ => show win0_13.index t (0 : Fin 2) * 512 + 1 * e.val = e.val; omega
    | ⟨1, _⟩ => show win0_13.index t (1 : Fin 2) * 1024 + 1 * k.val = k.val; omega
  rw [h, entry13]
  exact (slice2_axis0_apply 512 (asMatrix (wIn m c)) _ e k ⟨512 + e.val, by omega⟩ rfl).trans (shapeCast_1ab_ab_apply (wIn m c) _ _ k)

theorem block14 (c : Dev nD) (t : Fin cfg0.N) (k : Fin 1024) : iblk m c 14 t (ix2 0 k) = lnGIn m c (ix2 0 k) := by
  show V m c main_v30 (((cfg0.win 14).blk t).view.emb (ix2 0 k)) = _
  have h : ((cfg0.win 14).blk t).view.emb (ix2 0 k) = ix2 0 k := by
    obtain ⟨e0, e1⟩ := index14 t
    refine funext fun (a : Fin 2) => Fin.ext ?_
    match a with
    | ⟨0, _⟩ => show win0_14.index t (0 : Fin 2) * 1 + 1 * 0 = 0; omega
    | ⟨1, _⟩ => show win0_14.index t (1 : Fin 2) * 1024 + 1 * k.val = k.val; omega
  rw [h, entry14]
  exact (shapeCast_a_1a_apply _ _ 0 k).trans (shapeCast_1a_a_apply (lnGIn m c) _ k)

theorem block15 (c : Dev nD) (t : Fin cfg0.N) (k : Fin 1024) : iblk m c 15 t (ix2 0 k) = lnBIn m c (ix2 0 k) := by
  show V m c main_v32 (((cfg0.win 15).blk t).view.emb (ix2 0 k)) = _
  have h : ((cfg0.win 15).blk t).view.emb (ix2 0 k) = ix2 0 k := by
    obtain ⟨e0, e1⟩ := index15 t
    refine funext fun (a : Fin 2) => Fin.ext ?_
    match a with
    | ⟨0, _⟩ => show win0_15.index t (0 : Fin 2) * 1 + 1 * 0 = 0; omega
    | ⟨1, _⟩ => show win0_15.index t (1 : Fin 2) * 1024 + 1 * k.val = k.val; omega
  rw [h, entry15]
  exact (shapeCast_a_1a_apply _ _ 0 k).trans (shapeCast_1a_a_apply (lnBIn m c) _ k)

/-- A tile's row and the blocks' parameters are the arguments', where the blocks hold the arguments' entries. -/
theorem row_eq {x0 : FVec Ideal S512x1024 .f32} {x1 : FVec Ideal S512x1920 .f32} {x2 : FVec Ideal S512x512 .f32} {x3 : FVec Ideal S512x512 .bf16}
    {x : FVec Ideal S32768x1024 .f32} {p : FVec Ideal S32768x1696 .f32} {y f : FVec Ideal S32768x512 .f32} {q : Fin 512} {r : Fin 32768}
    (h0 : ∀ k, x0 (ix2 q k) = x (ix2 r k)) (h1 : ∀ k, x1 (ix2 q k) = sideBySide p (ix2 r k)) (h2 : ∀ k, x2 (ix2 q k) = y (ix2 r k))
    (h3 : ∀ k, x3 (ix2 q k) = f (ix2 r k)) : blockRow x0 x1 x2 x3 q = rowAt x p y f r := by
  refine Row.ext (funext h0) (funext fun k => ?_) (funext fun k => ?_) (funext fun k => ?_) (funext fun e => ?_) (funext fun e => ?_) (funext h2) (funext h3)
  · exact (h1 _).trans (side_main p r ⟨k.val, by omega⟩)
  · exact (h1 _).trans (side_main p r ⟨512 + k.val, by omega⟩)
  · exact (h1 _).trans (side_main p r ⟨1024 + k.val, by omega⟩)
  · exact (h1 _).trans (side_rate p r e)
  · exact (h1 _).trans (side_gate p r e)
theorem params_eq {x4 : FVec Ideal S1x512 .f32} {x5 x6 : FVec Ideal S128x512 .bf16} {x7 x8 x9 x10 : FVec Ideal S1x512 .f32}
    {x12 x13 : FVec Ideal S512x1024 .bf16} {x14 x15 : FVec Ideal S1x1024 .f32}
    {a0 : FVec Ideal S1x512 .f32} {aUp : FVec Ideal S1x32x512 .f32} {gUp : FVec Ideal S1x96x512 .f32} {kA rK gnG gnB : FVec Ideal S1x8x64 .f32}
    {w : FVec Ideal S1x1024x1024 .f32} {lnG lnB : FVec Ideal S1x1024 .f32}
    (h4 : ∀ k, x4 (ix2 0 k) = a0 (ix2 0 k)) (h5 : ∀ e k, x5 (ix2 e k) = rateUp aUp (ix2 e k)) (h6 : ∀ e k, x6 (ix2 e k) = gateUp gUp (ix2 e k))
    (h7 : ∀ k, x7 (ix2 0 k) = kA (ix3 0 (headOf k) (laneOf k))) (h8 : ∀ k, x8 (ix2 0 k) = rK (ix3 0 (headOf k) (laneOf k)))
    (h9 : ∀ k, x9 (ix2 0 k) = gnG (ix3 0 (headOf k) (laneOf k))) (h10 : ∀ k, x10 (ix2 0 k) = gnB (ix3 0 (headOf k) (laneOf k)))
    (h12 : ∀ (e : Fin 512) k, x12 (ix2 e k) = w (ix3 0 ⟨e.val, by omega⟩ k)) (h13 : ∀ (e : Fin 512) k, x13 (ix2 e k) = w (ix3 0 ⟨512 + e.val, by omega⟩ k))
    (h14 : ∀ k, x14 (ix2 0 k) = lnG (ix2 0 k)) (h15 : ∀ k, x15 (ix2 0 k) = lnB (ix2 0 k)) :
    blockParams x4 x5 x6 x7 x8 x9 x10 x12 x13 x14 x15 = paramsOf a0 aUp gUp kA rK gnG gnB w lnG lnB :=
  Params.ext (funext h4) (funext fun e => funext fun k => (h5 _ k).trans (rateUp_apply aUp e k))
    (funext fun e => funext fun k => (h6 _ k).trans (gateUp_apply gUp e k)) (funext h7) (funext h8) (funext h9) (funext h10)
    (funext fun e => funext (h12 e)) (funext fun e => funext (h13 e)) (funext h14) (funext h15)

/-- What point `t` leaves in the result's block. -/
theorem out_apply (c : Dev nD) (t : Fin cfg0.N) (q : Fin 512) (j : Fin 1024) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q j)
      = out (xIn m c) (pIn m c) (yIn m c) (fIn m c) (a0In m c) (aUpIn m c) (gUpIn m c) (kAIn m c) (rKIn m c) (gnGIn m c) (gnBIn m c) (wIn m c) (lnGIn m c) (lnBIn m c) (ix2 (rowOf t q) j) := by
  refine (out_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) q j (fun a b => block11 m c t a b)
    (fun e k he => (block5 m c t e k).trans (rateUp_zero (aUpIn m c) e k he)) (fun e k he => (block6 m c t e k).trans (gateUp_zero (gUpIn m c) e k he))).trans ?_
  exact congrArg₂ (fun R P => result R P j) (row_eq (block0 m c t q) (block1 m c t q) (block2 m c t q) (block3 m c t q))
      (params_eq (block4 m c t) (block5 m c t) (block6 m c t) (block7 m c t) (block8 m c t) (block9 m c t) (block10 m c t) (block12 m c t) (block13 m c t)
        (block14 m c t) (block15 m c t))

/-- The result's array after the run. -/
theorem final (c : Dev nD) : (dats m 0 c).arrAt 16 cfg0.N
    = out (xIn m c) (pIn m c) (yIn m c) (fIn m c) (a0In m c) (aUpIn m c) (gUpIn m c) (kAIn m c) (rKIn m c) (gnGIn m c) (gnBIn m c) (wIn m c) (lnGIn m c) (lnBIn m c) := by
  refine Pipeline.Dat.arrAt_eq_of_emb (dats m 0 c) 16 _ (fun t hf y => ?_) fun i => ?_
  · obtain ⟨q, j, rfl⟩ := exists_ix2 (a := 512) (b := 1024) y
    show (dats m 0 c).after 16 t (ix2 q j) = _
    rw [after0_16]
    refine (out_apply m c t q j).trans ?_
    refine congrArg (out (xIn m c) (pIn m c) (yIn m c) (fIn m c) (a0In m c) (aUpIn m c) (gUpIn m c) (kAIn m c) (rKIn m c) (gnGIn m c) (gnBIn m c) (wIn m c) (lnGIn m c) (lnBIn m c)) (funext fun (a : Fin 2) => Fin.ext ?_)
    obtain ⟨e0, e1⟩ := index16 t
    match a with
    | ⟨0, _⟩ => show 512 * t.val + q.val = win0_16.index t (0 : Fin 2) * 512 + 1 * q.val; omega
    | ⟨1, _⟩ => show j.val = win0_16.index t (1 : Fin 2) * 1024 + 1 * j.val; omega
  · obtain ⟨r, j, rfl⟩ := exists_ix2 (a := 32768) (b := 1024) i
    have hr := r.isLt
    have hj := j.isLt
    have ht : r.val / 512 < cfg0.N := Nat.lt_of_lt_of_eq (by omega : _ < 64) points.symm
    refine ⟨⟨r.val / 512, ht⟩, flush0_16 _, ?_⟩
    obtain ⟨e0, e1⟩ := index16 ⟨r.val / 512, ht⟩
    refine ((cfg0.win 16).emb_mem_blk_iff ⟨r.val / 512, ht⟩ (ix2 r j)).mpr fun (a : Fin 2) => ?_
    match a with
    | ⟨0, _⟩ =>
      show win0_16.index ⟨r.val / 512, ht⟩ (0 : Fin 2) * 512 ≤ r.val ∧ r.val < win0_16.index ⟨r.val / 512, ht⟩ (0 : Fin 2) * 512 + 512
      rw [e0]
      show r.val / 512 * 512 ≤ r.val ∧ r.val < r.val / 512 * 512 + 512
      omega
    | ⟨1, _⟩ =>
      show win0_16.index ⟨r.val / 512, ht⟩ (1 : Fin 2) * 1024 ≤ j.val ∧ j.val < win0_16.index ⟨r.val / 512, ht⟩ (1 : Fin 2) * 1024 + 1024
      rw [e1]
      omega

end Cert.Proof.Mix

end
-- ==== Proof.Mix.Reference.lean ====
/- The reference's mixing step at an entry: the same function of the arguments as the call's. -/
module

public import proofs.«01_k».proof.Proof.Gen.Reference5Ideal.Run
public import proofs.«01_k».proof.Proof.Mix.Value

@[expose] public section

set_option maxRecDepth 16384

noncomputable section

namespace Cert.Proof.MixReference

open Cert.Reference5Ideal Cert.Reference5Ideal.Gen
open Idealize.ShloMosaic hiding ix1 ix2 ix3
open Idealize.ShloMosaic.TcCoe Idealize.ShloMosaic.ValueIdx Cert.Proof.Rows Cert.Proof.Mix

/-- The rows' features, by heads. -/
abbrev byHeads (a : FVec Ideal S32768x512 .f32) : FVec Ideal S32768x8x64 .f32 := shapeCast S32768x8x64 a shapeCasts_S32768x512_S32768x8x64

theorem byHeads_apply (a : FVec Ideal S32768x512 .f32) (r : Fin 32768) (c : Fin 512) :
    byHeads a (ix3 r (headOf c) (laneOf c)) = a (ix2 r c) :=
  shapeCast_apply a _ _ (ix2 r c) (by
    rw [Shape.rowMajor_val_two, Shape.rowMajor_val_three]
    show r.val * 512 + c.val = (r.val * 8 + c.val / 64) * 64 + c.val % 64
    omega)
theorem flat_apply (a : FVec Ideal S32768x8x64 .f32) (r : Fin 32768) (c : Fin 512) :
    shapeCast S32768x512 a shapeCasts_S32768x8x64_S32768x512 (ix2 r c) = a (ix3 r (headOf c) (laneOf c)) :=
  shapeCast_apply a _ _ (ix3 r (headOf c) (laneOf c)) (by
    rw [Shape.rowMajor_val_two, Shape.rowMajor_val_three]
    show (r.val * 8 + c.val / 64) * 64 + c.val % 64 = r.val * 512 + c.val
    omega)

/-- What is known at every feature is known at every lane. -/
theorem at_lane {a : FVec Ideal S32768x8x64 .f32} {f : Fin 512 → Ideal .f32} {r : Fin 32768} (h : ∀ c, a (ix3 r (headOf c) (laneOf c)) = f c)
    (d : Fin 8) (e : Fin 64) : a (ix3 r d e) = f (feat d e) := by
  have := h (feat d e)
  rwa [headOf_feat, laneOf_feat] at this

/-- A parameter of heads by lanes, for every row. -/
abbrev headRow (a : FVec Ideal S1x8x64 .f32) : FVec Ideal S32768x8x64 .f32 :=
  broadcastInDim S32768x8x64 ![0, 1, 2] bcast_S1x8x64_S32768x8x64_0_1_2 (broadcastInDim S1x8x64 ![1, 2] bcast_S8x64_S1x8x64_1_2
    (shapeCast S8x64 a shapeCasts_S1x8x64_S8x64))

theorem headRow_apply (a : FVec Ideal S1x8x64 .f32) (r : Fin 32768) (d : Fin 8) (e : Fin 64) : headRow a (ix3 r d e) = a (ix3 0 d e) := by
  refine (broadcastInDim_apply _ _ _ _ (ix3 (0 : Fin 1) d e) fun ax => ?_).trans ((broadcastInDim_apply _ _ _ _ (ix2 d e) fun ax => ?_).trans
    (shapeCast_1ab_ab_apply a _ d e))
  · match ax with
    | ⟨0, _⟩ => rfl
    | ⟨1, _⟩ => rfl
    | ⟨2, _⟩ => rfl
  · match ax with
    | ⟨0, _⟩ => rfl
    | ⟨1, _⟩ => rfl

/-- Every head's sum, and one number of each head at every lane. -/
abbrev headSum (v : FVec Ideal S32768x8x64 .f32) : FVec Ideal S32768x8x1 .f32 :=
  broadcastInDim S32768x8x1 ![0, 1] bcast_S32768x8_S32768x8x1_0_1
    (Host.reduceAdd v (constant S_ .f32 0x00000000#32) reducesTo_S32768x8x64_S32768x8_d2 h_S_)
abbrev lanes (v : FVec Ideal S32768x8x1 .f32) : FVec Ideal S32768x8x64 .f32 :=
  broadcastInDim S32768x8x64 ![0, 1, 2] bcast_S32768x8x1_S32768x8x64_0_1_2 v

theorem headSum_apply (v : FVec Ideal S32768x8x64 .f32) (r : Fin 32768) (d : Fin 8) : headSum v (ix3 r d 0) = ∑ e : Fin 64, v (ix3 r d e) := by
  refine (broadcastInDim_apply _ _ _ _ (ix2 r d) fun ax => ?_).trans ?_
  · match ax with
    | ⟨0, _⟩ => rfl
    | ⟨1, _⟩ => rfl
  · rw [Host.reduceAdd_apply]
    refine (Ideal.hostReduceAdd_r3_a2 reducesTo_S32768x8x64_S32768x8_d2 v _ (ix2 r d)).trans ?_
    refine (congrArg (fun a : Ideal .f32 => a + _) Ideal.ofBits_zero_f32).trans ((zero_add _).trans
      (Finset.sum_congr rfl fun e _ => congrArg v (ix3_eq_valueIdx r d e)))
theorem lanes_apply (v : FVec Ideal S32768x8x1 .f32) (r : Fin 32768) (d : Fin 8) (e : Fin 64) : lanes v (ix3 r d e) = v (ix3 r d 0) := by
  refine broadcastInDim_apply _ _ _ _ (ix3 r d (0 : Fin 1)) fun ax => ?_
  match ax with
  | ⟨0, _⟩ => rfl
  | ⟨1, _⟩ => rfl
  | ⟨2, _⟩ => rfl

/-- Every head's mean, and the features less their head's mean. -/
abbrev headMean (v : FVec Ideal S32768x8x64 .f32) : FVec Ideal S32768x8x1 .f32 :=
  Host.divf (headSum v) (broadcastInDim S32768x8x1 ![] bcast_S_S32768x8x1 (constant S_ .f32 0x42800000#32))
abbrev centred (v : FVec Ideal S32768x8x64 .f32) : FVec Ideal S32768x8x64 .f32 := subf v (lanes (headMean v))

theorem headMean_apply (v : FVec Ideal S32768x8x64 .f32) (f : Fin 512 → Ideal .f32) (r : Fin 32768) (h : ∀ c, v (ix3 r (headOf c) (laneOf c)) = f c)
    (c : Fin 512) : headMean v (ix3 r (headOf c) 0) = groupMean f c := by
  have hw : broadcastInDim S32768x8x1 ![] bcast_S_S32768x8x1 (constant (F := Ideal) S_ .f32 0x42800000#32) (ix3 r (headOf c) 0) = widthI := Routing.bc0 _ _ _
  exact congrArg₂ (fun a b : Ideal .f32 => Ideal.div a b) ((headSum_apply v r _).trans (Finset.sum_congr rfl fun e _ => at_lane h _ e)) hw
theorem centred_apply (v : FVec Ideal S32768x8x64 .f32) (f : Fin 512 → Ideal .f32) (r : Fin 32768) (h : ∀ c, v (ix3 r (headOf c) (laneOf c)) = f c)
    (c : Fin 512) : centred v (ix3 r (headOf c) (laneOf c)) = f c - groupMean f c :=
  congrArg₂ (fun a b : Ideal .f32 => a - b) (h c) ((lanes_apply _ r _ _).trans (headMean_apply v f r h c))

/-- The group norm. -/
abbrev normed (y : FVec Ideal S32768x512 .f32) (g b : FVec Ideal S1x8x64 .f32) : FVec Ideal S32768x8x64 .f32 :=
  addf (mulf (mulf (centred (byHeads y)) (lanes (Host.rsqrt (addf (headMean (mulf (centred (byHeads y)) (centred (byHeads y))))
    (broadcastInDim S32768x8x1 ![] bcast_S_S32768x8x1 (constant S_ .f32 0x3A27C5AC#32)))))) (headRow g)) (headRow b)

theorem normed_apply (y : FVec Ideal S32768x512 .f32) (g b : FVec Ideal S1x8x64 .f32) (r : Fin 32768) (c : Fin 512) :
    normed y g b (ix3 r (headOf c) (laneOf c))
      = groupNorm (fun k => y (ix2 r k)) (g (ix3 0 (headOf c) (laneOf c))) (b (ix3 0 (headOf c) (laneOf c))) c := by
  have hc := centred_apply (byHeads y) (fun k => y (ix2 r k)) r (byHeads_apply y r)
  have hv := headMean_apply (mulf (centred (byHeads y)) (centred (byHeads y))) _ r (fun k => congrArg₂ (fun a b : Ideal .f32 => a * b) (hc k) (hc k)) c
  have he : broadcastInDim S32768x8x1 ![] bcast_S_S32768x8x1 (constant (F := Ideal) S_ .f32 0x3A27C5AC#32) (ix3 r (headOf c) 0) = groupEpsI := Routing.bc0 _ _ _
  have hr := (lanes_apply (Host.rsqrt (addf (headMean (mulf (centred (byHeads y)) (centred (byHeads y))))
    (broadcastInDim S32768x8x1 ![] bcast_S_S32768x8x1 (constant S_ .f32 0x3A27C5AC#32)))) r (headOf c) (laneOf c)).trans
    (congrArg₂ (fun a e : Ideal .f32 => (FloatOps.hostUnary .rsqrt (a + e) : Ideal .f32)) hv he)
  exact congrArg₂ (fun a b : Ideal .f32 => a + b) (congrArg₂ (fun a b : Ideal .f32 => a * b)
    (congrArg₂ (fun a b : Ideal .f32 => a * b) (hc c) hr) (headRow_apply g r _ _)) (headRow_apply b r _ _)

/-- The rate. -/
abbrev rate (p : FVec Ideal S32768x1696 .f32) (a0 : FVec Ideal S1x512 .f32) (aUp : FVec Ideal S1x32x512 .f32) : FVec Ideal S32768x512 .f32 :=
  Host.divf (broadcastInDim S32768x512 ![] bcast_S_S32768x512 (constant S_ .f32 0x3F800000#32))
    (addf (broadcastInDim S32768x512 ![] bcast_S_S32768x512 (constant S_ .f32 0x3F800000#32)) (Host.exp (Host.negf (addf
      (broadcastInDim S32768x512 ![0, 1] bcast_S1x512_S32768x512_0_1 (broadcastInDim S1x512 ![1] bcast_S512_S1x512_1 (shapeCast S512 a0 shapeCasts_S1x512_S512)))
      (Host.dotGeneral dot_S32768x32_S32x512_S32768x512_1_0_0_1_n_n none (extractStridedSlice S32768x32 ![0, 1568] p slices_S32768x1696_S32768x32_0_1568)
        (shapeCast S32x512 aUp shapeCasts_S1x32x512_S32x512))))))

theorem rate_apply (p : FVec Ideal S32768x1696 .f32) (a0 : FVec Ideal S1x512 .f32) (aUp : FVec Ideal S1x32x512 .f32) (r : Fin 32768) (c : Fin 512) :
    rate p a0 aUp (ix2 r c) = sigmoid (a0 (ix2 0 c) + ∑ e : Fin 32, p (ix2 r ⟨1568 + e.val, by omega⟩) * aUp (ix3 0 e c)) := by
  have ho : broadcastInDim S32768x512 ![] bcast_S_S32768x512 (constant (F := Ideal) S_ .f32 0x3F800000#32) (ix2 r c) = oneI := Routing.bc0 _ _ _
  have ha := (Routing.bcCols (n := 32768) (m := 512) bcast_S512_S1x512_1 bcast_S1x512_S32768x512_0_1 (shapeCast S512 a0 shapeCasts_S1x512_S512) r c).trans
    (shapeCast_1a_a_apply a0 _ c)
  have hd := (StackMember.dotGeneral_plain_apply (m := 32768) (k := 32) (n := 512) none
    (extractStridedSlice S32768x32 ![0, 1568] p slices_S32768x1696_S32768x32_0_1568) (shapeCast S32x512 aUp shapeCasts_S1x32x512_S32x512) r c).trans
    (Finset.sum_congr rfl fun e _ => congrArg₂ (fun a b : Ideal .f32 => a * b) (slice2_axis1_apply 1568 p _ r e ⟨1568 + e.val, by omega⟩ rfl)
      (shapeCast_1ab_ab_apply aUp _ e c))
  exact congrArg₂ (fun o a : Ideal .f32 => Ideal.div o (o + FloatOps.hostUnary .exp (FloatOps.hostNegf a))) ho
    (congrArg₂ (fun a b : Ideal .f32 => a + b) ha hd)

/-- The key, by heads. -/
abbrev keys (p : FVec Ideal S32768x1696 .f32) (a0 : FVec Ideal S1x512 .f32) (aUp : FVec Ideal S1x32x512 .f32) (kA : FVec Ideal S1x8x64 .f32) :
    FVec Ideal S32768x8x64 .f32 :=
  mulf (byHeads (extractStridedSlice S32768x512 ![0, 512] p slices_S32768x1696_S32768x512_0_512))
    (addf (broadcastInDim S32768x8x64 ![] bcast_S_S32768x8x64 (constant S_ .f32 0x3F800000#32))
      (mulf (subf (byHeads (rate p a0 aUp)) (broadcastInDim S32768x8x64 ![] bcast_S_S32768x8x64 (constant S_ .f32 0x3F800000#32))) (headRow kA)))

/-- The gate. -/
abbrev gates (p : FVec Ideal S32768x1696 .f32) (gUp : FVec Ideal S1x96x512 .f32) : FVec Ideal S32768x512 .f32 :=
  Host.dotGeneral dot_S32768x96_S96x512_S32768x512_1_0_0_1_n_n none
    (Host.divf (broadcastInDim S32768x96 ![] bcast_S_S32768x96 (constant S_ .f32 0x3F800000#32))
      (addf (broadcastInDim S32768x96 ![] bcast_S_S32768x96 (constant S_ .f32 0x3F800000#32))
        (Host.exp (Host.negf (extractStridedSlice S32768x96 ![0, 1600] p slices_S32768x1696_S32768x96_0_1600)))))
    (shapeCast S96x512 gUp shapeCasts_S1x96x512_S96x512)

section Whole
variable (x : FVec Ideal S32768x1024 .f32) (p : FVec Ideal S32768x1696 .f32) (y f : FVec Ideal S32768x512 .f32) (a0 : FVec Ideal S1x512 .f32)
  (aUp : FVec Ideal S1x32x512 .f32) (gUp : FVec Ideal S1x96x512 .f32) (kA rK gnG gnB : FVec Ideal S1x8x64 .f32) (w : FVec Ideal S1x1024x1024 .f32)
  (lnG lnB : FVec Ideal S1x1024 .f32)

theorem keys_apply (r : Fin 32768) (c : Fin 512) :
    keys p a0 aUp kA (ix3 r (headOf c) (laneOf c)) = key (rowAt x p y f r) (paramsOf a0 aUp gUp kA rK gnG gnB w lnG lnB) c := by
  have ho : broadcastInDim S32768x8x64 ![] bcast_S_S32768x8x64 (constant (F := Ideal) S_ .f32 0x3F800000#32) (ix3 r (headOf c) (laneOf c)) = oneI :=
    Routing.bc0 _ _ _
  have hk := (byHeads_apply (extractStridedSlice S32768x512 ![0, 512] p slices_S32768x1696_S32768x512_0_512) r c).trans
    (slice2_axis1_apply 512 p _ r c ⟨512 + c.val, by omega⟩ rfl)
  have ha := (byHeads_apply (rate p a0 aUp) r c).trans (rate_apply p a0 aUp r c)
  exact congrArg₂ (fun a b : Ideal .f32 => a * b) hk (congrArg₂ (fun o t : Ideal .f32 => o + t) ho
    (congrArg₂ (fun a b : Ideal .f32 => a * b) (congrArg₂ (fun a o : Ideal .f32 => a - o) ha ho) (headRow_apply kA r _ _)))

theorem gates_apply (r : Fin 32768) (c : Fin 512) :
    gates p gUp (ix2 r c) = gate (rowAt x p y f r) (paramsOf a0 aUp gUp kA rK gnG gnB w lnG lnB) c := by
  refine (StackMember.dotGeneral_plain_apply (m := 32768) (k := 96) (n := 512) none _ _ r c).trans (Finset.sum_congr rfl fun e _ => ?_)
  have ho : broadcastInDim S32768x96 ![] bcast_S_S32768x96 (constant (F := Ideal) S_ .f32 0x3F800000#32) (ix2 r e) = oneI := Routing.bc0 _ _ _
  exact congrArg₂ (fun a b : Ideal .f32 => a * b) (congrArg₂ (fun o a : Ideal .f32 => Ideal.div o (o + FloatOps.hostUnary .exp (FloatOps.hostNegf a))) ho
    (slice2_axis1_apply 1600 p _ r e ⟨1600 + e.val, by omega⟩ rfl)) (shapeCast_1ab_ab_apply gUp _ e c)

/-- The bonus times the value. -/
abbrev bonuses : FVec Ideal S32768x8x64 .f32 :=
  mulf (lanes (headSum (mulf (mulf (byHeads (extractStridedSlice S32768x512 ![0, 0] p slices_S32768x1696_S32768x512_0_0)) (keys p a0 aUp kA)) (headRow rK))))
    (byHeads (extractStridedSlice S32768x512 ![0, 1024] p slices_S32768x1696_S32768x512_0_1024))

theorem bonuses_apply (r : Fin 32768) (c : Fin 512) : bonuses p a0 aUp kA rK (ix3 r (headOf c) (laneOf c))
    = bonus (rowAt x p y f r) (paramsOf a0 aUp gUp kA rK gnG gnB w lnG lnB) c * p (ix2 r ⟨1024 + c.val, by omega⟩) := by
  have hv := (byHeads_apply (extractStridedSlice S32768x512 ![0, 1024] p slices_S32768x1696_S32768x512_0_1024) r c).trans
    (slice2_axis1_apply 1024 p _ r c ⟨1024 + c.val, by omega⟩ rfl)
  have hs := fun k : Fin 512 => congrArg₂ (fun a b : Ideal .f32 => a * b) (congrArg₂ (fun a b : Ideal .f32 => a * b)
    ((byHeads_apply (extractStridedSlice S32768x512 ![0, 0] p slices_S32768x1696_S32768x512_0_0) r k).trans
      (slice2_axis1_apply 0 p _ r k ⟨k.val, by omega⟩ (Nat.zero_add _).symm)) (keys_apply x p y f a0 aUp gUp kA rK gnG gnB w lnG lnB r k))
    (headRow_apply rK r (headOf k) (laneOf k))
  refine congrArg₂ (fun a b : Ideal .f32 => a * b) ((lanes_apply _ r _ _).trans ((headSum_apply _ r _).trans (Finset.sum_congr rfl fun e _ => ?_))) hv
  exact at_lane (a := mulf (mulf (byHeads (extractStridedSlice S32768x512 ![0, 0] p slices_S32768x1696_S32768x512_0_0)) (keys p a0 aUp kA)) (headRow rK))
    (f := fun k => p (ix2 r ⟨k.val, by omega⟩) * key (rowAt x p y f r) (paramsOf a0 aUp gUp kA rK gnG gnB w lnG lnB) k * rK (ix3 0 (headOf k) (laneOf k)))
    hs (headOf c) e

/-- The gated result of the scan, and it beside the attention's. -/
abbrev scanned : FVec Ideal S32768x512 .f32 :=
  mulf (shapeCast S32768x512 (addf (normed y gnG gnB) (bonuses p a0 aUp kA rK)) shapeCasts_S32768x8x64_S32768x512) (gates p gUp)
abbrev mixed : FVec Ideal S32768x1024 .f32 :=
  concatenate S32768x1024 1 [⟨S32768x512, scanned p y a0 aUp gUp kA rK gnG gnB⟩, ⟨S32768x512, f⟩] concatenates_S32768x512_S32768x512_S32768x1024_d1

theorem scanned_apply (r : Fin 32768) (c : Fin 512) :
    scanned p y a0 aUp gUp kA rK gnG gnB (ix2 r c) = gated (rowAt x p y f r) (paramsOf a0 aUp gUp kA rK gnG gnB w lnG lnB) c :=
  congrArg₂ (fun a b : Ideal .f32 => a * b) ((flat_apply _ r c).trans (congrArg₂ (fun a b : Ideal .f32 => a + b) (normed_apply y gnG gnB r c)
    (bonuses_apply x p y f a0 aUp gUp kA rK gnG gnB w lnG lnB r c))) (gates_apply x p y f a0 aUp gUp kA rK gnG gnB w lnG lnB r c)

theorem mixed_left (r : Fin 32768) (c : Fin 512) : mixed p y f a0 aUp gUp kA rK gnG gnB (ix2 r ⟨c.val, by omega⟩)
    = gated (rowAt x p y f r) (paramsOf a0 aUp gUp kA rK gnG gnB w lnG lnB) c := by
  refine (concatenate_pair_apply_left (t := S32768x1024) (1 : Fin 2) (scanned p y a0 aUp gUp kA rK gnG gnB) f
    concatenates_S32768x512_S32768x512_S32768x1024_d1 (ix2 r ⟨c.val, by omega⟩) rfl (ix2 r c) (fun b => ?_)).trans
    (scanned_apply x p y f a0 aUp gUp kA rK gnG gnB w lnG lnB r c)
  match b with
  | ⟨0, _⟩ => rfl
  | ⟨1, _⟩ => rfl
theorem mixed_right (r : Fin 32768) (c : Fin 512) : mixed p y f a0 aUp gUp kA rK gnG gnB (ix2 r ⟨512 + c.val, by omega⟩) = f (ix2 r c) := by
  refine concatenate_pair_apply_right (t := S32768x1024) (1 : Fin 2) (scanned p y a0 aUp gUp kA rK gnG gnB) f
    concatenates_S32768x512_S32768x512_S32768x1024_d1 (ix2 r ⟨512 + c.val, by omega⟩) rfl rfl (ix2 r c) (fun b hb => ?_) ?_
  · match b with
    | ⟨0, _⟩ => rfl
    | ⟨1, _⟩ => exact absurd rfl hb
  · show c.val + 512 = 512 + c.val
    omega

/-- The scaled residual and the projection. -/
abbrev sums : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none (mixed p y f a0 aUp gUp kA rK gnG gnB)
      (shapeCast S1024x1024 w shapeCasts_S1x1024x1024_S1024x1024))

theorem sums_apply (r : Fin 32768) (j : Fin 1024) :
    sums x p y f a0 aUp gUp kA rK gnG gnB w (ix2 r j) = joined (rowAt x p y f r) (paramsOf a0 aUp gUp kA rK gnG gnB w lnG lnB) j := by
  have ha : broadcastInDim S32768x1024 ![] bcast_S_S32768x1024 (constant (F := Ideal) S_ .f32 0x3FB504F3#32) (ix2 r j) = alphaI := Routing.bc0 _ _ _
  refine congrArg₂ (fun a b : Ideal .f32 => a * x (ix2 r j) + b) ha ?_
  refine (StackMember.dotGeneral_plain_apply (m := 32768) (k := 1024) (n := 1024) none _ _ r j).trans ((Fin.sum_univ_add (a := 512) (b := 512) _).trans ?_)
  exact congrArg₂ (fun a b : Ideal .f32 => a + b)
    (Finset.sum_congr rfl fun c _ => congrArg₂ (fun a b : Ideal .f32 => a * b) (mixed_left x p y f a0 aUp gUp kA rK gnG gnB w lnG lnB r c)
      (shapeCast_1ab_ab_apply w _ _ j))
    (Finset.sum_congr rfl fun c _ => congrArg₂ (fun a b : Ideal .f32 => a * b) (mixed_right p y f a0 aUp gUp kA rK gnG gnB r c)
      (shapeCast_1ab_ab_apply w _ _ j))

end Whole

theorem result (m : (ℓ : Loc nD τ sig) → Buf (Elt Ideal) ℓ) (c : Dev nD) : Cert.Reference5Ideal.Value.res_main_v108 m c
    = Mix.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) := by
  funext i
  obtain ⟨r, j, rfl⟩ := exists_ix2 (a := 32768) (b := 1024) i
  refine (hostNorm_apply (M := 32768) reducesTo_S32768x1024_S32768_d1 h_S_ bcast_S32768_S32768x1_0 bcast_S_S32768x1 bcast_S32768x1_S32768x1024_0_1
    shapeCasts_S1x1024_S1024 bcast_S1024_S1x1024_1 bcast_S1x1024_S32768x1024_0_1
    (sums (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)))
    (m ((c : Thread nD τ).loc main_arg12)) (m ((c : Thread nD τ).loc main_arg13)) r j).trans ?_
  unfold Mix.out Mix.result
  exact congrArg (fun y => norm y _ _ j) (funext fun k => sums_apply _ _ _ _ _ _ _ _ _ _ _ _ (m ((c : Thread nD τ).loc main_arg12))
    (m ((c : Thread nD τ).loc main_arg13)) r k)

end Cert.Proof.MixReference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Expert.Value
public import proofs.«01_k».proof.Proof.Expert.Reference
public import proofs.«01_k».proof.Proof.ExpertWords.Tables
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Combine.Value
public import proofs.«01_k».proof.Proof.Combine.Reference
public import proofs.«01_k».proof.Proof.Dense.Value
public import proofs.«01_k».proof.Proof.Dense.Reference
public import proofs.«01_k».proof.Proof.Inproj.Value
public import proofs.«01_k».proof.Proof.Inproj.Reference
public import proofs.«01_k».proof.Proof.Glu.Value
public import proofs.«01_k».proof.Proof.Glu.Reference
public import proofs.«01_k».proof.Proof.Mix.Value
public import proofs.«01_k».proof.Proof.Mix.Reference
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init

@[expose] public section

noncomputable section

namespace Cert.Proof

open Idealize.ShloMosaic Idealize.SL.Sem

/-- The ideal program's frame: its run, read at the arguments and the counters. -/
theorem frame_ideal : Cert.quiescent_KernelIdeal := fun m ρ _ =>
  (θ_run Cert.KernelIdeal.defs _ _).mono (fun _ h => ⟨fun c => (h.1 c).2, h.2⟩) (Expert.run m ρ (Expert.tabsOk m))

/-- The program's frame. -/
theorem frame_kernel : Cert.quiescent_Kernel := fun m ρ _ =>
  (θ_run Cert.Kernel.defs _ _).mono (fun _ h => ⟨fun c => (h.1 c).2, h.2⟩) (ExpertWords.run m ρ (ExpertWords.tabsOk m))

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (ExpertReference.run m ρ)

/-- Both programs end at the same rows. -/
theorem algebraic : Cert.algebraic_KernelIdeal_ReferenceIdeal := by
  intro m ρ m' ρ' _ hagree
  refine ⟨fun c => Expert.kernelOut (Expert.rowsIn m c) (m ((c.tc : Thread Cert.KernelIdeal.nD Cert.KernelIdeal.τ).loc Cert.KernelIdeal.main_arg1))
      (Expert.gateIn m c) (Expert.upIn m c) (Expert.downIn m c),
    (θ_run Cert.KernelIdeal.defs _ _).mono (fun _ h c => ⟨(h.1 c).1.trans (Expert.final m _ c), (h.1 c).2⟩)
      (Expert.run m ρ (Expert.tabsOk m)),
    (θ_run Cert.ReferenceIdeal.defs _ _).mono (fun _ h c => ⟨(h c).1.trans ?_, (h c).2⟩) (ExpertReference.run m' ρ')⟩
  obtain ⟨h0, h1, h2, h3, h4⟩ := hagree c
  rw [h0, h1, h2, h3, h4]

/-- The combination's program's frame. -/
theorem frame_kernel2 : Cert.quiescent_Kernel2 := fun m ρ _ => Cert.Kernel2.Gen.frame m ρ

/-- The combination's ideal program's frame. -/
theorem frame_ideal2 : Cert.quiescent_Kernel2Ideal := fun m ρ _ => Cert.Kernel2Ideal.Gen.frame m ρ

/-- The combination's reference's frame. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The combination: both programs end at the same rows. -/
theorem algebraic2 : Cert.algebraic_Kernel2Ideal_Reference2Ideal := by
  intro m ρ m' ρ' _ hagree
  refine ⟨fun c => Combine.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun _ h c => ⟨(h c).1.trans (Combine.final m c), (h c).2⟩) (Cert.Kernel2Ideal.Value.run_blocks m ρ),
    (θ_run Cert.Reference2Ideal.defs _ _).mono (fun _ h c => ⟨((h c).1.trans (CombineReference.result m' c)).trans ?_, (h c).2⟩) (Cert.Reference2Ideal.Value.run m' ρ')⟩
  obtain ⟨h0, h1, h2, h3, h4⟩ := hagree c
  rw [h0, h1, h2, h3, h4]

/-- The dense feed-forward step's program's frame. -/
theorem frame_kernel3 : Cert.quiescent_Kernel3 := fun m ρ _ => Cert.Kernel3.Gen.frame m ρ

/-- The dense feed-forward step's ideal program's frame. -/
theorem frame_ideal3 : Cert.quiescent_Kernel3Ideal := fun m ρ _ => Cert.Kernel3Ideal.Gen.frame m ρ

/-- The dense feed-forward step's reference's frame. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The dense feed-forward step: both programs end at the same rows. -/
theorem algebraic3 : Cert.algebraic_Kernel3Ideal_Reference3Ideal := by
  intro m ρ m' ρ' _ hagree
  refine ⟨fun c => Dense.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    (θ_run Cert.Kernel3Ideal.defs _ _).mono (fun _ h c => ⟨(h c).1.trans (Dense.final m c), (h c).2⟩) (Cert.Kernel3Ideal.Value.run_blocks m ρ),
    (θ_run Cert.Reference3Ideal.defs _ _).mono (fun _ h c => ⟨((h c).1.trans (DenseReference.result m' c)).trans ?_, (h c).2⟩) (Cert.Reference3Ideal.Value.run m' ρ')⟩
  obtain ⟨h0, h1, h2, h3, h4, h5⟩ := hagree c
  rw [h0, h1, h2, h3, h4, h5]

/-- The gated linear unit's program's frame. -/
theorem frame_kernel4 : Cert.quiescent_Kernel4 := fun m ρ _ => Cert.Kernel4.Gen.frame m ρ

/-- The gated linear unit's ideal program's frame. -/
theorem frame_ideal4 : Cert.quiescent_Kernel4Ideal := fun m ρ _ => Cert.Kernel4Ideal.Gen.frame m ρ

/-- The gated linear unit's reference's frame. -/
theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The gated linear unit: both programs end at the same rows. -/
theorem algebraic4 : Cert.algebraic_Kernel4Ideal_Reference4Ideal := by
  intro m ρ m' ρ' _ hagree
  refine ⟨fun c => Glu.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun _ h c => ⟨(h c).1.trans (Glu.final m c), (h c).2⟩) (Cert.Kernel4Ideal.Value.run_blocks m ρ),
    (θ_run Cert.Reference4Ideal.defs _ _).mono (fun _ h c => ⟨((h c).1.trans (GluReference.result (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)))).trans ?_, (h c).2⟩) (Cert.Reference4Ideal.Value.run m' ρ')⟩
  obtain ⟨h0, h1, h2⟩ := hagree c
  rw [h0, h1, h2]

/-- The mixing step's program's frame. -/
theorem frame_kernel5 : Cert.quiescent_Kernel5 := fun m ρ _ => Cert.Kernel5.Gen.frame m ρ

/-- The mixing step's ideal program's frame. -/
theorem frame_ideal5 : Cert.quiescent_Kernel5Ideal := fun m ρ _ => Cert.Kernel5Ideal.Gen.frame m ρ

/-- The mixing step's reference's frame. -/
theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The mixing step: both programs end at the same rows. -/
theorem algebraic5 : Cert.algebraic_Kernel5Ideal_Reference5Ideal := by
  intro m ρ m' ρ' _ hagree
  refine ⟨fun c => Mix.out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)),
    (θ_run Cert.Kernel5Ideal.defs _ _).mono (fun _ h c => ⟨(h c).1.trans (Mix.final m c), (h c).2⟩) (Cert.Kernel5Ideal.Value.run_blocks m ρ),
    (θ_run Cert.Reference5Ideal.defs _ _).mono (fun _ h c => ⟨((h c).1.trans (MixReference.result m' c)).trans ?_, (h c).2⟩) (Cert.Reference5Ideal.Value.run m' ρ')⟩
  obtain ⟨h0, h1, h2, h3, h4, h5, h6, h7, h8, h9, h10, h11, h12, h13⟩ := hagree c
  rw [h0, h1, h2, h3, h4, h5, h6, h7, h8, h9, h10, h11, h12, h13]

/-- The input projection's program's frame. -/
theorem frame_kernel6 : Cert.quiescent_Kernel6 := fun m ρ _ => Cert.Kernel6.Gen.frame m ρ

/-- The input projection's ideal program's frame. -/
theorem frame_ideal6 : Cert.quiescent_Kernel6Ideal := fun m ρ _ => Cert.Kernel6Ideal.Gen.frame m ρ

/-- The input projection's reference's frame. -/
theorem frame_reference6 : Cert.quiescent_Reference6Ideal := fun m ρ _ =>
  (θ_run Cert.Reference6Ideal.defs _ _).mono (fun r h => ⟨fun c => (h c).2.2.2.2, sem_eq_zero_of_no_sems (by decide) r.2⟩) (Cert.Reference6Ideal.Value.run m ρ)

/-- The input projection: over the extended reals the call's four results are the reference's, for every input. -/
theorem algebraic6 : Cert.algebraic_Kernel6Ideal_Reference6Ideal := by
  intro m ρ m' ρ' _ hagree
  refine ⟨fun c => Inproj.result0 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Inproj.result1 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Inproj.result2 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Inproj.result3 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    (θ_run Cert.Kernel6Ideal.defs _ _).mono (fun _ h c => ⟨(h c).1.trans (Inproj.G7_eq m c), (h c).2.1.trans (Inproj.G8_eq m c), (h c).2.2.1.trans (Inproj.G9_eq m c),
      (h c).2.2.2.1.trans (Inproj.G10_eq m c), (h c).2.2.2.2⟩) (Cert.Kernel6Ideal.Value.run m ρ),
    (θ_run Cert.Reference6Ideal.defs _ _).mono (fun _ h c => ⟨((h c).1.trans (InprojReference.value0 m' c)).trans ?_,
      ((h c).2.1.trans (InprojReference.res1_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))).trans ?_,
      ((h c).2.2.1.trans (InprojReference.res2_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))).trans ?_,
      ((h c).2.2.2.1.trans (InprojReference.value3 m' c)).trans ?_, (h c).2.2.2.2⟩) (Cert.Reference6Ideal.Value.run m' ρ')⟩
  all_goals
    obtain ⟨h0, h1, h2, h3⟩ := hagree c
  · rw [h0, h1, h2]
  · rw [h0, h1]
  · rw [h0, h1]
  · rw [h0, h1, h3]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  frame_kernel, frame_ideal, frame_reference, frame_kernel2, frame_ideal2, frame_reference2, frame_kernel3, frame_ideal3, frame_reference3, frame_kernel4, frame_ideal4, frame_reference4, frame_kernel5, frame_ideal5, frame_reference5, frame_kernel6, frame_ideal6, frame_reference6,
  trivial, algebraic, trivial, algebraic2, trivial, algebraic3, trivial, algebraic4, trivial, algebraic5, trivial, algebraic6⟩

end Cert.Proof

end
